-- ==== Defs.lean ====
def Pre_Kernel (m : (ℓ : Loc Cert.Kernel.nD Cert.Kernel.τ Cert.Kernel.sig) → Buf (Elt Bits) ℓ) : Prop :=
  True

def Pre_KernelIdeal (m : (ℓ : Loc Cert.KernelIdeal.nD Cert.KernelIdeal.τ Cert.KernelIdeal.sig) → Buf (Elt Ideal) ℓ) : Prop :=
  True

def Pre_KernelIdeal_finite [hPre_finite : Cert.Pre_finite.Facts] (m : (ℓ : Loc Cert.KernelIdeal.nD Cert.KernelIdeal.τ Cert.KernelIdeal.sig) → Buf (Elt Ideal) ℓ) : Prop :=
  ∀ c : Dev Cert.KernelIdeal.nD,
    (Cert.Pre_finite.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1))) = (fun _ => 1#1)

def Pre_ReferenceIdeal (m : (ℓ : Loc Cert.ReferenceIdeal.nD Cert.ReferenceIdeal.τ Cert.ReferenceIdeal.sig) → Buf (Elt Ideal) ℓ) : Prop :=
  True

def Pre_ReferenceIdeal_finite [hPre_finite : Cert.Pre_finite.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1))) = (fun _ => 1#1)

def quiescent_Kernel [hKernel : Cert.Kernel.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => (∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1))
      ∧ r.2.sem = fun _ => 0)

def quiescent_KernelIdeal [hKernelIdeal : Cert.KernelIdeal.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1))
      ∧ r.2.sem = fun _ => 0)

def quiescent_KernelIdeal_pre_finite [hKernelIdeal : Cert.KernelIdeal.Facts] [hPre_finite : Cert.Pre_finite.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal_finite m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1))
      ∧ r.2.sem = fun _ => 0)

def quiescent_ReferenceIdeal [hReferenceIdeal : Cert.ReferenceIdeal.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1))
      ∧ r.2.sem = fun _ => 0)

def quiescent_ReferenceIdeal_pre_finite [hReferenceIdeal : Cert.ReferenceIdeal.Facts] [hPre_finite : Cert.Pre_finite.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal_finite m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1))
      ∧ r.2.sem = fun _ => 0)

def preserves_Kernel_KernelIdeal : Prop :=
  True

def algebraic_KernelIdeal_ReferenceIdeal_pre_finite [hKernelIdeal : Cert.KernelIdeal.Facts] [hReferenceIdeal : Cert.ReferenceIdeal.Facts] [hPre_finite : Cert.Pre_finite.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal_finite m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)) →
    ∃ (v0 : (c : Dev Cert.KernelIdeal.nD) → Buf (Elt Ideal) ((c.tc : Thread Cert.KernelIdeal.nD Cert.KernelIdeal.τ).loc Cert.KernelIdeal.main_v0_0)) (v1 : (c : Dev Cert.KernelIdeal.nD) → Buf (Elt Ideal) ((c.tc : Thread Cert.KernelIdeal.nD Cert.KernelIdeal.τ).loc Cert.KernelIdeal.main_v0_1)) (v2 : (c : Dev Cert.KernelIdeal.nD) → Buf (Elt Ideal) ((c.tc : Thread Cert.KernelIdeal.nD Cert.KernelIdeal.τ).loc Cert.KernelIdeal.main_v0_2)) (v3 : (c : Dev Cert.KernelIdeal.nD) → Buf (Elt Ideal) ((c.tc : Thread Cert.KernelIdeal.nD Cert.KernelIdeal.τ).loc Cert.KernelIdeal.main_v0_3)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v0_0) = v0 c
          ∧ r.2.mem ((c.tc : Thread Cert.KernelIdeal.nD Cert.KernelIdeal.τ).loc Cert.KernelIdeal.main_v0_1) = v1 c
          ∧ r.2.mem ((c.tc : Thread Cert.KernelIdeal.nD Cert.KernelIdeal.τ).loc Cert.KernelIdeal.main_v0_2) = v2 c
          ∧ r.2.mem ((c.tc : Thread Cert.KernelIdeal.nD Cert.KernelIdeal.τ).loc Cert.KernelIdeal.main_v0_3) = v3 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v193) = v0 c
          ∧ r.2.mem ((c.tc : Thread Cert.ReferenceIdeal.nD Cert.ReferenceIdeal.τ).loc Cert.ReferenceIdeal.main_v198) = v1 c
          ∧ r.2.mem ((c.tc : Thread Cert.ReferenceIdeal.nD Cert.ReferenceIdeal.τ).loc Cert.ReferenceIdeal.main_v188) = v2 c
          ∧ r.2.mem ((c.tc : Thread Cert.ReferenceIdeal.nD Cert.ReferenceIdeal.τ).loc Cert.ReferenceIdeal.main_v203) = v3 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1))

def Claim : Prop :=
  ∃ (hKernel : Cert.Kernel.Facts) (hKernelIdeal : Cert.KernelIdeal.Facts) (hReferenceIdeal : Cert.ReferenceIdeal.Facts) (hPre_finite : Cert.Pre_finite.Facts),
    quiescent_Kernel (hKernel := hKernel)
    ∧ quiescent_KernelIdeal (hKernelIdeal := hKernelIdeal)
    ∧ quiescent_KernelIdeal_pre_finite (hKernelIdeal := hKernelIdeal) (hPre_finite := hPre_finite)
    ∧ quiescent_ReferenceIdeal (hReferenceIdeal := hReferenceIdeal)
    ∧ quiescent_ReferenceIdeal_pre_finite (hReferenceIdeal := hReferenceIdeal) (hPre_finite := hPre_finite)
    ∧ preserves_Kernel_KernelIdeal
    ∧ algebraic_KernelIdeal_ReferenceIdeal_pre_finite (hKernelIdeal := hKernelIdeal) (hReferenceIdeal := hReferenceIdeal) (hPre_finite := hPre_finite)
-- ==== Pre_finite.lean ====
abbrev S16384x32 : Shape := ⟨2, ![16384, 32]⟩
abbrev S4x1024x32 : Shape := ⟨3, ![4, 1024, 32]⟩
abbrev S_ : Shape := ⟨0, ![]⟩

class Facts : Prop where
  bcast_S_S16384x32 : S_.BroadcastsInDim S16384x32 (![] : Fin 0 → Fin S16384x32.rank)
  reducesTo_S16384x32_S_d0_1 : S16384x32.ReducesTo [0, 1] S_
  h_S_ : 0 < S_.numel
  bcast_S_S4x1024x32 : S_.BroadcastsInDim S4x1024x32 (![] : Fin 0 → Fin S4x1024x32.rank)
  reducesTo_S4x1024x32_S_d0_1_2 : S4x1024x32.ReducesTo [0, 1, 2] S_

variable [Facts]

def fn {F : FTy → Type} [FloatOps F] (main_arg0 : FVec F S16384x32 .f32) (main_arg1 : FVec F S4x1024x32 .f32) : IVec S_ 1 :=
  let main_v0 : FVec F S16384x32 .f32 := Host.absf main_arg0
  let main_cst : FVec F S_ .f32 := constant S_ .f32 0x7F800000#32
  let main_v1 : FVec F S16384x32 .f32 := broadcastInDim S16384x32 ![] bcast_S_S16384x32 main_cst
  let main_v2 : IVec S16384x32 1 := cmpf .olt main_v0 main_v1
  let main_c : IVec S_ 1 := constantI S_ 1 1#1
  let main_v3 : IVec S_ 1 := (fun x v => Host.reduce IntOp.andi x v reducesTo_S16384x32_S_d0_1 h_S_) main_v2 main_c
  let main_v4 : FVec F S4x1024x32 .f32 := Host.absf main_arg1
  let main_cst_0 : FVec F S_ .f32 := constant S_ .f32 0x7F800000#32
  let main_v5 : FVec F S4x1024x32 .f32 := broadcastInDim S4x1024x32 ![] bcast_S_S4x1024x32 main_cst_0
  let main_v6 : IVec S4x1024x32 1 := cmpf .olt main_v4 main_v5
  let main_c_1 : IVec S_ 1 := constantI S_ 1 1#1
  let main_v7 : IVec S_ 1 := (fun x v => Host.reduce IntOp.andi x v reducesTo_S4x1024x32_S_d0_1_2 h_S_) main_v6 main_c_1
  let main_v8 : IVec S_ 1 := andi main_v3 main_v7
  main_v8
-- ==== Kernel.lean ====
abbrev S16384x32 : Shape := ⟨2, ![16384, 32]⟩
abbrev S4x1024x32 : Shape := ⟨3, ![4, 1024, 32]⟩
abbrev S16384x4 : Shape := ⟨2, ![16384, 4]⟩
abbrev S16384x1024 : Shape := ⟨2, ![16384, 1024]⟩
abbrev S16384x1024x1 : Shape := ⟨3, ![16384, 1024, 1]⟩
abbrev S16384x1024x4 : Shape := ⟨3, ![16384, 1024, 4]⟩
abbrev S512x32 : Shape := ⟨2, ![512, 32]⟩
abbrev S512x4 : Shape := ⟨2, ![512, 4]⟩
abbrev S512x1024 : Shape := ⟨2, ![512, 1024]⟩
abbrev S4x1x1024 : Shape := ⟨3, ![4, 1, 1024]⟩
abbrev S1x32 : Shape := ⟨2, ![1, 32]⟩
abbrev S1x1024x32 : Shape := ⟨3, ![1, 1024, 32]⟩
abbrev S1024x32 : Shape := ⟨2, ![1024, 32]⟩
abbrev S1x1024 : Shape := ⟨2, ![1, 1024]⟩
abbrev S1x1x1024 : Shape := ⟨3, ![1, 1, 1024]⟩
abbrev S256x1024 : Shape := ⟨2, ![256, 1024]⟩
abbrev S256x32 : Shape := ⟨2, ![256, 32]⟩
abbrev S256 : Shape := ⟨1, ![256]⟩
abbrev S256x1 : Shape := ⟨2, ![256, 1]⟩

abbrev nBuf : Space → Nat
  | .hbm => 14
  | .vmem => 21
  | .smem => 0
  | _ => 0

abbrev bufTy : (tb : Table) → Fin (tcTables nBuf tb) → BufTy
  | .hbm, ⟨0, _⟩ => ⟨S16384x32, .f32⟩
  | .hbm, ⟨1, _⟩ => ⟨S4x1024x32, .f32⟩
  | .hbm, ⟨2, _⟩ => ⟨S16384x4, .i32⟩
  | .hbm, ⟨3, _⟩ => ⟨S16384x1024, .f32⟩
  | .hbm, ⟨4, _⟩ => ⟨S16384x1024, .f32⟩
  | .hbm, ⟨5, _⟩ => ⟨S16384x1024, .f32⟩
  | .hbm, ⟨6, _⟩ => ⟨S16384x1024, .f32⟩
  | .hbm, ⟨7, _⟩ => ⟨S16384x32, .f32⟩
  | .hbm, ⟨8, _⟩ => ⟨S16384x4, .f32⟩
  | .hbm, ⟨9, _⟩ => ⟨S16384x1024x1, .f32⟩
  | .hbm, ⟨10, _⟩ => ⟨S16384x1024x1, .f32⟩
  | .hbm, ⟨11, _⟩ => ⟨S16384x1024x1, .f32⟩
  | .hbm, ⟨12, _⟩ => ⟨S16384x1024x1, .f32⟩
  | .hbm, ⟨13, _⟩ => ⟨S16384x1024x4, .f32⟩
  | .local _ .vmem, ⟨0, _⟩ => ⟨S512x32, .f32⟩
  | .local _ .vmem, ⟨1, _⟩ => ⟨S512x32, .f32⟩
  | .local _ .vmem, ⟨2, _⟩ => ⟨S4x1024x32, .f32⟩
  | .local _ .vmem, ⟨3, _⟩ => ⟨S512x4, .i32⟩
  | .local _ .vmem, ⟨4, _⟩ => ⟨S512x4, .i32⟩
  | .local _ .vmem, ⟨5, _⟩ => ⟨S512x1024, .f32⟩
  | .local _ .vmem, ⟨6, _⟩ => ⟨S512x1024, .f32⟩
  | .local _ .vmem, ⟨7, _⟩ => ⟨S512x1024, .f32⟩
  | .local _ .vmem, ⟨8, _⟩ => ⟨S512x1024, .f32⟩
  | .local _ .vmem, ⟨9, _⟩ => ⟨S512x1024, .f32⟩
  | .local _ .vmem, ⟨10, _⟩ => ⟨S512x1024, .f32⟩
  | .local _ .vmem, ⟨11, _⟩ => ⟨S512x1024, .f32⟩
  | .local _ .vmem, ⟨12, _⟩ => ⟨S512x1024, .f32⟩
  | .local _ .vmem, ⟨13, _⟩ => ⟨S512x32, .f32⟩
  | .local _ .vmem, ⟨14, _⟩ => ⟨S512x32, .f32⟩
  | .local _ .vmem, ⟨15, _⟩ => ⟨S512x4, .f32⟩
  | .local _ .vmem, ⟨16, _⟩ => ⟨S512x4, .f32⟩
  | .local _ .vmem, ⟨17, _⟩ => ⟨S4x1x1024, .f32⟩
  | .local _ .vmem, ⟨18, _⟩ => ⟨S4x1024x32, .bf16⟩
  | .local _ .vmem, ⟨19, _⟩ => ⟨S4x1024x32, .bf16⟩
  | .local _ .vmem, ⟨20, _⟩ => ⟨S4x1024x32, .bf16⟩
  | _, _ => ⟨S16384x32, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | _, _ => false

abbrev semScoped : Fin 0 → Bool
  | ⟨_, h⟩ => absurd h (Nat.not_lt_zero _)

abbrev dmaSemScoped : Fin 17 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | _ => false

abbrev sig : RefSig :=
  ofTc nBuf bufTy 0 17 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0_0 : Ref sig .tc := ⟨.hbm, 2, rfl⟩
abbrev main_call0_v0_1 : Ref sig .tc := ⟨.hbm, 3, rfl⟩
abbrev main_call0_v0_2 : Ref sig .tc := ⟨.hbm, 4, rfl⟩
abbrev main_call0_v0_3 : Ref sig .tc := ⟨.hbm, 5, rfl⟩
abbrev main_call0_v0_4 : Ref sig .tc := ⟨.hbm, 6, rfl⟩
abbrev main_v0_2 : Ref sig .tc := ⟨.hbm, 7, rfl⟩
abbrev main_v0_3 : Ref sig .tc := ⟨.hbm, 8, rfl⟩
abbrev main_call0_v1 : Ref sig .tc := ⟨.hbm, 9, rfl⟩
abbrev main_call0_v2 : Ref sig .tc := ⟨.hbm, 10, rfl⟩
abbrev main_call0_v3 : Ref sig .tc := ⟨.hbm, 11, rfl⟩
abbrev main_call0_v4 : Ref sig .tc := ⟨.hbm, 12, rfl⟩
abbrev main_v0_1 : Ref sig .tc := ⟨.hbm, 13, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg2_1 : Ref sig .tc := ⟨.vmem, 4, rfl⟩
abbrev cc0_stg3_0 : Ref sig .tc := ⟨.vmem, 5, rfl⟩
abbrev cc0_stg3_1 : Ref sig .tc := ⟨.vmem, 6, rfl⟩
abbrev cc0_stg4_0 : Ref sig .tc := ⟨.vmem, 7, rfl⟩
abbrev cc0_stg4_1 : Ref sig .tc := ⟨.vmem, 8, rfl⟩
abbrev cc0_stg5_0 : Ref sig .tc := ⟨.vmem, 9, rfl⟩
abbrev cc0_stg5_1 : Ref sig .tc := ⟨.vmem, 10, rfl⟩
abbrev cc0_stg6_0 : Ref sig .tc := ⟨.vmem, 11, rfl⟩
abbrev cc0_stg6_1 : Ref sig .tc := ⟨.vmem, 12, rfl⟩
abbrev cc0_stg7_0 : Ref sig .tc := ⟨.vmem, 13, rfl⟩
abbrev cc0_stg7_1 : Ref sig .tc := ⟨.vmem, 14, rfl⟩
abbrev cc0_stg8_0 : Ref sig .tc := ⟨.vmem, 15, rfl⟩
abbrev cc0_stg8_1 : Ref sig .tc := ⟨.vmem, 16, rfl⟩
abbrev cc0_scratch0 : Ref sig .tc := ⟨.vmem, 17, rfl⟩
abbrev cc0_scratch1 : Ref sig .tc := ⟨.vmem, 18, rfl⟩
abbrev cc0_scratch2 : Ref sig .tc := ⟨.vmem, 19, rfl⟩
abbrev cc0_scratch3 : Ref sig .tc := ⟨.vmem, 20, rfl⟩
abbrev cc0_sem0_0 : DmaSem sig := 0
abbrev cc0_sem0_1 : DmaSem sig := 1
abbrev cc0_sem1_0 : DmaSem sig := 2
abbrev cc0_sem2_0 : DmaSem sig := 3
abbrev cc0_sem2_1 : DmaSem sig := 4
abbrev cc0_sem3_0 : DmaSem sig := 5
abbrev cc0_sem3_1 : DmaSem sig := 6
abbrev cc0_sem4_0 : DmaSem sig := 7
abbrev cc0_sem4_1 : DmaSem sig := 8
abbrev cc0_sem5_0 : DmaSem sig := 9
abbrev cc0_sem5_1 : DmaSem sig := 10
abbrev cc0_sem6_0 : DmaSem sig := 11
abbrev cc0_sem6_1 : DmaSem sig := 12
abbrev cc0_sem7_0 : DmaSem sig := 13
abbrev cc0_sem7_1 : DmaSem sig := 14
abbrev cc0_sem8_0 : DmaSem sig := 15
abbrev cc0_sem8_1 : DmaSem sig := 16

abbrev nD : Nat := 1
abbrev τ : Topo := Topo.v7x

variable {F : FTy → Type} [FloatOps F]

abbrev grid0 : Pipeline.Grid := ⟨1, ![32], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  let c0_i32_2 : BitVec 32 := 0#32
  ![c0_i32.toNat, c0_i32_0.toNat, c0_i32_1.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_3 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_4 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_5 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_6 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_7 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_8 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S512x32 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S4x1024x32 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 2 → Memref sig .tc .vmem S512x4 .i32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 2 → Memref sig .tc .vmem S512x1024 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev stage0_4 : Fin 2 → Memref sig .tc .vmem S512x1024 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]

abbrev stage0_5 : Fin 2 → Memref sig .tc .vmem S512x1024 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true]

abbrev stage0_6 : Fin 2 → Memref sig .tc .vmem S512x1024 .f32 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true]

abbrev stage0_7 : Fin 2 → Memref sig .tc .vmem S512x32 .f32 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![true]

abbrev stage0_8 : Fin 2 → Memref sig .tc .vmem S512x4 .f32 := fun | 0 => Memref.whole cc0_stg8_0 | 1 => Memref.whole cc0_stg8_1 | ⟨_ + 2, h⟩ => absurd h (Nat.not_lt.2 (Nat.le_add_left _ _))
abbrev sem0_8 : Fin 2 → DmaSem sig := fun | 0 => cc0_sem8_0 | 1 => cc0_sem8_1 | ⟨_ + 2, h⟩ => absurd h (Nat.not_lt.2 (Nat.le_add_left _ _))
abbrev reads0_8 : Fin grid0.rank → Bool := ![true]
-- ==== ReferenceIdeal.lean ====
abbrev S16384x32 : Shape := ⟨2, ![16384, 32]⟩
abbrev S4x1024x32 : Shape := ⟨3, ![4, 1024, 32]⟩
abbrev S_ : Shape := ⟨0, ![]⟩
abbrev S1x1024x32 : Shape := ⟨3, ![1, 1024, 32]⟩
abbrev S1024x32 : Shape := ⟨2, ![1024, 32]⟩
abbrev S16384 : Shape := ⟨1, ![16384]⟩
abbrev S16384x1 : Shape := ⟨2, ![16384, 1]⟩
abbrev S32x1024 : Shape := ⟨2, ![32, 1024]⟩
abbrev S16384x1024 : Shape := ⟨2, ![16384, 1024]⟩
abbrev S1024 : Shape := ⟨1, ![1024]⟩
abbrev S1x1024 : Shape := ⟨2, ![1, 1024]⟩
abbrev S1 : Shape := ⟨1, ![1]⟩
abbrev S1x1 : Shape := ⟨2, ![1, 1]⟩
abbrev S16384x4 : Shape := ⟨2, ![16384, 4]⟩
abbrev S16384x1024x1 : Shape := ⟨3, ![16384, 1024, 1]⟩
abbrev S16384x1024x4 : Shape := ⟨3, ![16384, 1024, 4]⟩

abbrev nBuf : Space → Nat
  | .hbm => 355
  | .vmem => 0
  | .smem => 0
  | _ => 0

abbrev hbmTy0_0 (i : Nat) : BufTy := match i % 128 with
  | 0 => ⟨S16384x32, .f32⟩
  | 1 => ⟨S4x1024x32, .f32⟩
  | 2 => ⟨S_, .f32⟩
  | 3 => ⟨S16384x32, .f32⟩
  | 4 => ⟨S1x1024x32, .f32⟩
  | 5 => ⟨S1024x32, .f32⟩
  | 6 => ⟨S16384x32, .f32⟩
  | 7 => ⟨S_, .f32⟩
  | 8 => ⟨S16384, .f32⟩
  | 9 => ⟨S16384x1, .f32⟩
  | 10 => ⟨S_, .f32⟩
  | 11 => ⟨S16384x32, .f32⟩
  | 12 => ⟨S16384x32, .f32⟩
  | 13 => ⟨S32x1024, .f32⟩
  | 14 => ⟨S16384x1024, .f32⟩
  | 15 => ⟨S16384x1024, .f32⟩
  | 16 => ⟨S16384x1024, .f32⟩
  | 17 => ⟨S1024x32, .f32⟩
  | 18 => ⟨S_, .f32⟩
  | 19 => ⟨S1024, .f32⟩
  | 20 => ⟨S1x1024, .f32⟩
  | 21 => ⟨S16384x1024, .f32⟩
  | 22 => ⟨S16384x1024, .f32⟩
  | 23 => ⟨S16384x1024, .i32⟩
  | 24 => ⟨S_, .f32⟩
  | 25 => ⟨S_, .i32⟩
  | 26 => ⟨S16384, .f32⟩
  | 27 => ⟨S16384, .i32⟩
  | 28 => ⟨S16384x1024, .f32⟩
  | 29 => ⟨S_, .f32⟩
  | 30 => ⟨S16384, .f32⟩
  | 31 => ⟨S_, .f32⟩
  | 32 => ⟨S16384, .f32⟩
  | 33 => ⟨S16384, .f32⟩
  | 34 => ⟨S16384x1, .f32⟩
  | 35 => ⟨S16384x1024, .f32⟩
  | 36 => ⟨S16384x1024, .f32⟩
  | 37 => ⟨S16384x1024, .f32⟩
  | 38 => ⟨S_, .f32⟩
  | 39 => ⟨S16384, .f32⟩
  | 40 => ⟨S16384x1, .f32⟩
  | 41 => ⟨S16384x1024, .f32⟩
  | 42 => ⟨S16384x1024, .f32⟩
  | 43 => ⟨S_, .i32⟩
  | 44 => ⟨S16384, .i32⟩
  | 45 => ⟨S16384, .i1⟩
  | 46 => ⟨S_, .i32⟩
  | 47 => ⟨S16384, .i32⟩
  | 48 => ⟨S16384, .i32⟩
  | 49 => ⟨S16384, .i32⟩
  | 50 => ⟨S16384x1, .i32⟩
  | 51 => ⟨S1, .i32⟩
  | 52 => ⟨S_, .i32⟩
  | 53 => ⟨S16384x1, .i32⟩
  | 54 => ⟨S16384x1, .i1⟩
  | 55 => ⟨S1x1, .i32⟩
  | 56 => ⟨S16384x1, .i32⟩
  | 57 => ⟨S16384x1, .i1⟩
  | 58 => ⟨S16384x1, .i1⟩
  | 59 => ⟨S_, .i1⟩
  | 60 => ⟨S16384, .i1⟩
  | 61 => ⟨S16384x32, .f32⟩
  | 62 => ⟨S16384x32, .i1⟩
  | 63 => ⟨S_, .f32⟩
  | 64 => ⟨S16384x32, .f32⟩
  | 65 => ⟨S16384x32, .f32⟩
  | 66 => ⟨S16384x32, .f32⟩
  | 67 => ⟨S16384x32, .f32⟩
  | 68 => ⟨S_, .f32⟩
  | 69 => ⟨S16384, .f32⟩
  | 70 => ⟨S_, .f32⟩
  | 71 => ⟨S16384, .f32⟩
  | 72 => ⟨S16384, .f32⟩
  | 73 => ⟨S16384x32, .f32⟩
  | 74 => ⟨S16384x32, .f32⟩
  | 75 => ⟨S_, .f32⟩
  | 76 => ⟨S16384, .f32⟩
  | 77 => ⟨S_, .f32⟩
  | 78 => ⟨S16384, .f32⟩
  | 79 => ⟨S16384, .f32⟩
  | 80 => ⟨S_, .f32⟩
  | 81 => ⟨S16384, .f32⟩
  | 82 => ⟨S16384, .f32⟩
  | 83 => ⟨S16384, .f32⟩
  | 84 => ⟨S16384x32, .f32⟩
  | 85 => ⟨S16384x32, .f32⟩
  | 86 => ⟨S16384x32, .f32⟩
  | 87 => ⟨S16384x32, .f32⟩
  | 88 => ⟨S1x1024x32, .f32⟩
  | 89 => ⟨S1024x32, .f32⟩
  | 90 => ⟨S16384x32, .f32⟩
  | 91 => ⟨S_, .f32⟩
  | 92 => ⟨S16384, .f32⟩
  | 93 => ⟨S16384x1, .f32⟩
  | 94 => ⟨S_, .f32⟩
  | 95 => ⟨S16384x32, .f32⟩
  | 96 => ⟨S16384x32, .f32⟩
  | 97 => ⟨S32x1024, .f32⟩
  | 98 => ⟨S16384x1024, .f32⟩
  | 99 => ⟨S16384x1024, .f32⟩
  | 100 => ⟨S16384x1024, .f32⟩
  | 101 => ⟨S1024x32, .f32⟩
  | 102 => ⟨S_, .f32⟩
  | 103 => ⟨S1024, .f32⟩
  | 104 => ⟨S1x1024, .f32⟩
  | 105 => ⟨S16384x1024, .f32⟩
  | 106 => ⟨S16384x1024, .f32⟩
  | 107 => ⟨S16384x1024, .i32⟩
  | 108 => ⟨S_, .f32⟩
  | 109 => ⟨S_, .i32⟩
  | 110 => ⟨S16384, .f32⟩
  | 111 => ⟨S16384, .i32⟩
  | 112 => ⟨S16384x1024, .f32⟩
  | 113 => ⟨S_, .f32⟩
  | 114 => ⟨S16384, .f32⟩
  | 115 => ⟨S_, .f32⟩
  | 116 => ⟨S16384, .f32⟩
  | 117 => ⟨S16384, .f32⟩
  | 118 => ⟨S16384x1, .f32⟩
  | 119 => ⟨S16384x1024, .f32⟩
  | 120 => ⟨S16384x1024, .f32⟩
  | 121 => ⟨S16384x1024, .f32⟩
  | 122 => ⟨S_, .f32⟩
  | 123 => ⟨S16384, .f32⟩
  | 124 => ⟨S16384x1, .f32⟩
  | 125 => ⟨S16384x1024, .f32⟩
  | 126 => ⟨S16384x1024, .f32⟩
  | 127 => ⟨S_, .i32⟩
  | _ => ⟨S16384x32, .f32⟩

abbrev hbmTy0_1 (i : Nat) : BufTy := match i % 128 with
  | 0 => ⟨S16384, .i32⟩
  | 1 => ⟨S16384, .i1⟩
  | 2 => ⟨S_, .i32⟩
  | 3 => ⟨S16384, .i32⟩
  | 4 => ⟨S16384, .i32⟩
  | 5 => ⟨S16384, .i32⟩
  | 6 => ⟨S16384x1, .i32⟩
  | 7 => ⟨S1, .i32⟩
  | 8 => ⟨S_, .i32⟩
  | 9 => ⟨S16384x1, .i32⟩
  | 10 => ⟨S16384x1, .i1⟩
  | 11 => ⟨S1x1, .i32⟩
  | 12 => ⟨S16384x1, .i32⟩
  | 13 => ⟨S16384x1, .i1⟩
  | 14 => ⟨S16384x1, .i1⟩
  | 15 => ⟨S_, .i1⟩
  | 16 => ⟨S16384, .i1⟩
  | 17 => ⟨S16384x32, .f32⟩
  | 18 => ⟨S16384x32, .i1⟩
  | 19 => ⟨S_, .f32⟩
  | 20 => ⟨S16384x32, .f32⟩
  | 21 => ⟨S16384x32, .f32⟩
  | 22 => ⟨S16384x32, .f32⟩
  | 23 => ⟨S16384x32, .f32⟩
  | 24 => ⟨S_, .f32⟩
  | 25 => ⟨S16384, .f32⟩
  | 26 => ⟨S_, .f32⟩
  | 27 => ⟨S16384, .f32⟩
  | 28 => ⟨S16384, .f32⟩
  | 29 => ⟨S16384x32, .f32⟩
  | 30 => ⟨S16384x32, .f32⟩
  | 31 => ⟨S_, .f32⟩
  | 32 => ⟨S16384, .f32⟩
  | 33 => ⟨S_, .f32⟩
  | 34 => ⟨S16384, .f32⟩
  | 35 => ⟨S16384, .f32⟩
  | 36 => ⟨S_, .f32⟩
  | 37 => ⟨S16384, .f32⟩
  | 38 => ⟨S16384, .f32⟩
  | 39 => ⟨S16384, .f32⟩
  | 40 => ⟨S16384x32, .f32⟩
  | 41 => ⟨S16384x32, .f32⟩
  | 42 => ⟨S16384x32, .f32⟩
  | 43 => ⟨S16384x32, .f32⟩
  | 44 => ⟨S1x1024x32, .f32⟩
  | 45 => ⟨S1024x32, .f32⟩
  | 46 => ⟨S16384x32, .f32⟩
  | 47 => ⟨S_, .f32⟩
  | 48 => ⟨S16384, .f32⟩
  | 49 => ⟨S16384x1, .f32⟩
  | 50 => ⟨S_, .f32⟩
  | 51 => ⟨S16384x32, .f32⟩
  | 52 => ⟨S16384x32, .f32⟩
  | 53 => ⟨S32x1024, .f32⟩
  | 54 => ⟨S16384x1024, .f32⟩
  | 55 => ⟨S16384x1024, .f32⟩
  | 56 => ⟨S16384x1024, .f32⟩
  | 57 => ⟨S1024x32, .f32⟩
  | 58 => ⟨S_, .f32⟩
  | 59 => ⟨S1024, .f32⟩
  | 60 => ⟨S1x1024, .f32⟩
  | 61 => ⟨S16384x1024, .f32⟩
  | 62 => ⟨S16384x1024, .f32⟩
  | 63 => ⟨S16384x1024, .i32⟩
  | 64 => ⟨S_, .f32⟩
  | 65 => ⟨S_, .i32⟩
  | 66 => ⟨S16384, .f32⟩
  | 67 => ⟨S16384, .i32⟩
  | 68 => ⟨S16384x1024, .f32⟩
  | 69 => ⟨S_, .f32⟩
  | 70 => ⟨S16384, .f32⟩
  | 71 => ⟨S_, .f32⟩
  | 72 => ⟨S16384, .f32⟩
  | 73 => ⟨S16384, .f32⟩
  | 74 => ⟨S16384x1, .f32⟩
  | 75 => ⟨S16384x1024, .f32⟩
  | 76 => ⟨S16384x1024, .f32⟩
  | 77 => ⟨S16384x1024, .f32⟩
  | 78 => ⟨S_, .f32⟩
  | 79 => ⟨S16384, .f32⟩
  | 80 => ⟨S16384x1, .f32⟩
  | 81 => ⟨S16384x1024, .f32⟩
  | 82 => ⟨S16384x1024, .f32⟩
  | 83 => ⟨S_, .i32⟩
  | 84 => ⟨S16384, .i32⟩
  | 85 => ⟨S16384, .i1⟩
  | 86 => ⟨S_, .i32⟩
  | 87 => ⟨S16384, .i32⟩
  | 88 => ⟨S16384, .i32⟩
  | 89 => ⟨S16384, .i32⟩
  | 90 => ⟨S16384x1, .i32⟩
  | 91 => ⟨S1, .i32⟩
  | 92 => ⟨S_, .i32⟩
  | 93 => ⟨S16384x1, .i32⟩
  | 94 => ⟨S16384x1, .i1⟩
  | 95 => ⟨S1x1, .i32⟩
  | 96 => ⟨S16384x1, .i32⟩
  | 97 => ⟨S16384x1, .i1⟩
  | 98 => ⟨S16384x1, .i1⟩
  | 99 => ⟨S_, .i1⟩
  | 100 => ⟨S16384, .i1⟩
  | 101 => ⟨S16384x32, .f32⟩
  | 102 => ⟨S16384x32, .i1⟩
  | 103 => ⟨S_, .f32⟩
  | 104 => ⟨S16384x32, .f32⟩
  | 105 => ⟨S16384x32, .f32⟩
  | 106 => ⟨S16384x32, .f32⟩
  | 107 => ⟨S16384x32, .f32⟩
  | 108 => ⟨S_, .f32⟩
  | 109 => ⟨S16384, .f32⟩
  | 110 => ⟨S_, .f32⟩
  | 111 => ⟨S16384, .f32⟩
  | 112 => ⟨S16384, .f32⟩
  | 113 => ⟨S16384x32, .f32⟩
  | 114 => ⟨S16384x32, .f32⟩
  | 115 => ⟨S_, .f32⟩
  | 116 => ⟨S16384, .f32⟩
  | 117 => ⟨S_, .f32⟩
  | 118 => ⟨S16384, .f32⟩
  | 119 => ⟨S16384, .f32⟩
  | 120 => ⟨S_, .f32⟩
  | 121 => ⟨S16384, .f32⟩
  | 122 => ⟨S16384, .f32⟩
  | 123 => ⟨S16384, .f32⟩
  | 124 => ⟨S16384x32, .f32⟩
  | 125 => ⟨S16384x32, .f32⟩
  | 126 => ⟨S16384x32, .f32⟩
  | 127 => ⟨S16384x32, .f32⟩
  | _ => ⟨S16384x32, .f32⟩

abbrev hbmTy0_2 (i : Nat) : BufTy := match i % 128 with
  | 0 => ⟨S1x1024x32, .f32⟩
  | 1 => ⟨S1024x32, .f32⟩
  | 2 => ⟨S16384x32, .f32⟩
  | 3 => ⟨S_, .f32⟩
  | 4 => ⟨S16384, .f32⟩
  | 5 => ⟨S16384x1, .f32⟩
  | 6 => ⟨S_, .f32⟩
  | 7 => ⟨S16384x32, .f32⟩
  | 8 => ⟨S16384x32, .f32⟩
  | 9 => ⟨S32x1024, .f32⟩
  | 10 => ⟨S16384x1024, .f32⟩
  | 11 => ⟨S16384x1024, .f32⟩
  | 12 => ⟨S16384x1024, .f32⟩
  | 13 => ⟨S1024x32, .f32⟩
  | 14 => ⟨S_, .f32⟩
  | 15 => ⟨S1024, .f32⟩
  | 16 => ⟨S1x1024, .f32⟩
  | 17 => ⟨S16384x1024, .f32⟩
  | 18 => ⟨S16384x1024, .f32⟩
  | 19 => ⟨S16384x1024, .i32⟩
  | 20 => ⟨S_, .f32⟩
  | 21 => ⟨S_, .i32⟩
  | 22 => ⟨S16384, .f32⟩
  | 23 => ⟨S16384, .i32⟩
  | 24 => ⟨S16384x1024, .f32⟩
  | 25 => ⟨S_, .f32⟩
  | 26 => ⟨S16384, .f32⟩
  | 27 => ⟨S_, .f32⟩
  | 28 => ⟨S16384, .f32⟩
  | 29 => ⟨S16384, .f32⟩
  | 30 => ⟨S16384x1, .f32⟩
  | 31 => ⟨S16384x1024, .f32⟩
  | 32 => ⟨S16384x1024, .f32⟩
  | 33 => ⟨S16384x1024, .f32⟩
  | 34 => ⟨S_, .f32⟩
  | 35 => ⟨S16384, .f32⟩
  | 36 => ⟨S16384x1, .f32⟩
  | 37 => ⟨S16384x1024, .f32⟩
  | 38 => ⟨S16384x1024, .f32⟩
  | 39 => ⟨S_, .i32⟩
  | 40 => ⟨S16384, .i32⟩
  | 41 => ⟨S16384, .i1⟩
  | 42 => ⟨S_, .i32⟩
  | 43 => ⟨S16384, .i32⟩
  | 44 => ⟨S16384, .i32⟩
  | 45 => ⟨S16384, .i32⟩
  | 46 => ⟨S16384x1, .i32⟩
  | 47 => ⟨S1, .i32⟩
  | 48 => ⟨S_, .i32⟩
  | 49 => ⟨S16384x1, .i32⟩
  | 50 => ⟨S16384x1, .i1⟩
  | 51 => ⟨S1x1, .i32⟩
  | 52 => ⟨S16384x1, .i32⟩
  | 53 => ⟨S16384x1, .i1⟩
  | 54 => ⟨S16384x1, .i1⟩
  | 55 => ⟨S_, .i1⟩
  | 56 => ⟨S16384, .i1⟩
  | 57 => ⟨S16384x32, .f32⟩
  | 58 => ⟨S16384x32, .i1⟩
  | 59 => ⟨S_, .f32⟩
  | 60 => ⟨S16384x32, .f32⟩
  | 61 => ⟨S16384x32, .f32⟩
  | 62 => ⟨S16384x32, .f32⟩
  | 63 => ⟨S16384x32, .f32⟩
  | 64 => ⟨S_, .f32⟩
  | 65 => ⟨S16384, .f32⟩
  | 66 => ⟨S_, .f32⟩
  | 67 => ⟨S16384, .f32⟩
  | 68 => ⟨S16384, .f32⟩
  | 69 => ⟨S16384x32, .f32⟩
  | 70 => ⟨S16384x32, .f32⟩
  | 71 => ⟨S_, .f32⟩
  | 72 => ⟨S16384, .f32⟩
  | 73 => ⟨S_, .f32⟩
  | 74 => ⟨S16384, .f32⟩
  | 75 => ⟨S16384, .f32⟩
  | 76 => ⟨S_, .f32⟩
  | 77 => ⟨S16384, .f32⟩
  | 78 => ⟨S16384, .f32⟩
  | 79 => ⟨S16384, .f32⟩
  | 80 => ⟨S16384x32, .f32⟩
  | 81 => ⟨S16384x32, .f32⟩
  | 82 => ⟨S16384x32, .f32⟩
  | 83 => ⟨S16384x32, .f32⟩
  | 84 => ⟨S16384x1, .i32⟩
  | 85 => ⟨S16384x1, .i32⟩
  | 86 => ⟨S16384x1, .i32⟩
  | 87 => ⟨S16384x1, .i32⟩
  | 88 => ⟨S16384x4, .i32⟩
  | 89 => ⟨S16384x1024x1, .f32⟩
  | 90 => ⟨S16384x1024x1, .f32⟩
  | 91 => ⟨S16384x1024x1, .f32⟩
  | 92 => ⟨S16384x1024x1, .f32⟩
  | 93 => ⟨S16384x1024x4, .f32⟩
  | 94 => ⟨S16384x1, .f32⟩
  | 95 => ⟨S16384x1, .f32⟩
  | 96 => ⟨S16384x1, .f32⟩
  | 97 => ⟨S16384x1, .f32⟩
  | 98 => ⟨S16384x4, .f32⟩
  | _ => ⟨S16384x32, .f32⟩

abbrev hbmTy (i : Nat) : BufTy := match i / 128 with
  | 0 => hbmTy0_0 i
  | 1 => hbmTy0_1 i
  | 2 => hbmTy0_2 i
  | _ => ⟨S16384x32, .f32⟩

abbrev bufTy : (tb : Table) → Fin (tcTables nBuf tb) → BufTy
  | .hbm, ⟨i, _⟩ => hbmTy i
  | _, _ => ⟨S16384x32, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_cst : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩
abbrev main_cst_0 : Ref sig .tc := ⟨.hbm, 7, rfl⟩
abbrev main_v4 : Ref sig .tc := ⟨.hbm, 8, rfl⟩
abbrev main_v5 : Ref sig .tc := ⟨.hbm, 9, rfl⟩
abbrev main_cst_1 : Ref sig .tc := ⟨.hbm, 10, rfl⟩
abbrev main_v6 : Ref sig .tc := ⟨.hbm, 11, rfl⟩
abbrev main_v7 : Ref sig .tc := ⟨.hbm, 12, rfl⟩
abbrev main_v8 : Ref sig .tc := ⟨.hbm, 13, rfl⟩
abbrev main_v9 : Ref sig .tc := ⟨.hbm, 14, rfl⟩
abbrev main_v10 : Ref sig .tc := ⟨.hbm, 15, rfl⟩
abbrev main_v11 : Ref sig .tc := ⟨.hbm, 16, rfl⟩
abbrev main_v12 : Ref sig .tc := ⟨.hbm, 17, rfl⟩
abbrev main_cst_2 : Ref sig .tc := ⟨.hbm, 18, rfl⟩
abbrev main_v13 : Ref sig .tc := ⟨.hbm, 19, rfl⟩
abbrev main_v14 : Ref sig .tc := ⟨.hbm, 20, rfl⟩
abbrev main_v15 : Ref sig .tc := ⟨.hbm, 21, rfl⟩
abbrev main_v16 : Ref sig .tc := ⟨.hbm, 22, rfl⟩
abbrev main_call0_v0 : Ref sig .tc := ⟨.hbm, 23, rfl⟩
abbrev main_call0_cst : Ref sig .tc := ⟨.hbm, 24, rfl⟩
abbrev main_call0_c : Ref sig .tc := ⟨.hbm, 25, rfl⟩
abbrev main_call0_v1_0 : Ref sig .tc := ⟨.hbm, 26, rfl⟩
abbrev main_v17 : Ref sig .tc := ⟨.hbm, 27, rfl⟩
abbrev main_v18 : Ref sig .tc := ⟨.hbm, 28, rfl⟩
abbrev main_cst_3 : Ref sig .tc := ⟨.hbm, 29, rfl⟩
abbrev main_v19 : Ref sig .tc := ⟨.hbm, 30, rfl⟩
abbrev main_cst_4 : Ref sig .tc := ⟨.hbm, 31, rfl⟩
abbrev main_v20 : Ref sig .tc := ⟨.hbm, 32, rfl⟩
abbrev main_v21 : Ref sig .tc := ⟨.hbm, 33, rfl⟩
abbrev main_v22 : Ref sig .tc := ⟨.hbm, 34, rfl⟩
abbrev main_v23 : Ref sig .tc := ⟨.hbm, 35, rfl⟩
abbrev main_v24 : Ref sig .tc := ⟨.hbm, 36, rfl⟩
abbrev main_v25 : Ref sig .tc := ⟨.hbm, 37, rfl⟩
abbrev main_cst_5 : Ref sig .tc := ⟨.hbm, 38, rfl⟩
abbrev main_v26 : Ref sig .tc := ⟨.hbm, 39, rfl⟩
abbrev main_v27 : Ref sig .tc := ⟨.hbm, 40, rfl⟩
abbrev main_v28 : Ref sig .tc := ⟨.hbm, 41, rfl⟩
abbrev main_v29 : Ref sig .tc := ⟨.hbm, 42, rfl⟩
abbrev main_call1_c : Ref sig .tc := ⟨.hbm, 43, rfl⟩
abbrev main_call1_v0 : Ref sig .tc := ⟨.hbm, 44, rfl⟩
abbrev main_call1_v1 : Ref sig .tc := ⟨.hbm, 45, rfl⟩
abbrev main_call1_c_0 : Ref sig .tc := ⟨.hbm, 46, rfl⟩
abbrev main_call1_v2 : Ref sig .tc := ⟨.hbm, 47, rfl⟩
abbrev main_call1_v3 : Ref sig .tc := ⟨.hbm, 48, rfl⟩
abbrev main_call1_v4 : Ref sig .tc := ⟨.hbm, 49, rfl⟩
abbrev main_call1_v5 : Ref sig .tc := ⟨.hbm, 50, rfl⟩
abbrev main_call1_c_1 : Ref sig .tc := ⟨.hbm, 51, rfl⟩
abbrev main_call1_c_2 : Ref sig .tc := ⟨.hbm, 52, rfl⟩
abbrev main_call1_v6 : Ref sig .tc := ⟨.hbm, 53, rfl⟩
abbrev main_call1_v7 : Ref sig .tc := ⟨.hbm, 54, rfl⟩
abbrev main_call1_v8 : Ref sig .tc := ⟨.hbm, 55, rfl⟩
abbrev main_call1_v9 : Ref sig .tc := ⟨.hbm, 56, rfl⟩
abbrev main_call1_v10 : Ref sig .tc := ⟨.hbm, 57, rfl⟩
abbrev main_call1_v11 : Ref sig .tc := ⟨.hbm, 58, rfl⟩
abbrev main_call1_c_3 : Ref sig .tc := ⟨.hbm, 59, rfl⟩
abbrev main_call1_v12 : Ref sig .tc := ⟨.hbm, 60, rfl⟩
abbrev main_call1_v13 : Ref sig .tc := ⟨.hbm, 61, rfl⟩
abbrev main_call1_v14 : Ref sig .tc := ⟨.hbm, 62, rfl⟩
abbrev main_call1_cst : Ref sig .tc := ⟨.hbm, 63, rfl⟩
abbrev main_call1_v15 : Ref sig .tc := ⟨.hbm, 64, rfl⟩
abbrev main_v30 : Ref sig .tc := ⟨.hbm, 65, rfl⟩
abbrev main_v31 : Ref sig .tc := ⟨.hbm, 66, rfl⟩
abbrev main_v32 : Ref sig .tc := ⟨.hbm, 67, rfl⟩
abbrev main_cst_6 : Ref sig .tc := ⟨.hbm, 68, rfl⟩
abbrev main_v33 : Ref sig .tc := ⟨.hbm, 69, rfl⟩
abbrev main_cst_7 : Ref sig .tc := ⟨.hbm, 70, rfl⟩
abbrev main_v34 : Ref sig .tc := ⟨.hbm, 71, rfl⟩
abbrev main_v35 : Ref sig .tc := ⟨.hbm, 72, rfl⟩
abbrev main_v36 : Ref sig .tc := ⟨.hbm, 73, rfl⟩
abbrev main_v37 : Ref sig .tc := ⟨.hbm, 74, rfl⟩
abbrev main_cst_8 : Ref sig .tc := ⟨.hbm, 75, rfl⟩
abbrev main_v38 : Ref sig .tc := ⟨.hbm, 76, rfl⟩
abbrev main_cst_9 : Ref sig .tc := ⟨.hbm, 77, rfl⟩
abbrev main_v39 : Ref sig .tc := ⟨.hbm, 78, rfl⟩
abbrev main_v40 : Ref sig .tc := ⟨.hbm, 79, rfl⟩
abbrev main_cst_10 : Ref sig .tc := ⟨.hbm, 80, rfl⟩
abbrev main_v41 : Ref sig .tc := ⟨.hbm, 81, rfl⟩
abbrev main_v42 : Ref sig .tc := ⟨.hbm, 82, rfl⟩
abbrev main_v43 : Ref sig .tc := ⟨.hbm, 83, rfl⟩
abbrev main_v44 : Ref sig .tc := ⟨.hbm, 84, rfl⟩
abbrev main_v45 : Ref sig .tc := ⟨.hbm, 85, rfl⟩
abbrev main_v46 : Ref sig .tc := ⟨.hbm, 86, rfl⟩
abbrev main_v47 : Ref sig .tc := ⟨.hbm, 87, rfl⟩
abbrev main_v48 : Ref sig .tc := ⟨.hbm, 88, rfl⟩
abbrev main_v49 : Ref sig .tc := ⟨.hbm, 89, rfl⟩
abbrev main_v50 : Ref sig .tc := ⟨.hbm, 90, rfl⟩
abbrev main_cst_11 : Ref sig .tc := ⟨.hbm, 91, rfl⟩
abbrev main_v51 : Ref sig .tc := ⟨.hbm, 92, rfl⟩
abbrev main_v52 : Ref sig .tc := ⟨.hbm, 93, rfl⟩
abbrev main_cst_12 : Ref sig .tc := ⟨.hbm, 94, rfl⟩
abbrev main_v53 : Ref sig .tc := ⟨.hbm, 95, rfl⟩
abbrev main_v54 : Ref sig .tc := ⟨.hbm, 96, rfl⟩
abbrev main_v55 : Ref sig .tc := ⟨.hbm, 97, rfl⟩
abbrev main_v56 : Ref sig .tc := ⟨.hbm, 98, rfl⟩
abbrev main_v57 : Ref sig .tc := ⟨.hbm, 99, rfl⟩
abbrev main_v58 : Ref sig .tc := ⟨.hbm, 100, rfl⟩
abbrev main_v59 : Ref sig .tc := ⟨.hbm, 101, rfl⟩
abbrev main_cst_13 : Ref sig .tc := ⟨.hbm, 102, rfl⟩
abbrev main_v60 : Ref sig .tc := ⟨.hbm, 103, rfl⟩
abbrev main_v61 : Ref sig .tc := ⟨.hbm, 104, rfl⟩
abbrev main_v62 : Ref sig .tc := ⟨.hbm, 105, rfl⟩
abbrev main_v63 : Ref sig .tc := ⟨.hbm, 106, rfl⟩
abbrev main_call2_v0 : Ref sig .tc := ⟨.hbm, 107, rfl⟩
abbrev main_call2_cst : Ref sig .tc := ⟨.hbm, 108, rfl⟩
abbrev main_call2_c : Ref sig .tc := ⟨.hbm, 109, rfl⟩
abbrev main_call2_v1_0 : Ref sig .tc := ⟨.hbm, 110, rfl⟩
abbrev main_v64 : Ref sig .tc := ⟨.hbm, 111, rfl⟩
abbrev main_v65 : Ref sig .tc := ⟨.hbm, 112, rfl⟩
abbrev main_cst_14 : Ref sig .tc := ⟨.hbm, 113, rfl⟩
abbrev main_v66 : Ref sig .tc := ⟨.hbm, 114, rfl⟩
abbrev main_cst_15 : Ref sig .tc := ⟨.hbm, 115, rfl⟩
abbrev main_v67 : Ref sig .tc := ⟨.hbm, 116, rfl⟩
abbrev main_v68 : Ref sig .tc := ⟨.hbm, 117, rfl⟩
abbrev main_v69 : Ref sig .tc := ⟨.hbm, 118, rfl⟩
abbrev main_v70 : Ref sig .tc := ⟨.hbm, 119, rfl⟩
abbrev main_v71 : Ref sig .tc := ⟨.hbm, 120, rfl⟩
abbrev main_v72 : Ref sig .tc := ⟨.hbm, 121, rfl⟩
abbrev main_cst_16 : Ref sig .tc := ⟨.hbm, 122, rfl⟩
abbrev main_v73 : Ref sig .tc := ⟨.hbm, 123, rfl⟩
abbrev main_v74 : Ref sig .tc := ⟨.hbm, 124, rfl⟩
abbrev main_v75 : Ref sig .tc := ⟨.hbm, 125, rfl⟩
abbrev main_v76 : Ref sig .tc := ⟨.hbm, 126, rfl⟩
abbrev main_call3_c : Ref sig .tc := ⟨.hbm, 127, rfl⟩
abbrev main_call3_v0 : Ref sig .tc := ⟨.hbm, 128, rfl⟩
abbrev main_call3_v1 : Ref sig .tc := ⟨.hbm, 129, rfl⟩
abbrev main_call3_c_0 : Ref sig .tc := ⟨.hbm, 130, rfl⟩
abbrev main_call3_v2 : Ref sig .tc := ⟨.hbm, 131, rfl⟩
abbrev main_call3_v3 : Ref sig .tc := ⟨.hbm, 132, rfl⟩
abbrev main_call3_v4 : Ref sig .tc := ⟨.hbm, 133, rfl⟩
abbrev main_call3_v5 : Ref sig .tc := ⟨.hbm, 134, rfl⟩
abbrev main_call3_c_1 : Ref sig .tc := ⟨.hbm, 135, rfl⟩
abbrev main_call3_c_2 : Ref sig .tc := ⟨.hbm, 136, rfl⟩
abbrev main_call3_v6 : Ref sig .tc := ⟨.hbm, 137, rfl⟩
abbrev main_call3_v7 : Ref sig .tc := ⟨.hbm, 138, rfl⟩
abbrev main_call3_v8 : Ref sig .tc := ⟨.hbm, 139, rfl⟩
abbrev main_call3_v9 : Ref sig .tc := ⟨.hbm, 140, rfl⟩
abbrev main_call3_v10 : Ref sig .tc := ⟨.hbm, 141, rfl⟩
abbrev main_call3_v11 : Ref sig .tc := ⟨.hbm, 142, rfl⟩
abbrev main_call3_c_3 : Ref sig .tc := ⟨.hbm, 143, rfl⟩
abbrev main_call3_v12 : Ref sig .tc := ⟨.hbm, 144, rfl⟩
abbrev main_call3_v13 : Ref sig .tc := ⟨.hbm, 145, rfl⟩
abbrev main_call3_v14 : Ref sig .tc := ⟨.hbm, 146, rfl⟩
abbrev main_call3_cst : Ref sig .tc := ⟨.hbm, 147, rfl⟩
abbrev main_call3_v15 : Ref sig .tc := ⟨.hbm, 148, rfl⟩
abbrev main_v77 : Ref sig .tc := ⟨.hbm, 149, rfl⟩
abbrev main_v78 : Ref sig .tc := ⟨.hbm, 150, rfl⟩
abbrev main_v79 : Ref sig .tc := ⟨.hbm, 151, rfl⟩
abbrev main_cst_17 : Ref sig .tc := ⟨.hbm, 152, rfl⟩
abbrev main_v80 : Ref sig .tc := ⟨.hbm, 153, rfl⟩
abbrev main_cst_18 : Ref sig .tc := ⟨.hbm, 154, rfl⟩
abbrev main_v81 : Ref sig .tc := ⟨.hbm, 155, rfl⟩
abbrev main_v82 : Ref sig .tc := ⟨.hbm, 156, rfl⟩
abbrev main_v83 : Ref sig .tc := ⟨.hbm, 157, rfl⟩
abbrev main_v84 : Ref sig .tc := ⟨.hbm, 158, rfl⟩
abbrev main_cst_19 : Ref sig .tc := ⟨.hbm, 159, rfl⟩
abbrev main_v85 : Ref sig .tc := ⟨.hbm, 160, rfl⟩
abbrev main_cst_20 : Ref sig .tc := ⟨.hbm, 161, rfl⟩
abbrev main_v86 : Ref sig .tc := ⟨.hbm, 162, rfl⟩
abbrev main_v87 : Ref sig .tc := ⟨.hbm, 163, rfl⟩
abbrev main_cst_21 : Ref sig .tc := ⟨.hbm, 164, rfl⟩
abbrev main_v88 : Ref sig .tc := ⟨.hbm, 165, rfl⟩
abbrev main_v89 : Ref sig .tc := ⟨.hbm, 166, rfl⟩
abbrev main_v90 : Ref sig .tc := ⟨.hbm, 167, rfl⟩
abbrev main_v91 : Ref sig .tc := ⟨.hbm, 168, rfl⟩
abbrev main_v92 : Ref sig .tc := ⟨.hbm, 169, rfl⟩
abbrev main_v93 : Ref sig .tc := ⟨.hbm, 170, rfl⟩
abbrev main_v94 : Ref sig .tc := ⟨.hbm, 171, rfl⟩
abbrev main_v95 : Ref sig .tc := ⟨.hbm, 172, rfl⟩
abbrev main_v96 : Ref sig .tc := ⟨.hbm, 173, rfl⟩
abbrev main_v97 : Ref sig .tc := ⟨.hbm, 174, rfl⟩
abbrev main_cst_22 : Ref sig .tc := ⟨.hbm, 175, rfl⟩
abbrev main_v98 : Ref sig .tc := ⟨.hbm, 176, rfl⟩
abbrev main_v99 : Ref sig .tc := ⟨.hbm, 177, rfl⟩
abbrev main_cst_23 : Ref sig .tc := ⟨.hbm, 178, rfl⟩
abbrev main_v100 : Ref sig .tc := ⟨.hbm, 179, rfl⟩
abbrev main_v101 : Ref sig .tc := ⟨.hbm, 180, rfl⟩
abbrev main_v102 : Ref sig .tc := ⟨.hbm, 181, rfl⟩
abbrev main_v103 : Ref sig .tc := ⟨.hbm, 182, rfl⟩
abbrev main_v104 : Ref sig .tc := ⟨.hbm, 183, rfl⟩
abbrev main_v105 : Ref sig .tc := ⟨.hbm, 184, rfl⟩
abbrev main_v106 : Ref sig .tc := ⟨.hbm, 185, rfl⟩
abbrev main_cst_24 : Ref sig .tc := ⟨.hbm, 186, rfl⟩
abbrev main_v107 : Ref sig .tc := ⟨.hbm, 187, rfl⟩
abbrev main_v108 : Ref sig .tc := ⟨.hbm, 188, rfl⟩
abbrev main_v109 : Ref sig .tc := ⟨.hbm, 189, rfl⟩
abbrev main_v110 : Ref sig .tc := ⟨.hbm, 190, rfl⟩
abbrev main_call4_v0 : Ref sig .tc := ⟨.hbm, 191, rfl⟩
abbrev main_call4_cst : Ref sig .tc := ⟨.hbm, 192, rfl⟩
abbrev main_call4_c : Ref sig .tc := ⟨.hbm, 193, rfl⟩
abbrev main_call4_v1_0 : Ref sig .tc := ⟨.hbm, 194, rfl⟩
abbrev main_v111 : Ref sig .tc := ⟨.hbm, 195, rfl⟩
abbrev main_v112 : Ref sig .tc := ⟨.hbm, 196, rfl⟩
abbrev main_cst_25 : Ref sig .tc := ⟨.hbm, 197, rfl⟩
abbrev main_v113 : Ref sig .tc := ⟨.hbm, 198, rfl⟩
abbrev main_cst_26 : Ref sig .tc := ⟨.hbm, 199, rfl⟩
abbrev main_v114 : Ref sig .tc := ⟨.hbm, 200, rfl⟩
abbrev main_v115 : Ref sig .tc := ⟨.hbm, 201, rfl⟩
abbrev main_v116 : Ref sig .tc := ⟨.hbm, 202, rfl⟩
abbrev main_v117 : Ref sig .tc := ⟨.hbm, 203, rfl⟩
abbrev main_v118 : Ref sig .tc := ⟨.hbm, 204, rfl⟩
abbrev main_v119 : Ref sig .tc := ⟨.hbm, 205, rfl⟩
abbrev main_cst_27 : Ref sig .tc := ⟨.hbm, 206, rfl⟩
abbrev main_v120 : Ref sig .tc := ⟨.hbm, 207, rfl⟩
abbrev main_v121 : Ref sig .tc := ⟨.hbm, 208, rfl⟩
abbrev main_v122 : Ref sig .tc := ⟨.hbm, 209, rfl⟩
abbrev main_v123 : Ref sig .tc := ⟨.hbm, 210, rfl⟩
abbrev main_call5_c : Ref sig .tc := ⟨.hbm, 211, rfl⟩
abbrev main_call5_v0 : Ref sig .tc := ⟨.hbm, 212, rfl⟩
abbrev main_call5_v1 : Ref sig .tc := ⟨.hbm, 213, rfl⟩
abbrev main_call5_c_0 : Ref sig .tc := ⟨.hbm, 214, rfl⟩
abbrev main_call5_v2 : Ref sig .tc := ⟨.hbm, 215, rfl⟩
abbrev main_call5_v3 : Ref sig .tc := ⟨.hbm, 216, rfl⟩
abbrev main_call5_v4 : Ref sig .tc := ⟨.hbm, 217, rfl⟩
abbrev main_call5_v5 : Ref sig .tc := ⟨.hbm, 218, rfl⟩
abbrev main_call5_c_1 : Ref sig .tc := ⟨.hbm, 219, rfl⟩
abbrev main_call5_c_2 : Ref sig .tc := ⟨.hbm, 220, rfl⟩
abbrev main_call5_v6 : Ref sig .tc := ⟨.hbm, 221, rfl⟩
abbrev main_call5_v7 : Ref sig .tc := ⟨.hbm, 222, rfl⟩
abbrev main_call5_v8 : Ref sig .tc := ⟨.hbm, 223, rfl⟩
abbrev main_call5_v9 : Ref sig .tc := ⟨.hbm, 224, rfl⟩
abbrev main_call5_v10 : Ref sig .tc := ⟨.hbm, 225, rfl⟩
abbrev main_call5_v11 : Ref sig .tc := ⟨.hbm, 226, rfl⟩
abbrev main_call5_c_3 : Ref sig .tc := ⟨.hbm, 227, rfl⟩
abbrev main_call5_v12 : Ref sig .tc := ⟨.hbm, 228, rfl⟩
abbrev main_call5_v13 : Ref sig .tc := ⟨.hbm, 229, rfl⟩
abbrev main_call5_v14 : Ref sig .tc := ⟨.hbm, 230, rfl⟩
abbrev main_call5_cst : Ref sig .tc := ⟨.hbm, 231, rfl⟩
abbrev main_call5_v15 : Ref sig .tc := ⟨.hbm, 232, rfl⟩
abbrev main_v124 : Ref sig .tc := ⟨.hbm, 233, rfl⟩
abbrev main_v125 : Ref sig .tc := ⟨.hbm, 234, rfl⟩
abbrev main_v126 : Ref sig .tc := ⟨.hbm, 235, rfl⟩
abbrev main_cst_28 : Ref sig .tc := ⟨.hbm, 236, rfl⟩
abbrev main_v127 : Ref sig .tc := ⟨.hbm, 237, rfl⟩
abbrev main_cst_29 : Ref sig .tc := ⟨.hbm, 238, rfl⟩
abbrev main_v128 : Ref sig .tc := ⟨.hbm, 239, rfl⟩
abbrev main_v129 : Ref sig .tc := ⟨.hbm, 240, rfl⟩
abbrev main_v130 : Ref sig .tc := ⟨.hbm, 241, rfl⟩
abbrev main_v131 : Ref sig .tc := ⟨.hbm, 242, rfl⟩
abbrev main_cst_30 : Ref sig .tc := ⟨.hbm, 243, rfl⟩
abbrev main_v132 : Ref sig .tc := ⟨.hbm, 244, rfl⟩
abbrev main_cst_31 : Ref sig .tc := ⟨.hbm, 245, rfl⟩
abbrev main_v133 : Ref sig .tc := ⟨.hbm, 246, rfl⟩
abbrev main_v134 : Ref sig .tc := ⟨.hbm, 247, rfl⟩
abbrev main_cst_32 : Ref sig .tc := ⟨.hbm, 248, rfl⟩
abbrev main_v135 : Ref sig .tc := ⟨.hbm, 249, rfl⟩
abbrev main_v136 : Ref sig .tc := ⟨.hbm, 250, rfl⟩
abbrev main_v137 : Ref sig .tc := ⟨.hbm, 251, rfl⟩
abbrev main_v138 : Ref sig .tc := ⟨.hbm, 252, rfl⟩
abbrev main_v139 : Ref sig .tc := ⟨.hbm, 253, rfl⟩
abbrev main_v140 : Ref sig .tc := ⟨.hbm, 254, rfl⟩
abbrev main_v141 : Ref sig .tc := ⟨.hbm, 255, rfl⟩
abbrev main_v142 : Ref sig .tc := ⟨.hbm, 256, rfl⟩
abbrev main_v143 : Ref sig .tc := ⟨.hbm, 257, rfl⟩
abbrev main_v144 : Ref sig .tc := ⟨.hbm, 258, rfl⟩
abbrev main_cst_33 : Ref sig .tc := ⟨.hbm, 259, rfl⟩
abbrev main_v145 : Ref sig .tc := ⟨.hbm, 260, rfl⟩
abbrev main_v146 : Ref sig .tc := ⟨.hbm, 261, rfl⟩
abbrev main_cst_34 : Ref sig .tc := ⟨.hbm, 262, rfl⟩
abbrev main_v147 : Ref sig .tc := ⟨.hbm, 263, rfl⟩
abbrev main_v148 : Ref sig .tc := ⟨.hbm, 264, rfl⟩
abbrev main_v149 : Ref sig .tc := ⟨.hbm, 265, rfl⟩
abbrev main_v150 : Ref sig .tc := ⟨.hbm, 266, rfl⟩
abbrev main_v151 : Ref sig .tc := ⟨.hbm, 267, rfl⟩
abbrev main_v152 : Ref sig .tc := ⟨.hbm, 268, rfl⟩
abbrev main_v153 : Ref sig .tc := ⟨.hbm, 269, rfl⟩
abbrev main_cst_35 : Ref sig .tc := ⟨.hbm, 270, rfl⟩
abbrev main_v154 : Ref sig .tc := ⟨.hbm, 271, rfl⟩
abbrev main_v155 : Ref sig .tc := ⟨.hbm, 272, rfl⟩
abbrev main_v156 : Ref sig .tc := ⟨.hbm, 273, rfl⟩
abbrev main_v157 : Ref sig .tc := ⟨.hbm, 274, rfl⟩
abbrev main_call6_v0 : Ref sig .tc := ⟨.hbm, 275, rfl⟩
abbrev main_call6_cst : Ref sig .tc := ⟨.hbm, 276, rfl⟩
abbrev main_call6_c : Ref sig .tc := ⟨.hbm, 277, rfl⟩
abbrev main_call6_v1_0 : Ref sig .tc := ⟨.hbm, 278, rfl⟩
abbrev main_v158 : Ref sig .tc := ⟨.hbm, 279, rfl⟩
abbrev main_v159 : Ref sig .tc := ⟨.hbm, 280, rfl⟩
abbrev main_cst_36 : Ref sig .tc := ⟨.hbm, 281, rfl⟩
abbrev main_v160 : Ref sig .tc := ⟨.hbm, 282, rfl⟩
abbrev main_cst_37 : Ref sig .tc := ⟨.hbm, 283, rfl⟩
abbrev main_v161 : Ref sig .tc := ⟨.hbm, 284, rfl⟩
abbrev main_v162 : Ref sig .tc := ⟨.hbm, 285, rfl⟩
abbrev main_v163 : Ref sig .tc := ⟨.hbm, 286, rfl⟩
abbrev main_v164 : Ref sig .tc := ⟨.hbm, 287, rfl⟩
abbrev main_v165 : Ref sig .tc := ⟨.hbm, 288, rfl⟩
abbrev main_v166 : Ref sig .tc := ⟨.hbm, 289, rfl⟩
abbrev main_cst_38 : Ref sig .tc := ⟨.hbm, 290, rfl⟩
abbrev main_v167 : Ref sig .tc := ⟨.hbm, 291, rfl⟩
abbrev main_v168 : Ref sig .tc := ⟨.hbm, 292, rfl⟩
abbrev main_v169 : Ref sig .tc := ⟨.hbm, 293, rfl⟩
abbrev main_v170 : Ref sig .tc := ⟨.hbm, 294, rfl⟩
abbrev main_call7_c : Ref sig .tc := ⟨.hbm, 295, rfl⟩
abbrev main_call7_v0 : Ref sig .tc := ⟨.hbm, 296, rfl⟩
abbrev main_call7_v1 : Ref sig .tc := ⟨.hbm, 297, rfl⟩
abbrev main_call7_c_0 : Ref sig .tc := ⟨.hbm, 298, rfl⟩
abbrev main_call7_v2 : Ref sig .tc := ⟨.hbm, 299, rfl⟩
abbrev main_call7_v3 : Ref sig .tc := ⟨.hbm, 300, rfl⟩
abbrev main_call7_v4 : Ref sig .tc := ⟨.hbm, 301, rfl⟩
abbrev main_call7_v5 : Ref sig .tc := ⟨.hbm, 302, rfl⟩
abbrev main_call7_c_1 : Ref sig .tc := ⟨.hbm, 303, rfl⟩
abbrev main_call7_c_2 : Ref sig .tc := ⟨.hbm, 304, rfl⟩
abbrev main_call7_v6 : Ref sig .tc := ⟨.hbm, 305, rfl⟩
abbrev main_call7_v7 : Ref sig .tc := ⟨.hbm, 306, rfl⟩
abbrev main_call7_v8 : Ref sig .tc := ⟨.hbm, 307, rfl⟩
abbrev main_call7_v9 : Ref sig .tc := ⟨.hbm, 308, rfl⟩
abbrev main_call7_v10 : Ref sig .tc := ⟨.hbm, 309, rfl⟩
abbrev main_call7_v11 : Ref sig .tc := ⟨.hbm, 310, rfl⟩
abbrev main_call7_c_3 : Ref sig .tc := ⟨.hbm, 311, rfl⟩
abbrev main_call7_v12 : Ref sig .tc := ⟨.hbm, 312, rfl⟩
abbrev main_call7_v13 : Ref sig .tc := ⟨.hbm, 313, rfl⟩
abbrev main_call7_v14 : Ref sig .tc := ⟨.hbm, 314, rfl⟩
abbrev main_call7_cst : Ref sig .tc := ⟨.hbm, 315, rfl⟩
abbrev main_call7_v15 : Ref sig .tc := ⟨.hbm, 316, rfl⟩
abbrev main_v171 : Ref sig .tc := ⟨.hbm, 317, rfl⟩
abbrev main_v172 : Ref sig .tc := ⟨.hbm, 318, rfl⟩
abbrev main_v173 : Ref sig .tc := ⟨.hbm, 319, rfl⟩
abbrev main_cst_39 : Ref sig .tc := ⟨.hbm, 320, rfl⟩
abbrev main_v174 : Ref sig .tc := ⟨.hbm, 321, rfl⟩
abbrev main_cst_40 : Ref sig .tc := ⟨.hbm, 322, rfl⟩
abbrev main_v175 : Ref sig .tc := ⟨.hbm, 323, rfl⟩
abbrev main_v176 : Ref sig .tc := ⟨.hbm, 324, rfl⟩
abbrev main_v177 : Ref sig .tc := ⟨.hbm, 325, rfl⟩
abbrev main_v178 : Ref sig .tc := ⟨.hbm, 326, rfl⟩
abbrev main_cst_41 : Ref sig .tc := ⟨.hbm, 327, rfl⟩
abbrev main_v179 : Ref sig .tc := ⟨.hbm, 328, rfl⟩
abbrev main_cst_42 : Ref sig .tc := ⟨.hbm, 329, rfl⟩
abbrev main_v180 : Ref sig .tc := ⟨.hbm, 330, rfl⟩
abbrev main_v181 : Ref sig .tc := ⟨.hbm, 331, rfl⟩
abbrev main_cst_43 : Ref sig .tc := ⟨.hbm, 332, rfl⟩
abbrev main_v182 : Ref sig .tc := ⟨.hbm, 333, rfl⟩
abbrev main_v183 : Ref sig .tc := ⟨.hbm, 334, rfl⟩
abbrev main_v184 : Ref sig .tc := ⟨.hbm, 335, rfl⟩
abbrev main_v185 : Ref sig .tc := ⟨.hbm, 336, rfl⟩
abbrev main_v186 : Ref sig .tc := ⟨.hbm, 337, rfl⟩
abbrev main_v187 : Ref sig .tc := ⟨.hbm, 338, rfl⟩
abbrev main_v188 : Ref sig .tc := ⟨.hbm, 339, rfl⟩
abbrev main_v189 : Ref sig .tc := ⟨.hbm, 340, rfl⟩
abbrev main_v190 : Ref sig .tc := ⟨.hbm, 341, rfl⟩
abbrev main_v191 : Ref sig .tc := ⟨.hbm, 342, rfl⟩
abbrev main_v192 : Ref sig .tc := ⟨.hbm, 343, rfl⟩
abbrev main_v193 : Ref sig .tc := ⟨.hbm, 344, rfl⟩
abbrev main_v194 : Ref sig .tc := ⟨.hbm, 345, rfl⟩
abbrev main_v195 : Ref sig .tc := ⟨.hbm, 346, rfl⟩
abbrev main_v196 : Ref sig .tc := ⟨.hbm, 347, rfl⟩
abbrev main_v197 : Ref sig .tc := ⟨.hbm, 348, rfl⟩
abbrev main_v198 : Ref sig .tc := ⟨.hbm, 349, rfl⟩
abbrev main_v199 : Ref sig .tc := ⟨.hbm, 350, rfl⟩
abbrev main_v200 : Ref sig .tc := ⟨.hbm, 351, rfl⟩
abbrev main_v201 : Ref sig .tc := ⟨.hbm, 352, rfl⟩
abbrev main_v202 : Ref sig .tc := ⟨.hbm, 353, rfl⟩
abbrev main_v203 : Ref sig .tc := ⟨.hbm, 354, rfl⟩

abbrev nD : Nat := 1
abbrev τ : Topo := Topo.v7x

variable {F : FTy → Type} [FloatOps F]
-- ==== Proof.RefRun.lean ====
/-
The reference's run. The printed program is one straight line of host operations, each writing a buffer of its own that
no earlier operation reads; so, after the run, every buffer is its operation's value at what its operands hold after
the run. `fin m c b` is what buffer `b` of core `c` holds then, and `e0` … `e4`, `eR`, `eN` read one buffer off its operation.
-/
module

public import proofs.«01_k».proof.Defs
public import proofs.«01_k».proof.Proof.Gen.ReferenceIdeal
public import Idealize.ShloMosaic.Lib.StableHlo.RunRead
public import Idealize.ShloMosaic.Lib.StableHlo.RunHlo

@[expose] public section

noncomputable section

namespace Cert.RefRun

open Idealize.ShloMosaic Idealize.ShloMosaic.StableHlo Idealize.SL.Sem Cert.ReferenceIdeal Cert.ReferenceIdeal.Gen

local notation "OpList" => List (HloOp τ sig (Elt Ideal))

set_option maxHeartbeats 4000000
set_option maxRecDepth 100000

/-- One operation at the end of a line. -/
theorem isSeq_single {nD : Nat} {τ : Topo} {sig : RefSig} {Val : EltTy → Type} {Λ : Labels} (op : HloOp τ sig Val) :
    IsSeq (nD := nD) (Λ := Λ) (hlo rfl op fun _ => .ret (⟨⟩ : PUnit) : Prog (TpuEff nD τ sig Val Λ .tc) PUnit) [op] := rfl

/-- A program that is the line of a list of operations, with the list. -/
def seqOf {nD : Nat} {τ : Topo} {sig : RefSig} {Val : EltTy → Type} {Λ : Labels}
    {p : Prog (TpuEff nD τ sig Val Λ .tc) PUnit} {l : List (HloOp τ sig Val)} (h : IsSeq p l) : {l // p = seq l} := ⟨l, h⟩

/-- The one device. -/
abbrev d0 : Dev nD := ⟨0, by decide⟩

/-- The first sixty statements of the program as a list of operations. -/
def part0 : {l : OpList // main_part0 (F := Ideal) d0 = seq l} := by
    apply seqOf
    unfold main_part0
    simp only [fn_argmin.body, fn_take.body, fn_where.body, bind_assoc, pure_bind]
    repeat (first | with_reducible apply IsSeq.cons | exact IsSeq.nil | exact isSeq_single _)

/-- The statements 61 to 120 of the program as a list of operations. -/
def part1 : {l : OpList // main_part1 (F := Ideal) d0 = seq l} := by
    apply seqOf
    unfold main_part1
    simp only [fn_argmin.body, fn_take.body, fn_where.body, bind_assoc, pure_bind]
    repeat (first | with_reducible apply IsSeq.cons | exact IsSeq.nil | exact isSeq_single _)

/-- The statements 121 to 180 of the program as a list of operations. -/
def part2 : {l : OpList // main_part2 (F := Ideal) d0 = seq l} := by
    apply seqOf
    unfold main_part2
    simp only [fn_argmin.body, fn_take.body, fn_where.body, bind_assoc, pure_bind]
    repeat (first | with_reducible apply IsSeq.cons | exact IsSeq.nil | exact isSeq_single _)

/-- The statements 181 to 240 of the program as a list of operations. -/
def part3 : {l : OpList // main_part3 (F := Ideal) d0 = seq l} := by
    apply seqOf
    unfold main_part3
    simp only [fn_argmin.body, fn_take.body, fn_where.body, bind_assoc, pure_bind]
    repeat (first | with_reducible apply IsSeq.cons | exact IsSeq.nil | exact isSeq_single _)

/-- The last ten statements of the program as a list of operations. -/
def part4 : {l : OpList // main_part4 (F := Ideal) d0 = seq l} := by
    apply seqOf
    unfold main_part4
    simp only [fn_argmin.body, fn_take.body, fn_where.body, bind_assoc, pure_bind]
    repeat (first | with_reducible apply IsSeq.cons | exact IsSeq.nil | exact isSeq_single _)

/-- The whole program's operations, in order. -/
def ops : OpList := part0.1 ++ (part1.1 ++ (part2.1 ++ (part3.1 ++ part4.1)))

theorem main_eq (d : Dev nD) : main (F := Ideal) d = seq ops := by
  obtain rfl : d = d0 := Subsingleton.elim _ _
  unfold main ops
  simp only [seq_append, part0.2, part1.2, part2.2, part3.2, part4.2]

/-- What the operations write, in order: one buffer each. -/
abbrev written : List (Ref sig .tc) := [
  main_cst, main_v0, main_v1, main_v2, main_v3, main_cst_0, main_v4, main_v5, main_cst_1, main_v6, main_v7, main_v8,
  main_v9, main_v10, main_v11, main_v12, main_cst_2, main_v13, main_v14, main_v15, main_v16, main_call0_v0,
  main_call0_cst, main_call0_c, main_call0_v1_0, main_v17, main_v18, main_cst_3, main_v19, main_cst_4, main_v20,
  main_v21, main_v22, main_v23, main_v24, main_v25, main_cst_5, main_v26, main_v27, main_v28, main_v29, main_call1_c,
  main_call1_v0, main_call1_v1, main_call1_c_0, main_call1_v2, main_call1_v3, main_call1_v4, main_call1_v5,
  main_call1_c_1, main_call1_c_2, main_call1_v6, main_call1_v7, main_call1_v8, main_call1_v9, main_call1_v10,
  main_call1_v11, main_call1_c_3, main_call1_v12, main_call1_v13, main_call1_v14, main_call1_cst, main_call1_v15,
  main_v30, main_v31, main_v32, main_cst_6, main_v33, main_cst_7, main_v34, main_v35, main_v36, main_v37, main_cst_8,
  main_v38, main_cst_9, main_v39, main_v40, main_cst_10, main_v41, main_v42, main_v43, main_v44, main_v45, main_v46,
  main_v47, main_v48, main_v49, main_v50, main_cst_11, main_v51, main_v52, main_cst_12, main_v53, main_v54, main_v55,
  main_v56, main_v57, main_v58, main_v59, main_cst_13, main_v60, main_v61, main_v62, main_v63, main_call2_v0,
  main_call2_cst, main_call2_c, main_call2_v1_0, main_v64, main_v65, main_cst_14, main_v66, main_cst_15, main_v67,
  main_v68, main_v69, main_v70, main_v71, main_v72, main_cst_16, main_v73, main_v74, main_v75, main_v76,
  main_call3_c, main_call3_v0, main_call3_v1, main_call3_c_0, main_call3_v2, main_call3_v3, main_call3_v4,
  main_call3_v5, main_call3_c_1, main_call3_c_2, main_call3_v6, main_call3_v7, main_call3_v8, main_call3_v9,
  main_call3_v10, main_call3_v11, main_call3_c_3, main_call3_v12, main_call3_v13, main_call3_v14, main_call3_cst,
  main_call3_v15, main_v77, main_v78, main_v79, main_cst_17, main_v80, main_cst_18, main_v81, main_v82, main_v83,
  main_v84, main_cst_19, main_v85, main_cst_20, main_v86, main_v87, main_cst_21, main_v88, main_v89, main_v90,
  main_v91, main_v92, main_v93, main_v94, main_v95, main_v96, main_v97, main_cst_22, main_v98, main_v99, main_cst_23,
  main_v100, main_v101, main_v102, main_v103, main_v104, main_v105, main_v106, main_cst_24, main_v107, main_v108,
  main_v109, main_v110, main_call4_v0, main_call4_cst, main_call4_c, main_call4_v1_0, main_v111, main_v112,
  main_cst_25, main_v113, main_cst_26, main_v114, main_v115, main_v116, main_v117, main_v118, main_v119, main_cst_27,
  main_v120, main_v121, main_v122, main_v123, main_call5_c, main_call5_v0, main_call5_v1, main_call5_c_0,
  main_call5_v2, main_call5_v3, main_call5_v4, main_call5_v5, main_call5_c_1, main_call5_c_2, main_call5_v6,
  main_call5_v7, main_call5_v8, main_call5_v9, main_call5_v10, main_call5_v11, main_call5_c_3, main_call5_v12,
  main_call5_v13, main_call5_v14, main_call5_cst, main_call5_v15, main_v124, main_v125, main_v126, main_cst_28,
  main_v127, main_cst_29, main_v128, main_v129, main_v130, main_v131, main_cst_30, main_v132, main_cst_31, main_v133,
  main_v134, main_cst_32, main_v135, main_v136, main_v137, main_v138, main_v139, main_v140, main_v141, main_v142,
  main_v143, main_v144, main_cst_33, main_v145, main_v146, main_cst_34, main_v147, main_v148, main_v149, main_v150,
  main_v151, main_v152, main_v153, main_cst_35, main_v154, main_v155, main_v156, main_v157, main_call6_v0,
  main_call6_cst, main_call6_c, main_call6_v1_0, main_v158, main_v159, main_cst_36, main_v160, main_cst_37,
  main_v161, main_v162, main_v163, main_v164, main_v165, main_v166, main_cst_38, main_v167, main_v168, main_v169,
  main_v170, main_call7_c, main_call7_v0, main_call7_v1, main_call7_c_0, main_call7_v2, main_call7_v3, main_call7_v4,
  main_call7_v5, main_call7_c_1, main_call7_c_2, main_call7_v6, main_call7_v7, main_call7_v8, main_call7_v9,
  main_call7_v10, main_call7_v11, main_call7_c_3, main_call7_v12, main_call7_v13, main_call7_v14, main_call7_cst,
  main_call7_v15, main_v171, main_v172, main_v173, main_cst_39, main_v174, main_cst_40, main_v175, main_v176,
  main_v177, main_v178, main_cst_41, main_v179, main_cst_42, main_v180, main_v181, main_cst_43, main_v182, main_v183,
  main_v184, main_v185, main_v186, main_v187, main_v188, main_v189, main_v190, main_v191, main_v192, main_v193,
  main_v194, main_v195, main_v196, main_v197, main_v198, main_v199, main_v200, main_v201, main_v202, main_v203]

theorem writes_eq : ops.map HloOp.writes = written.map fun r => {Proc.devRef (τ := τ) .tc r} := by rfl

/-- A buffer's place among the program's buffers; the arguments come first, the operations' results follow in order. -/
abbrev rk (r : Ref sig .tc) : ℕ := r.idx.val

theorem written_rk : written.map rk = (List.range 353).map (· + 2) := by rfl

theorem fresh_eq : ops.map HloOp.fresh = ops.map fun _ => (∅ : Finset (DevRef τ sig)) := by rfl

/-- No operation from place `i` on writes a buffer that stands before place `i + 2`. -/
theorem not_written {i : ℕ} {a : Ref sig .tc} (h : rk a < i + 2) : a ∉ written.drop i := by
  intro ha
  have h1 : rk a ∈ (written.drop i).map rk := List.mem_map_of_mem ha
  rw [List.map_drop, written_rk, ← List.map_drop, List.mem_map] at h1
  obtain ⟨j, hj, hj'⟩ := h1
  rw [List.range_eq_range', List.drop_range'] at hj
  have := (List.mem_range'_1.mp hj).1
  omega

theorem tail_keeps {i : ℕ} {a : Ref sig .tc} (h : rk a < i + 2) (V : Valuation τ sig (Elt Ideal)) :
    after (ops.drop i) V (Proc.devRef .tc a) = V (Proc.devRef .tc a) :=
  after_unwritten (written.drop i) (by rw [List.map_drop, writes_eq, List.map_drop]) (not_written h) V

theorem after_split (l₁ l₂ : OpList) (V : Valuation τ sig (Elt Ideal)) : after (l₁ ++ l₂) V = after l₂ (after l₁ V) := by
  induction l₁ generalizing V with
  | nil => rfl
  | cons op l ih => exact ih _

theorem after_cut (i : ℕ) (V : Valuation τ sig (Elt Ideal)) :
    after ops V = after (ops.drop i) (upto ops V i) := by
  conv_lhs => rw [← List.take_append_drop i ops]
  exact after_split _ _ V

variable (V : Valuation τ sig (Elt Ideal))

/-- What buffer `b` holds after the run from contents `V`. -/
def fin (b : Ref sig .tc) : b.ty.Contents (Elt Ideal) := after ops V (Proc.devRef .tc b)

theorem upto_eq_fin {i : ℕ} {a : Ref sig .tc} (h : rk a < i + 2) : upto ops V i (Proc.devRef .tc a) = fin V a := by
  unfold fin; rw [after_cut i V, tail_keeps h]

/-- An argument, or any buffer before the first result, keeps its contents. -/
theorem fin_arg {a : Ref sig .tc} (h : rk a < 2) : fin V a = V (Proc.devRef .tc a) := by
  unfold fin; exact tail_keeps (i := 0) (by omega) V

theorem fin_eq {i : ℕ} {op : HloOp τ sig (Elt Ideal)} (hop : ops[i]? = some op) {y : Ref sig .tc} (hy : rk y = i + 2) :
    fin V y = op.result (upto ops V i) (Proc.devRef .tc y) := by
  obtain ⟨hi, hop⟩ := List.getElem?_eq_some_iff.mp hop
  unfold fin
  rw [after_cut i V, List.drop_eq_getElem_cons hi, hop, after_cons, tail_keeps (by omega)]

section Reads

variable {a b c e x y : Ref sig .tc}

theorem e0 (i : ℕ) {v : y.ty.Contents (Elt Ideal)} {hy} (hop : ops[i]? = some (nullary y v hy))
    (r : rk y = i + 2 := by rfl) : fin V y = v := by
  rw [fin_eq V hop r, nullary_result']

variable {V}

theorem e1 (i : ℕ) {f : x.ty.Contents (Elt Ideal) → y.ty.Contents (Elt Ideal)} {hx hy} {A : x.ty.Contents (Elt Ideal)}
    (pa : fin V x = A) (hop : ops[i]? = some (unary x y f hx hy))
    (r : rk y = i + 2 := by rfl) (ra : rk x < i + 2 := by decide) : fin V y = f A := by
  rw [fin_eq V hop r, unary_result', upto_eq_fin V ra, pa]

theorem eR (i : ℕ) {he hn hx hy} {A : x.ty.Contents (Elt Ideal)}
    (pa : fin V x = A) (hop : ops[i]? = some (reshape x y he hn hx hy))
    (r : rk y = i + 2 := by rfl) (ra : rk x < i + 2 := by decide) :
    fin V y = fun j => he ▸ shapeCast y.ty.shape A hn j := by
  rw [fin_eq V hop r, reshape_result', upto_eq_fin V ra, pa]

theorem e2 (i : ℕ) {f : a.ty.Contents (Elt Ideal) → b.ty.Contents (Elt Ideal) → y.ty.Contents (Elt Ideal)} {ha hb hy}
    {A : a.ty.Contents (Elt Ideal)} {B : b.ty.Contents (Elt Ideal)}
    (pa : fin V a = A) (pb : fin V b = B) (hop : ops[i]? = some (binary a b y f ha hb hy))
    (r : rk y = i + 2 := by rfl) (ra : rk a < i + 2 := by decide) (rb : rk b < i + 2 := by decide) : fin V y = f A B := by
  rw [fin_eq V hop r, binary_result', upto_eq_fin V ra, upto_eq_fin V rb, pa, pb]

theorem e3 (i : ℕ)
    {f : c.ty.Contents (Elt Ideal) → a.ty.Contents (Elt Ideal) → b.ty.Contents (Elt Ideal) → y.ty.Contents (Elt Ideal)} {hc ha hb hy}
    {C : c.ty.Contents (Elt Ideal)} {A : a.ty.Contents (Elt Ideal)} {B : b.ty.Contents (Elt Ideal)}
    (pc : fin V c = C) (pa : fin V a = A) (pb : fin V b = B) (hop : ops[i]? = some (ternary c a b y f hc ha hb hy))
    (r : rk y = i + 2 := by rfl) (rc : rk c < i + 2 := by decide) (ra : rk a < i + 2 := by decide)
    (rb : rk b < i + 2 := by decide) : fin V y = f C A B := by
  rw [fin_eq V hop r, ternary_result', upto_eq_fin V rc, upto_eq_fin V ra, upto_eq_fin V rb, pc, pa, pb]

theorem e4 (i : ℕ)
    {f : a.ty.Contents (Elt Ideal) → b.ty.Contents (Elt Ideal) → c.ty.Contents (Elt Ideal) → e.ty.Contents (Elt Ideal) → y.ty.Contents (Elt Ideal)}
    {ha hb hc he hy}
    {A : a.ty.Contents (Elt Ideal)} {B : b.ty.Contents (Elt Ideal)} {C : c.ty.Contents (Elt Ideal)} {E : e.ty.Contents (Elt Ideal)}
    (pa : fin V a = A) (pb : fin V b = B) (pc : fin V c = C) (pe : fin V e = E)
    (hop : ops[i]? = some (quaternary a b c e y f ha hb hc he hy))
    (r : rk y = i + 2 := by rfl) (ra : rk a < i + 2 := by decide) (rb : rk b < i + 2 := by decide)
    (rc : rk c < i + 2 := by decide) (re : rk e < i + 2 := by decide) : fin V y = f A B C E := by
  rw [fin_eq V hop r, quaternary_result', upto_eq_fin V ra, upto_eq_fin V rb, upto_eq_fin V rc, upto_eq_fin V re, pa, pb, pc, pe]

theorem eN (i : ℕ)
    {f : ((k : Fin 4) → ((![a, b, c, e] : Fin 4 → Ref sig .tc) k).ty.Contents (Elt Ideal)) → y.ty.Contents (Elt Ideal)} {hxs hy}
    {A : a.ty.Contents (Elt Ideal)} {B : b.ty.Contents (Elt Ideal)} {C : c.ty.Contents (Elt Ideal)} {E : e.ty.Contents (Elt Ideal)}
    (pa : fin V a = A) (pb : fin V b = B) (pc : fin V c = C) (pe : fin V e = E)
    (hop : ops[i]? = some (nary ![a, b, c, e] y f hxs hy))
    (r : rk y = i + 2 := by rfl) (ra : rk a < i + 2 := by decide) (rb : rk b < i + 2 := by decide)
    (rc : rk c < i + 2 := by decide) (re : rk e < i + 2 := by decide) :
    fin V y = f (Fin.cons A (Fin.cons B (Fin.cons C (Fin.cons E fun k => k.elim0)))) := by
  rw [fin_eq V hop r, nary4_result', upto_eq_fin V ra, upto_eq_fin V rb, upto_eq_fin V rc, upto_eq_fin V re, pa, pb, pc, pe]

end Reads

theorem scopedRefs_eq : (Finset.univ.filter fun b : Ref sig .tc => b.isScoped) = ∅ := by decide
theorem scopedSems_eq : (Finset.univ.filter fun sm : SemLoc sig => sm.isScoped .tc) = ∅ := by decide

end Cert.RefRun

end
-- ==== Proof.RefFrame.lean ====
/-
The reference runs to the end: every buffer then holds its operation's value, the arguments are as they were, and no
semaphore counter has moved (the program has none).
-/
module

public import proofs.«01_k».proof.Proof.RefRun

@[expose] public section

noncomputable section

namespace Cert.RefRun

open Idealize.ShloMosaic Idealize.ShloMosaic.StableHlo Idealize.SL.Sem Cert.ReferenceIdeal Cert.ReferenceIdeal.Gen

set_option maxHeartbeats 4000000
set_option maxRecDepth 100000

/-- Every buffer of this program is one of the core's. -/
theorem mem_tcRefs (x : DevRef τ sig) : x ∈ tcRefs τ sig := by
  obtain ⟨t, i, h⟩ := x
  cases t
  case hbm => exact devRef_mem_tcRefs (τ := τ) (sig := sig) ⟨.hbm, i, rfl⟩
  case «local» k cs => cases k <;> cases cs <;> exact i.elim0
  all_goals exact i.elim0

/-- Every operation touches buffers of the one core. -/
theorem ops_sub : ops.Forall fun op => op.bufs ⊆ tcRefs τ sig :=
  List.forall_iff_forall_mem.mpr fun _ _ x _ => mem_tcRefs x

/-- The run of the reference, buffer by buffer. -/
theorem run (m : (ℓ : Loc nD τ sig) → Buf (Elt Ideal) ℓ) (g : Dev nD → PrngReg) :
    θ_run (defs (F := Ideal)) (onTc (τ := τ) (main (F := Ideal))) ⟨m, fun _ => 0, g⟩ (fun r =>
      ∀ (d : Dev nD) (b : Ref sig .tc), r.2.mem ((d.tc : Thread nD τ).loc b) = fin (launchContents m d) b) :=
  StableHlo.run_seq scopedRefs_eq scopedSems_eq defs main (fun _ => ops) main_eq (fun _ => ops_sub) m g
    (fun _ => List.forall_iff_forall_mem.mp (forall_fresh_of_map fresh_eq))

theorem quiescent (m : (ℓ : Loc nD τ sig) → Buf (Elt Ideal) ℓ) (g : Dev nD → PrngReg) :
    θ_run (defs (F := Ideal)) (onTc (τ := τ) (main (F := Ideal))) ⟨m, fun _ => 0, g⟩ (fun r => (∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1))
      ∧ r.2.sem = fun _ => 0) := by
  refine θ_run_mono (run m g) fun r hr => ⟨fun c => ⟨?_, ?_⟩, ?_⟩
  · rw [hr, fin_arg _ (by decide)]
  · rw [hr, fin_arg _ (by decide)]
  · funext s; obtain ⟨t, s⟩ := s; cases s <;> (rename_i s; exact s.elim0)

end Cert.RefRun

end
-- ==== Proof.KDefs.lean ====
module

public import proofs.«01_k».proof.Proof.Gen.KernelIdeal.Frame
@[expose] public section

/-! What the kernel computes on one half block of 256 rows, layer by layer.  The kernel's own code names
    every step of every layer and of both halves separately; here each step has one definition. -/

noncomputable section
namespace Cert.KDefs
open Idealize.ShloMosaic
open Cert.KernelIdeal Cert.KernelIdeal.Gen
variable {F : FTy → Type} [FloatOps F]

/-- The row sums of squares of the residual, as a column. -/
def kRn (r : FVec F S256x32 .f32) : FVec F S256x1 .f32 :=
  shapeCast S256x1 (multiReduction .add [1] S256 (mulf r r) 0x00000000#32 reduces_S256x32_S256 (.inl rfl) rfl)
    shapeCasts_S256_S256x1

/-- The inner products of the rows with the codes. -/
def kMm (r : FVec F S256x32 .f32) (w : Vec F S1x1024x32 .f32) : FVec F S256x1024 .f32 :=
  matmul dot_S256x32_S1024x32_S256x1024_1_1_0_0_n_n none r
    (shapeCast S1024x32 w shapeCasts_S1x1024x32_S1024x32) (constant S256x1024 .f32 0x00000000#32)

/-- The distances of the rows to the codes; `n` holds the squared lengths of the codes. -/
def kD (r : FVec F S256x32 .f32) (w : Vec F S1x1024x32 .f32) (n : Vec F S1x1x1024 .f32) :
    FVec F S256x1024 .f32 :=
  addf
    (subf (broadcastTo S256x1024 (kRn r) broadcasts_S256x1_S256x1024)
      (mulf (broadcast S256x1024 (Scalar.ofBits .f32 0x40000000#32 : F .f32)) (kMm r w)))
    (broadcastTo S256x1024 (shapeCast S1x1024 n shapeCasts_S1x1x1024_S1x1024) broadcasts_S1x1024_S256x1024)

/-- The least distance of each row. -/
def kMin (d : FVec F S256x1024 .f32) : FVec F S256x1 .f32 :=
  shapeCast S256x1 (multiReduction .minimumf [1] S256 d 0x7F800000#32 reduces_S256x1024_S256 (.inl rfl) rfl)
    shapeCasts_S256_S256x1

/-- The column numbers. -/
def kIota : IVec S256x1024 32 := iota .tc S256x1024 32 [1] iota_S256x1024_d1_w32

/-- The first code at the least distance. -/
def kIdx (d : FVec F S256x1024 .f32) : IVec S256x1 32 :=
  shapeCast S256x1
    (multiReductionI .minsi [1] S256
      (select (cmpf .oeq d (broadcastTo S256x1024 (kMin d) broadcasts_S256x1_S256x1024)) kIota
        (broadcast S256x1024 1024#32))
      2147483647#32 reduces_S256x1024_S256 rfl)
    shapeCasts_S256_S256x1

/-- The exponentials of least distance minus distance. -/
def kExp (d : FVec F S256x1024 .f32) : FVec F S256x1024 .f32 :=
  exp (subf (broadcastTo S256x1024 (kMin d) broadcasts_S256x1_S256x1024) d)

/-- The soft assignment: each exponential times the reciprocal of their sum. -/
def kSoft (d : FVec F S256x1024 .f32) : FVec F S256x1024 .f32 :=
  mulf (kExp d)
    (broadcastTo S256x1024
      (divf (broadcast S256x1 (Scalar.ofBits .f32 0x3F800000#32 : F .f32))
        (shapeCast S256x1 (multiReduction .add [1] S256 (kExp d) 0x00000000#32 reduces_S256x1024_S256 (.inl rfl) rfl)
          shapeCasts_S256_S256x1))
      broadcasts_S256x1_S256x1024)

/-- The mean of the least distance over the 32 coordinates. -/
def kMean (d : FVec F S256x1024 .f32) : FVec F S256x1 .f32 :=
  mulf (kMin d) (broadcast S256x1 (Scalar.ofBits .f32 0x3D000000#32 : F .f32))

/-- The loss of each row. -/
def kLoss (d : FVec F S256x1024 .f32) : FVec F S256x1 .f32 :=
  addf (kMean d) (mulf (broadcast S256x1 (Scalar.ofBits .f32 0x3C23D70A#32 : F .f32)) (kMean d))

/-- The indicator of the chosen code. -/
def kHot (i : IVec S256x1 32) : FVec F S256x1024 .bf16 :=
  truncf .bf16 (sitofp .f32 (extui 32 (cmpi .eq kIota (broadcastTo S256x1024 i broadcasts_S256x1_S256x1024)) natLt_1_32))
    bitsLt_bf16_f32

/-- The indicator times one of the three parts of the code book. -/
def kPart (i : IVec S256x1 32) (b : Vec F S1x1024x32 .bf16) : FVec F S256x32 .f32 :=
  matmul dot_S256x1024_S1024x32_S256x32_1_0_0_1_n_n none (kHot (F := F) i)
    (shapeCast S1024x32 b shapeCasts_S1x1024x32_S1024x32) (constant S256x32 .f32 0x00000000#32)

/-- The residual plus (chosen code minus residual). -/
def kQuants (r : FVec F S256x32 .f32) (i : IVec S256x1 32) (b1 b2 b3 : Vec F S1x1024x32 .bf16) :
    FVec F S256x32 .f32 :=
  addf r (subf (addf (addf (kPart i b1) (kPart i b2)) (kPart i b3)) r)

section Layers
variable (r : FVec F S256x32 .f32) (w : ℕ → Vec F S1x1024x32 .f32) (n : ℕ → Vec F S1x1x1024 .f32)
  (b1 b2 b3 : ℕ → Vec F S1x1024x32 .bf16)

/-- The residual before layer `l`. -/
def kX : ℕ → FVec F S256x32 .f32
  | 0 => r
  | l + 1 => subf (kX l) (kQuants (kX l) (kIdx (kD (kX l) (w l) (n l))) (b1 l) (b2 l) (b3 l))

/-- The distances of layer `l`. -/
def kDist (l : ℕ) : FVec F S256x1024 .f32 := kD (kX r w n b1 b2 b3 l) (w l) (n l)

/-- What layer `l` adds to the quantised rows. -/
def kQ (l : ℕ) : FVec F S256x32 .f32 :=
  kQuants (kX r w n b1 b2 b3 l) (kIdx (kDist r w n b1 b2 b3 l)) (b1 l) (b2 l) (b3 l)

/-- The quantised rows after `l` layers. -/
def kAcc : ℕ → FVec F S256x32 .f32
  | 0 => broadcast S256x32 (Scalar.ofBits .f32 0x00000000#32 : F .f32)
  | l + 1 => addf (kAcc l) (kQ r w n b1 b2 b3 l)

end Layers

/-- One layer of the code books. -/
def ldW (x : Vec F S4x1024x32 .f32) : ℕ → Vec F S1x1024x32 .f32
  | 0 => View.ld x (Rect.unit ![0, 0, 0] ![1, 1024, 32] inb_S4x1024x32_S1x1024x32_0_0_0)
  | 1 => View.ld x (Rect.unit ![1, 0, 0] ![1, 1024, 32] inb_S4x1024x32_S1x1024x32_1_0_0)
  | 2 => View.ld x (Rect.unit ![2, 0, 0] ![1, 1024, 32] inb_S4x1024x32_S1x1024x32_2_0_0)
  | _ => View.ld x (Rect.unit ![3, 0, 0] ![1, 1024, 32] inb_S4x1024x32_S1x1024x32_3_0_0)

/-- One layer of a part of the code books. -/
def ldB (x : Vec F S4x1024x32 .bf16) : ℕ → Vec F S1x1024x32 .bf16
  | 0 => View.ld x (Rect.unit ![0, 0, 0] ![1, 1024, 32] inb_S4x1024x32_S1x1024x32_0_0_0)
  | 1 => View.ld x (Rect.unit ![1, 0, 0] ![1, 1024, 32] inb_S4x1024x32_S1x1024x32_1_0_0)
  | 2 => View.ld x (Rect.unit ![2, 0, 0] ![1, 1024, 32] inb_S4x1024x32_S1x1024x32_2_0_0)
  | _ => View.ld x (Rect.unit ![3, 0, 0] ![1, 1024, 32] inb_S4x1024x32_S1x1024x32_3_0_0)

/-- One layer of the squared lengths. -/
def ldN (x : Vec F S4x1x1024 .f32) : ℕ → Vec F S1x1x1024 .f32
  | 0 => View.ld x (Rect.unit ![0, 0, 0] ![1, 1, 1024] inb_S4x1x1024_S1x1x1024_0_0_0)
  | 1 => View.ld x (Rect.unit ![1, 0, 0] ![1, 1, 1024] inb_S4x1x1024_S1x1x1024_1_0_0)
  | 2 => View.ld x (Rect.unit ![2, 0, 0] ![1, 1, 1024] inb_S4x1x1024_S1x1x1024_2_0_0)
  | _ => View.ld x (Rect.unit ![3, 0, 0] ![1, 1, 1024] inb_S4x1x1024_S1x1x1024_3_0_0)

/-- The first half of the block's rows. -/
def ldLo (x : Vec F S512x32 .f32) : FVec F S256x32 .f32 :=
  View.ld x (Rect.unit ![0, 0] ![256, 32] inb_S512x32_S256x32_0_0)

/-- The second half of the block's rows. -/
def ldHi (x : Vec F S512x32 .f32) : FVec F S256x32 .f32 :=
  View.ld x (Rect.unit ![256, 0] ![256, 32] inb_S512x32_S256x32_256_0)

/-- The squared lengths of the codes of one layer. -/
def kCn (w : Vec F S1x1024x32 .f32) : FVec F S1x1x1024 .f32 :=
  shapeCast S1x1x1024
    (matmul dot_S1x32_S1024x32_S1x1024_1_1_0_0_n_n (some .fp32)
      (broadcast S1x32 (Scalar.ofBits .f32 0x3F800000#32 : F .f32))
      (mulf (shapeCast S1024x32 w shapeCasts_S1x1024x32_S1024x32)
        (shapeCast S1024x32 w shapeCasts_S1x1024x32_S1024x32))
      (constant S1x1024 .f32 0x00000000#32))
    shapeCasts_S1x1024_S1x1x1024

/-- The first part of a code book. -/
def kM1 (w : Vec F S1x1024x32 .f32) : FVec F S1024x32 .bf16 :=
  truncf .bf16 (shapeCast S1024x32 w shapeCasts_S1x1024x32_S1024x32) bitsLt_bf16_f32

/-- What the first part leaves. -/
def kR1 (w : Vec F S1x1024x32 .f32) : FVec F S1024x32 .f32 :=
  subf (shapeCast S1024x32 w shapeCasts_S1x1024x32_S1024x32) (extf .f32 (kM1 w) bitsLt_bf16_f32)

/-- The second part. -/
def kM2 (w : Vec F S1x1024x32 .f32) : FVec F S1024x32 .bf16 := truncf .bf16 (kR1 w) bitsLt_bf16_f32

/-- The third part. -/
def kM3 (w : Vec F S1x1024x32 .f32) : FVec F S1024x32 .bf16 :=
  truncf .bf16 (subf (kR1 w) (extf .f32 (kM2 w) bitsLt_bf16_f32)) bitsLt_bf16_f32

/-- A part as the scratch memory stores it. -/
def kSt (p : FVec F S1024x32 .bf16) : FVec F S1x1024x32 .bf16 :=
  shapeCast S1x1024x32 p shapeCasts_S1024x32_S1x1024x32

end Cert.KDefs
end
-- ==== Proof.KBlockA.lean ====
module

public import proofs.«01_k».proof.Proof.KDefs
public import Idealize.ShloMosaic.Lib.Pipeline.ReadBack
@[expose] public section

/-! The kernel's output blocks at a point 0, which fills the scratch memories first, in the words of `KDefs`. -/

noncomputable section
namespace Cert.KBlockA
open Idealize.ShloMosaic Idealize.ShloMosaic.TcCoe Idealize.ShloMosaic.Tactic
open Idealize.SL Idealize.SL.Sem
open Cert.KernelIdeal Cert.KernelIdeal.Gen Cert.KDefs
set_option maxRecDepth 100000
variable {F : FTy → Type} [FloatOps F]

/-- The block of the indices. -/
theorem out_2 (c : Dev nD) (i : grid0.Coords) (arg1 : Memref sig .tc .vmem S512x32 .f32) (harg1 : arg1.IsWhole) (arg2 : Memref sig .tc .vmem S4x1024x32 .f32) (harg2 : arg2.IsWhole) (arg3 : Memref sig .tc .vmem S512x4 .i32) (harg3 : arg3.IsWhole) (arg4 : Memref sig .tc .vmem S512x1024 .f32) (harg4 : arg4.IsWhole) (arg5 : Memref sig .tc .vmem S512x1024 .f32) (harg5 : arg5.IsWhole) (arg6 : Memref sig .tc .vmem S512x1024 .f32) (harg6 : arg6.IsWhole) (arg7 : Memref sig .tc .vmem S512x1024 .f32) (harg7 : arg7.IsWhole) (arg8 : Memref sig .tc .vmem S512x32 .f32) (harg8 : arg8.IsWhole) (arg9 : Memref sig .tc .vmem S512x4 .f32) (harg9 : arg9.IsWhole) (arg10 : Memref sig .tc .vmem S4x1x1024 .f32) (harg10 : arg10.IsWhole) (arg11 : Memref sig .tc .vmem S4x1024x32 .bf16) (harg11 : arg11.IsWhole) (arg12 : Memref sig .tc .vmem S4x1024x32 .bf16) (harg12 : arg12.IsWhole) (arg13 : Memref sig .tc .vmem S4x1024x32 .bf16) (harg13 : arg13.IsWhole) (hc0 : cond0_0 i) (x0 : Vec F S512x32 .f32) (x1 : Vec F S4x1024x32 .f32) :
    out0_A_2 c i arg1 harg1 arg2 harg2 arg3 harg3 arg4 harg4 arg5 harg5 arg6 harg6 arg7 harg7 arg8 harg8 arg9 harg9 arg10 harg10 arg11 harg11 arg12 harg12 arg13 harg13 hc0 x0 x1 = View.canon
      [⟨Rect.unit ![256, 3] ![256, 1] inb_S512x4_S256x1_256_3, kIdx (kDist (ldHi x0) (ldW x1) (fun l => kCn (ldW x1 l)) (fun l => kSt (kM1 (ldW x1 l))) (fun l => kSt (kM2 (ldW x1 l))) (fun l => kSt (kM3 (ldW x1 l))) 3)⟩,
       ⟨Rect.unit ![256, 2] ![256, 1] inb_S512x4_S256x1_256_2, kIdx (kDist (ldHi x0) (ldW x1) (fun l => kCn (ldW x1 l)) (fun l => kSt (kM1 (ldW x1 l))) (fun l => kSt (kM2 (ldW x1 l))) (fun l => kSt (kM3 (ldW x1 l))) 2)⟩,
       ⟨Rect.unit ![256, 1] ![256, 1] inb_S512x4_S256x1_256_1, kIdx (kDist (ldHi x0) (ldW x1) (fun l => kCn (ldW x1 l)) (fun l => kSt (kM1 (ldW x1 l))) (fun l => kSt (kM2 (ldW x1 l))) (fun l => kSt (kM3 (ldW x1 l))) 1)⟩,
       ⟨Rect.unit ![256, 0] ![256, 1] inb_S512x4_S256x1_256_0, kIdx (kDist (ldHi x0) (ldW x1) (fun l => kCn (ldW x1 l)) (fun l => kSt (kM1 (ldW x1 l))) (fun l => kSt (kM2 (ldW x1 l))) (fun l => kSt (kM3 (ldW x1 l))) 0)⟩,
       ⟨Rect.unit ![0, 3] ![256, 1] inb_S512x4_S256x1_0_3, kIdx (kDist (ldLo x0) (ldW x1) (fun l => kCn (ldW x1 l)) (fun l => kSt (kM1 (ldW x1 l))) (fun l => kSt (kM2 (ldW x1 l))) (fun l => kSt (kM3 (ldW x1 l))) 3)⟩,
       ⟨Rect.unit ![0, 2] ![256, 1] inb_S512x4_S256x1_0_2, kIdx (kDist (ldLo x0) (ldW x1) (fun l => kCn (ldW x1 l)) (fun l => kSt (kM1 (ldW x1 l))) (fun l => kSt (kM2 (ldW x1 l))) (fun l => kSt (kM3 (ldW x1 l))) 2)⟩,
       ⟨Rect.unit ![0, 1] ![256, 1] inb_S512x4_S256x1_0_1, kIdx (kDist (ldLo x0) (ldW x1) (fun l => kCn (ldW x1 l)) (fun l => kSt (kM1 (ldW x1 l))) (fun l => kSt (kM2 (ldW x1 l))) (fun l => kSt (kM3 (ldW x1 l))) 1)⟩,
       ⟨Rect.unit ![0, 0] ![256, 1] inb_S512x4_S256x1_0_0, kIdx (kDist (ldLo x0) (ldW x1) (fun l => kCn (ldW x1 l)) (fun l => kSt (kM1 (ldW x1 l))) (fun l => kSt (kM2 (ldW x1 l))) (fun l => kSt (kM3 (ldW x1 l))) 0)⟩] := by
  unfold out0_A_2
  rw [View.read_writes_eq_canon _ _ _ (cover0_A_2 c i arg1 harg1 arg2 harg2 arg3 harg3 arg4 harg4 arg5 harg5 arg6 harg6 arg7 harg7 arg8 harg8 arg9 harg9 arg10 harg10 arg11 harg11 arg12 harg12 arg13 harg13 hc0 x0 x1)]
  unfold kernelRun0_A; dsimp only; sl_unfold_words
  simp (disch := decide) only [↓ View.readCov_skip, ↓ View.readCov_cons_toLoadRect]
  simp only [View.readAt_eq_ld, harg1.read_unread, harg2.read_unread]
  rfl

/-- The block of the soft assignment of layer 0. -/
theorem out_3 (c : Dev nD) (i : grid0.Coords) (arg1 : Memref sig .tc .vmem S512x32 .f32) (harg1 : arg1.IsWhole) (arg2 : Memref sig .tc .vmem S4x1024x32 .f32) (harg2 : arg2.IsWhole) (arg3 : Memref sig .tc .vmem S512x4 .i32) (harg3 : arg3.IsWhole) (arg4 : Memref sig .tc .vmem S512x1024 .f32) (harg4 : arg4.IsWhole) (arg5 : Memref sig .tc .vmem S512x1024 .f32) (harg5 : arg5.IsWhole) (arg6 : Memref sig .tc .vmem S512x1024 .f32) (harg6 : arg6.IsWhole) (arg7 : Memref sig .tc .vmem S512x1024 .f32) (harg7 : arg7.IsWhole) (arg8 : Memref sig .tc .vmem S512x32 .f32) (harg8 : arg8.IsWhole) (arg9 : Memref sig .tc .vmem S512x4 .f32) (harg9 : arg9.IsWhole) (arg10 : Memref sig .tc .vmem S4x1x1024 .f32) (harg10 : arg10.IsWhole) (arg11 : Memref sig .tc .vmem S4x1024x32 .bf16) (harg11 : arg11.IsWhole) (arg12 : Memref sig .tc .vmem S4x1024x32 .bf16) (harg12 : arg12.IsWhole) (arg13 : Memref sig .tc .vmem S4x1024x32 .bf16) (harg13 : arg13.IsWhole) (hc0 : cond0_0 i) (x0 : Vec F S512x32 .f32) (x1 : Vec F S4x1024x32 .f32) :
    out0_A_3 c i arg1 harg1 arg2 harg2 arg3 harg3 arg4 harg4 arg5 harg5 arg6 harg6 arg7 harg7 arg8 harg8 arg9 harg9 arg10 harg10 arg11 harg11 arg12 harg12 arg13 harg13 hc0 x0 x1 = View.canon
      [⟨Rect.unit ![256, 0] ![256, 1024] inb_S512x1024_S256x1024_256_0, kSoft (kDist (ldHi x0) (ldW x1) (fun l => kCn (ldW x1 l)) (fun l => kSt (kM1 (ldW x1 l))) (fun l => kSt (kM2 (ldW x1 l))) (fun l => kSt (kM3 (ldW x1 l))) 0)⟩,
       ⟨Rect.unit ![0, 0] ![256, 1024] inb_S512x1024_S256x1024_0_0, kSoft (kDist (ldLo x0) (ldW x1) (fun l => kCn (ldW x1 l)) (fun l => kSt (kM1 (ldW x1 l))) (fun l => kSt (kM2 (ldW x1 l))) (fun l => kSt (kM3 (ldW x1 l))) 0)⟩] := by
  unfold out0_A_3
  rw [View.read_writes_eq_canon _ _ _ (cover0_A_3 c i arg1 harg1 arg2 harg2 arg3 harg3 arg4 harg4 arg5 harg5 arg6 harg6 arg7 harg7 arg8 harg8 arg9 harg9 arg10 harg10 arg11 harg11 arg12 harg12 arg13 harg13 hc0 x0 x1)]
  unfold kernelRun0_A; dsimp only; sl_unfold_words
  simp (disch := decide) only [↓ View.readCov_skip, ↓ View.readCov_cons_toLoadRect]
  simp only [View.readAt_eq_ld, harg1.read_unread, harg2.read_unread]
  rfl

/-- The block of the soft assignment of layer 1. -/
theorem out_4 (c : Dev nD) (i : grid0.Coords) (arg1 : Memref sig .tc .vmem S512x32 .f32) (harg1 : arg1.IsWhole) (arg2 : Memref sig .tc .vmem S4x1024x32 .f32) (harg2 : arg2.IsWhole) (arg3 : Memref sig .tc .vmem S512x4 .i32) (harg3 : arg3.IsWhole) (arg4 : Memref sig .tc .vmem S512x1024 .f32) (harg4 : arg4.IsWhole) (arg5 : Memref sig .tc .vmem S512x1024 .f32) (harg5 : arg5.IsWhole) (arg6 : Memref sig .tc .vmem S512x1024 .f32) (harg6 : arg6.IsWhole) (arg7 : Memref sig .tc .vmem S512x1024 .f32) (harg7 : arg7.IsWhole) (arg8 : Memref sig .tc .vmem S512x32 .f32) (harg8 : arg8.IsWhole) (arg9 : Memref sig .tc .vmem S512x4 .f32) (harg9 : arg9.IsWhole) (arg10 : Memref sig .tc .vmem S4x1x1024 .f32) (harg10 : arg10.IsWhole) (arg11 : Memref sig .tc .vmem S4x1024x32 .bf16) (harg11 : arg11.IsWhole) (arg12 : Memref sig .tc .vmem S4x1024x32 .bf16) (harg12 : arg12.IsWhole) (arg13 : Memref sig .tc .vmem S4x1024x32 .bf16) (harg13 : arg13.IsWhole) (hc0 : cond0_0 i) (x0 : Vec F S512x32 .f32) (x1 : Vec F S4x1024x32 .f32) :
    out0_A_4 c i arg1 harg1 arg2 harg2 arg3 harg3 arg4 harg4 arg5 harg5 arg6 harg6 arg7 harg7 arg8 harg8 arg9 harg9 arg10 harg10 arg11 harg11 arg12 harg12 arg13 harg13 hc0 x0 x1 = View.canon
      [⟨Rect.unit ![256, 0] ![256, 1024] inb_S512x1024_S256x1024_256_0, kSoft (kDist (ldHi x0) (ldW x1) (fun l => kCn (ldW x1 l)) (fun l => kSt (kM1 (ldW x1 l))) (fun l => kSt (kM2 (ldW x1 l))) (fun l => kSt (kM3 (ldW x1 l))) 1)⟩,
       ⟨Rect.unit ![0, 0] ![256, 1024] inb_S512x1024_S256x1024_0_0, kSoft (kDist (ldLo x0) (ldW x1) (fun l => kCn (ldW x1 l)) (fun l => kSt (kM1 (ldW x1 l))) (fun l => kSt (kM2 (ldW x1 l))) (fun l => kSt (kM3 (ldW x1 l))) 1)⟩] := by
  unfold out0_A_4
  rw [View.read_writes_eq_canon _ _ _ (cover0_A_4 c i arg1 harg1 arg2 harg2 arg3 harg3 arg4 harg4 arg5 harg5 arg6 harg6 arg7 harg7 arg8 harg8 arg9 harg9 arg10 harg10 arg11 harg11 arg12 harg12 arg13 harg13 hc0 x0 x1)]
  unfold kernelRun0_A; dsimp only; sl_unfold_words
  simp (disch := decide) only [↓ View.readCov_skip, ↓ View.readCov_cons_toLoadRect]
  simp only [View.readAt_eq_ld, harg1.read_unread, harg2.read_unread]
  rfl

/-- The block of the soft assignment of layer 2. -/
theorem out_5 (c : Dev nD) (i : grid0.Coords) (arg1 : Memref sig .tc .vmem S512x32 .f32) (harg1 : arg1.IsWhole) (arg2 : Memref sig .tc .vmem S4x1024x32 .f32) (harg2 : arg2.IsWhole) (arg3 : Memref sig .tc .vmem S512x4 .i32) (harg3 : arg3.IsWhole) (arg4 : Memref sig .tc .vmem S512x1024 .f32) (harg4 : arg4.IsWhole) (arg5 : Memref sig .tc .vmem S512x1024 .f32) (harg5 : arg5.IsWhole) (arg6 : Memref sig .tc .vmem S512x1024 .f32) (harg6 : arg6.IsWhole) (arg7 : Memref sig .tc .vmem S512x1024 .f32) (harg7 : arg7.IsWhole) (arg8 : Memref sig .tc .vmem S512x32 .f32) (harg8 : arg8.IsWhole) (arg9 : Memref sig .tc .vmem S512x4 .f32) (harg9 : arg9.IsWhole) (arg10 : Memref sig .tc .vmem S4x1x1024 .f32) (harg10 : arg10.IsWhole) (arg11 : Memref sig .tc .vmem S4x1024x32 .bf16) (harg11 : arg11.IsWhole) (arg12 : Memref sig .tc .vmem S4x1024x32 .bf16) (harg12 : arg12.IsWhole) (arg13 : Memref sig .tc .vmem S4x1024x32 .bf16) (harg13 : arg13.IsWhole) (hc0 : cond0_0 i) (x0 : Vec F S512x32 .f32) (x1 : Vec F S4x1024x32 .f32) :
    out0_A_5 c i arg1 harg1 arg2 harg2 arg3 harg3 arg4 harg4 arg5 harg5 arg6 harg6 arg7 harg7 arg8 harg8 arg9 harg9 arg10 harg10 arg11 harg11 arg12 harg12 arg13 harg13 hc0 x0 x1 = View.canon
      [⟨Rect.unit ![256, 0] ![256, 1024] inb_S512x1024_S256x1024_256_0, kSoft (kDist (ldHi x0) (ldW x1) (fun l => kCn (ldW x1 l)) (fun l => kSt (kM1 (ldW x1 l))) (fun l => kSt (kM2 (ldW x1 l))) (fun l => kSt (kM3 (ldW x1 l))) 2)⟩,
       ⟨Rect.unit ![0, 0] ![256, 1024] inb_S512x1024_S256x1024_0_0, kSoft (kDist (ldLo x0) (ldW x1) (fun l => kCn (ldW x1 l)) (fun l => kSt (kM1 (ldW x1 l))) (fun l => kSt (kM2 (ldW x1 l))) (fun l => kSt (kM3 (ldW x1 l))) 2)⟩] := by
  unfold out0_A_5
  rw [View.read_writes_eq_canon _ _ _ (cover0_A_5 c i arg1 harg1 arg2 harg2 arg3 harg3 arg4 harg4 arg5 harg5 arg6 harg6 arg7 harg7 arg8 harg8 arg9 harg9 arg10 harg10 arg11 harg11 arg12 harg12 arg13 harg13 hc0 x0 x1)]
  unfold kernelRun0_A; dsimp only; sl_unfold_words
  simp (disch := decide) only [↓ View.readCov_skip, ↓ View.readCov_cons_toLoadRect]
  simp only [View.readAt_eq_ld, harg1.read_unread, harg2.read_unread]
  rfl

/-- The block of the soft assignment of layer 3. -/
theorem out_6 (c : Dev nD) (i : grid0.Coords) (arg1 : Memref sig .tc .vmem S512x32 .f32) (harg1 : arg1.IsWhole) (arg2 : Memref sig .tc .vmem S4x1024x32 .f32) (harg2 : arg2.IsWhole) (arg3 : Memref sig .tc .vmem S512x4 .i32) (harg3 : arg3.IsWhole) (arg4 : Memref sig .tc .vmem S512x1024 .f32) (harg4 : arg4.IsWhole) (arg5 : Memref sig .tc .vmem S512x1024 .f32) (harg5 : arg5.IsWhole) (arg6 : Memref sig .tc .vmem S512x1024 .f32) (harg6 : arg6.IsWhole) (arg7 : Memref sig .tc .vmem S512x1024 .f32) (harg7 : arg7.IsWhole) (arg8 : Memref sig .tc .vmem S512x32 .f32) (harg8 : arg8.IsWhole) (arg9 : Memref sig .tc .vmem S512x4 .f32) (harg9 : arg9.IsWhole) (arg10 : Memref sig .tc .vmem S4x1x1024 .f32) (harg10 : arg10.IsWhole) (arg11 : Memref sig .tc .vmem S4x1024x32 .bf16) (harg11 : arg11.IsWhole) (arg12 : Memref sig .tc .vmem S4x1024x32 .bf16) (harg12 : arg12.IsWhole) (arg13 : Memref sig .tc .vmem S4x1024x32 .bf16) (harg13 : arg13.IsWhole) (hc0 : cond0_0 i) (x0 : Vec F S512x32 .f32) (x1 : Vec F S4x1024x32 .f32) :
    out0_A_6 c i arg1 harg1 arg2 harg2 arg3 harg3 arg4 harg4 arg5 harg5 arg6 harg6 arg7 harg7 arg8 harg8 arg9 harg9 arg10 harg10 arg11 harg11 arg12 harg12 arg13 harg13 hc0 x0 x1 = View.canon
      [⟨Rect.unit ![256, 0] ![256, 1024] inb_S512x1024_S256x1024_256_0, kSoft (kDist (ldHi x0) (ldW x1) (fun l => kCn (ldW x1 l)) (fun l => kSt (kM1 (ldW x1 l))) (fun l => kSt (kM2 (ldW x1 l))) (fun l => kSt (kM3 (ldW x1 l))) 3)⟩,
       ⟨Rect.unit ![0, 0] ![256, 1024] inb_S512x1024_S256x1024_0_0, kSoft (kDist (ldLo x0) (ldW x1) (fun l => kCn (ldW x1 l)) (fun l => kSt (kM1 (ldW x1 l))) (fun l => kSt (kM2 (ldW x1 l))) (fun l => kSt (kM3 (ldW x1 l))) 3)⟩] := by
  unfold out0_A_6
  rw [View.read_writes_eq_canon _ _ _ (cover0_A_6 c i arg1 harg1 arg2 harg2 arg3 harg3 arg4 harg4 arg5 harg5 arg6 harg6 arg7 harg7 arg8 harg8 arg9 harg9 arg10 harg10 arg11 harg11 arg12 harg12 arg13 harg13 hc0 x0 x1)]
  unfold kernelRun0_A; dsimp only; sl_unfold_words
  simp (disch := decide) only [↓ View.readCov_skip, ↓ View.readCov_cons_toLoadRect]
  simp only [View.readAt_eq_ld, harg1.read_unread, harg2.read_unread]
  rfl

/-- The block of the quantised rows. -/
theorem out_7 (c : Dev nD) (i : grid0.Coords) (arg1 : Memref sig .tc .vmem S512x32 .f32) (harg1 : arg1.IsWhole) (arg2 : Memref sig .tc .vmem S4x1024x32 .f32) (harg2 : arg2.IsWhole) (arg3 : Memref sig .tc .vmem S512x4 .i32) (harg3 : arg3.IsWhole) (arg4 : Memref sig .tc .vmem S512x1024 .f32) (harg4 : arg4.IsWhole) (arg5 : Memref sig .tc .vmem S512x1024 .f32) (harg5 : arg5.IsWhole) (arg6 : Memref sig .tc .vmem S512x1024 .f32) (harg6 : arg6.IsWhole) (arg7 : Memref sig .tc .vmem S512x1024 .f32) (harg7 : arg7.IsWhole) (arg8 : Memref sig .tc .vmem S512x32 .f32) (harg8 : arg8.IsWhole) (arg9 : Memref sig .tc .vmem S512x4 .f32) (harg9 : arg9.IsWhole) (arg10 : Memref sig .tc .vmem S4x1x1024 .f32) (harg10 : arg10.IsWhole) (arg11 : Memref sig .tc .vmem S4x1024x32 .bf16) (harg11 : arg11.IsWhole) (arg12 : Memref sig .tc .vmem S4x1024x32 .bf16) (harg12 : arg12.IsWhole) (arg13 : Memref sig .tc .vmem S4x1024x32 .bf16) (harg13 : arg13.IsWhole) (hc0 : cond0_0 i) (x0 : Vec F S512x32 .f32) (x1 : Vec F S4x1024x32 .f32) :
    out0_A_7 c i arg1 harg1 arg2 harg2 arg3 harg3 arg4 harg4 arg5 harg5 arg6 harg6 arg7 harg7 arg8 harg8 arg9 harg9 arg10 harg10 arg11 harg11 arg12 harg12 arg13 harg13 hc0 x0 x1 = View.canon
      [⟨Rect.unit ![256, 0] ![256, 32] inb_S512x32_S256x32_256_0, (kAcc (ldHi x0) (ldW x1) (fun l => kCn (ldW x1 l)) (fun l => kSt (kM1 (ldW x1 l))) (fun l => kSt (kM2 (ldW x1 l))) (fun l => kSt (kM3 (ldW x1 l))) 4)⟩,
       ⟨Rect.unit ![0, 0] ![256, 32] inb_S512x32_S256x32_0_0, (kAcc (ldLo x0) (ldW x1) (fun l => kCn (ldW x1 l)) (fun l => kSt (kM1 (ldW x1 l))) (fun l => kSt (kM2 (ldW x1 l))) (fun l => kSt (kM3 (ldW x1 l))) 4)⟩] := by
  unfold out0_A_7
  rw [View.read_writes_eq_canon _ _ _ (cover0_A_7 c i arg1 harg1 arg2 harg2 arg3 harg3 arg4 harg4 arg5 harg5 arg6 harg6 arg7 harg7 arg8 harg8 arg9 harg9 arg10 harg10 arg11 harg11 arg12 harg12 arg13 harg13 hc0 x0 x1)]
  unfold kernelRun0_A; dsimp only; sl_unfold_words
  simp (disch := decide) only [↓ View.readCov_skip, ↓ View.readCov_cons_toLoadRect]
  simp only [View.readAt_eq_ld, harg1.read_unread, harg2.read_unread]
  rfl

/-- The block of the losses. -/
theorem out_8 (c : Dev nD) (i : grid0.Coords) (arg1 : Memref sig .tc .vmem S512x32 .f32) (harg1 : arg1.IsWhole) (arg2 : Memref sig .tc .vmem S4x1024x32 .f32) (harg2 : arg2.IsWhole) (arg3 : Memref sig .tc .vmem S512x4 .i32) (harg3 : arg3.IsWhole) (arg4 : Memref sig .tc .vmem S512x1024 .f32) (harg4 : arg4.IsWhole) (arg5 : Memref sig .tc .vmem S512x1024 .f32) (harg5 : arg5.IsWhole) (arg6 : Memref sig .tc .vmem S512x1024 .f32) (harg6 : arg6.IsWhole) (arg7 : Memref sig .tc .vmem S512x1024 .f32) (harg7 : arg7.IsWhole) (arg8 : Memref sig .tc .vmem S512x32 .f32) (harg8 : arg8.IsWhole) (arg9 : Memref sig .tc .vmem S512x4 .f32) (harg9 : arg9.IsWhole) (arg10 : Memref sig .tc .vmem S4x1x1024 .f32) (harg10 : arg10.IsWhole) (arg11 : Memref sig .tc .vmem S4x1024x32 .bf16) (harg11 : arg11.IsWhole) (arg12 : Memref sig .tc .vmem S4x1024x32 .bf16) (harg12 : arg12.IsWhole) (arg13 : Memref sig .tc .vmem S4x1024x32 .bf16) (harg13 : arg13.IsWhole) (hc0 : cond0_0 i) (x0 : Vec F S512x32 .f32) (x1 : Vec F S4x1024x32 .f32) :
    out0_A_8 c i arg1 harg1 arg2 harg2 arg3 harg3 arg4 harg4 arg5 harg5 arg6 harg6 arg7 harg7 arg8 harg8 arg9 harg9 arg10 harg10 arg11 harg11 arg12 harg12 arg13 harg13 hc0 x0 x1 = View.canon
      [⟨Rect.unit ![256, 3] ![256, 1] inb_S512x4_S256x1_256_3, kLoss (kDist (ldHi x0) (ldW x1) (fun l => kCn (ldW x1 l)) (fun l => kSt (kM1 (ldW x1 l))) (fun l => kSt (kM2 (ldW x1 l))) (fun l => kSt (kM3 (ldW x1 l))) 3)⟩,
       ⟨Rect.unit ![256, 2] ![256, 1] inb_S512x4_S256x1_256_2, kLoss (kDist (ldHi x0) (ldW x1) (fun l => kCn (ldW x1 l)) (fun l => kSt (kM1 (ldW x1 l))) (fun l => kSt (kM2 (ldW x1 l))) (fun l => kSt (kM3 (ldW x1 l))) 2)⟩,
       ⟨Rect.unit ![256, 1] ![256, 1] inb_S512x4_S256x1_256_1, kLoss (kDist (ldHi x0) (ldW x1) (fun l => kCn (ldW x1 l)) (fun l => kSt (kM1 (ldW x1 l))) (fun l => kSt (kM2 (ldW x1 l))) (fun l => kSt (kM3 (ldW x1 l))) 1)⟩,
       ⟨Rect.unit ![256, 0] ![256, 1] inb_S512x4_S256x1_256_0, kLoss (kDist (ldHi x0) (ldW x1) (fun l => kCn (ldW x1 l)) (fun l => kSt (kM1 (ldW x1 l))) (fun l => kSt (kM2 (ldW x1 l))) (fun l => kSt (kM3 (ldW x1 l))) 0)⟩,
       ⟨Rect.unit ![0, 3] ![256, 1] inb_S512x4_S256x1_0_3, kLoss (kDist (ldLo x0) (ldW x1) (fun l => kCn (ldW x1 l)) (fun l => kSt (kM1 (ldW x1 l))) (fun l => kSt (kM2 (ldW x1 l))) (fun l => kSt (kM3 (ldW x1 l))) 3)⟩,
       ⟨Rect.unit ![0, 2] ![256, 1] inb_S512x4_S256x1_0_2, kLoss (kDist (ldLo x0) (ldW x1) (fun l => kCn (ldW x1 l)) (fun l => kSt (kM1 (ldW x1 l))) (fun l => kSt (kM2 (ldW x1 l))) (fun l => kSt (kM3 (ldW x1 l))) 2)⟩,
       ⟨Rect.unit ![0, 1] ![256, 1] inb_S512x4_S256x1_0_1, kLoss (kDist (ldLo x0) (ldW x1) (fun l => kCn (ldW x1 l)) (fun l => kSt (kM1 (ldW x1 l))) (fun l => kSt (kM2 (ldW x1 l))) (fun l => kSt (kM3 (ldW x1 l))) 1)⟩,
       ⟨Rect.unit ![0, 0] ![256, 1] inb_S512x4_S256x1_0_0, kLoss (kDist (ldLo x0) (ldW x1) (fun l => kCn (ldW x1 l)) (fun l => kSt (kM1 (ldW x1 l))) (fun l => kSt (kM2 (ldW x1 l))) (fun l => kSt (kM3 (ldW x1 l))) 0)⟩] := by
  unfold out0_A_8
  rw [View.read_writes_eq_canon _ _ _ (cover0_A_8 c i arg1 harg1 arg2 harg2 arg3 harg3 arg4 harg4 arg5 harg5 arg6 harg6 arg7 harg7 arg8 harg8 arg9 harg9 arg10 harg10 arg11 harg11 arg12 harg12 arg13 harg13 hc0 x0 x1)]
  unfold kernelRun0_A; dsimp only; sl_unfold_words
  simp (disch := decide) only [↓ View.readCov_skip, ↓ View.readCov_cons_toLoadRect]
  simp only [View.readAt_eq_ld, harg1.read_unread, harg2.read_unread]
  rfl

/-- What the point leaves in the scratch memory of the squared lengths. -/
theorem scr_0 (c : Dev nD) (i : grid0.Coords) (arg1 : Memref sig .tc .vmem S512x32 .f32) (harg1 : arg1.IsWhole) (arg2 : Memref sig .tc .vmem S4x1024x32 .f32) (harg2 : arg2.IsWhole) (arg3 : Memref sig .tc .vmem S512x4 .i32) (harg3 : arg3.IsWhole) (arg4 : Memref sig .tc .vmem S512x1024 .f32) (harg4 : arg4.IsWhole) (arg5 : Memref sig .tc .vmem S512x1024 .f32) (harg5 : arg5.IsWhole) (arg6 : Memref sig .tc .vmem S512x1024 .f32) (harg6 : arg6.IsWhole) (arg7 : Memref sig .tc .vmem S512x1024 .f32) (harg7 : arg7.IsWhole) (arg8 : Memref sig .tc .vmem S512x32 .f32) (harg8 : arg8.IsWhole) (arg9 : Memref sig .tc .vmem S512x4 .f32) (harg9 : arg9.IsWhole) (arg10 : Memref sig .tc .vmem S4x1x1024 .f32) (harg10 : arg10.IsWhole) (arg11 : Memref sig .tc .vmem S4x1024x32 .bf16) (harg11 : arg11.IsWhole) (arg12 : Memref sig .tc .vmem S4x1024x32 .bf16) (harg12 : arg12.IsWhole) (arg13 : Memref sig .tc .vmem S4x1024x32 .bf16) (harg13 : arg13.IsWhole) (hc0 : cond0_0 i) (x0 : Vec F S512x32 .f32) (x1 : Vec F S4x1024x32 .f32) :
    sout0_A_0 c i arg1 harg1 arg2 harg2 arg3 harg3 arg4 harg4 arg5 harg5 arg6 harg6 arg7 harg7 arg8 harg8 arg9 harg9 arg10 harg10 arg11 harg11 arg12 harg12 arg13 harg13 hc0 x0 x1 = View.canon
      [⟨Rect.unit ![3, 0, 0] ![1, 1, 1024] inb_S4x1x1024_S1x1x1024_3_0_0, kCn (ldW x1 3)⟩,
       ⟨Rect.unit ![2, 0, 0] ![1, 1, 1024] inb_S4x1x1024_S1x1x1024_2_0_0, kCn (ldW x1 2)⟩,
       ⟨Rect.unit ![1, 0, 0] ![1, 1, 1024] inb_S4x1x1024_S1x1x1024_1_0_0, kCn (ldW x1 1)⟩,
       ⟨Rect.unit ![0, 0, 0] ![1, 1, 1024] inb_S4x1x1024_S1x1x1024_0_0_0, kCn (ldW x1 0)⟩] := by
  unfold sout0_A_0
  rw [View.read_writes_eq_canon _ _ _ (scover0_A_0 c i arg1 harg1 arg2 harg2 arg3 harg3 arg4 harg4 arg5 harg5 arg6 harg6 arg7 harg7 arg8 harg8 arg9 harg9 arg10 harg10 arg11 harg11 arg12 harg12 arg13 harg13 hc0 x0 x1)]
  unfold kernelRun0_A; dsimp only; sl_unfold_words
  simp only [View.readAt_eq_ld, harg1.read_unread, harg2.read_unread]
  rfl

/-- What the point leaves in the scratch memory of the part 1 of the code books. -/
theorem scr_1 (c : Dev nD) (i : grid0.Coords) (arg1 : Memref sig .tc .vmem S512x32 .f32) (harg1 : arg1.IsWhole) (arg2 : Memref sig .tc .vmem S4x1024x32 .f32) (harg2 : arg2.IsWhole) (arg3 : Memref sig .tc .vmem S512x4 .i32) (harg3 : arg3.IsWhole) (arg4 : Memref sig .tc .vmem S512x1024 .f32) (harg4 : arg4.IsWhole) (arg5 : Memref sig .tc .vmem S512x1024 .f32) (harg5 : arg5.IsWhole) (arg6 : Memref sig .tc .vmem S512x1024 .f32) (harg6 : arg6.IsWhole) (arg7 : Memref sig .tc .vmem S512x1024 .f32) (harg7 : arg7.IsWhole) (arg8 : Memref sig .tc .vmem S512x32 .f32) (harg8 : arg8.IsWhole) (arg9 : Memref sig .tc .vmem S512x4 .f32) (harg9 : arg9.IsWhole) (arg10 : Memref sig .tc .vmem S4x1x1024 .f32) (harg10 : arg10.IsWhole) (arg11 : Memref sig .tc .vmem S4x1024x32 .bf16) (harg11 : arg11.IsWhole) (arg12 : Memref sig .tc .vmem S4x1024x32 .bf16) (harg12 : arg12.IsWhole) (arg13 : Memref sig .tc .vmem S4x1024x32 .bf16) (harg13 : arg13.IsWhole) (hc0 : cond0_0 i) (x0 : Vec F S512x32 .f32) (x1 : Vec F S4x1024x32 .f32) :
    sout0_A_1 c i arg1 harg1 arg2 harg2 arg3 harg3 arg4 harg4 arg5 harg5 arg6 harg6 arg7 harg7 arg8 harg8 arg9 harg9 arg10 harg10 arg11 harg11 arg12 harg12 arg13 harg13 hc0 x0 x1 = View.canon
      [⟨Rect.unit ![3, 0, 0] ![1, 1024, 32] inb_S4x1024x32_S1x1024x32_3_0_0, kSt (kM1 (ldW x1 3))⟩,
       ⟨Rect.unit ![2, 0, 0] ![1, 1024, 32] inb_S4x1024x32_S1x1024x32_2_0_0, kSt (kM1 (ldW x1 2))⟩,
       ⟨Rect.unit ![1, 0, 0] ![1, 1024, 32] inb_S4x1024x32_S1x1024x32_1_0_0, kSt (kM1 (ldW x1 1))⟩,
       ⟨Rect.unit ![0, 0, 0] ![1, 1024, 32] inb_S4x1024x32_S1x1024x32_0_0_0, kSt (kM1 (ldW x1 0))⟩] := by
  unfold sout0_A_1
  rw [View.read_writes_eq_canon _ _ _ (scover0_A_1 c i arg1 harg1 arg2 harg2 arg3 harg3 arg4 harg4 arg5 harg5 arg6 harg6 arg7 harg7 arg8 harg8 arg9 harg9 arg10 harg10 arg11 harg11 arg12 harg12 arg13 harg13 hc0 x0 x1)]
  unfold kernelRun0_A; dsimp only; sl_unfold_words
  simp only [View.readAt_eq_ld, harg1.read_unread, harg2.read_unread]
  rfl

/-- What the point leaves in the scratch memory of the part 2 of the code books. -/
theorem scr_2 (c : Dev nD) (i : grid0.Coords) (arg1 : Memref sig .tc .vmem S512x32 .f32) (harg1 : arg1.IsWhole) (arg2 : Memref sig .tc .vmem S4x1024x32 .f32) (harg2 : arg2.IsWhole) (arg3 : Memref sig .tc .vmem S512x4 .i32) (harg3 : arg3.IsWhole) (arg4 : Memref sig .tc .vmem S512x1024 .f32) (harg4 : arg4.IsWhole) (arg5 : Memref sig .tc .vmem S512x1024 .f32) (harg5 : arg5.IsWhole) (arg6 : Memref sig .tc .vmem S512x1024 .f32) (harg6 : arg6.IsWhole) (arg7 : Memref sig .tc .vmem S512x1024 .f32) (harg7 : arg7.IsWhole) (arg8 : Memref sig .tc .vmem S512x32 .f32) (harg8 : arg8.IsWhole) (arg9 : Memref sig .tc .vmem S512x4 .f32) (harg9 : arg9.IsWhole) (arg10 : Memref sig .tc .vmem S4x1x1024 .f32) (harg10 : arg10.IsWhole) (arg11 : Memref sig .tc .vmem S4x1024x32 .bf16) (harg11 : arg11.IsWhole) (arg12 : Memref sig .tc .vmem S4x1024x32 .bf16) (harg12 : arg12.IsWhole) (arg13 : Memref sig .tc .vmem S4x1024x32 .bf16) (harg13 : arg13.IsWhole) (hc0 : cond0_0 i) (x0 : Vec F S512x32 .f32) (x1 : Vec F S4x1024x32 .f32) :
    sout0_A_2 c i arg1 harg1 arg2 harg2 arg3 harg3 arg4 harg4 arg5 harg5 arg6 harg6 arg7 harg7 arg8 harg8 arg9 harg9 arg10 harg10 arg11 harg11 arg12 harg12 arg13 harg13 hc0 x0 x1 = View.canon
      [⟨Rect.unit ![3, 0, 0] ![1, 1024, 32] inb_S4x1024x32_S1x1024x32_3_0_0, kSt (kM2 (ldW x1 3))⟩,
       ⟨Rect.unit ![2, 0, 0] ![1, 1024, 32] inb_S4x1024x32_S1x1024x32_2_0_0, kSt (kM2 (ldW x1 2))⟩,
       ⟨Rect.unit ![1, 0, 0] ![1, 1024, 32] inb_S4x1024x32_S1x1024x32_1_0_0, kSt (kM2 (ldW x1 1))⟩,
       ⟨Rect.unit ![0, 0, 0] ![1, 1024, 32] inb_S4x1024x32_S1x1024x32_0_0_0, kSt (kM2 (ldW x1 0))⟩] := by
  unfold sout0_A_2
  rw [View.read_writes_eq_canon _ _ _ (scover0_A_2 c i arg1 harg1 arg2 harg2 arg3 harg3 arg4 harg4 arg5 harg5 arg6 harg6 arg7 harg7 arg8 harg8 arg9 harg9 arg10 harg10 arg11 harg11 arg12 harg12 arg13 harg13 hc0 x0 x1)]
  unfold kernelRun0_A; dsimp only; sl_unfold_words
  simp only [View.readAt_eq_ld, harg1.read_unread, harg2.read_unread]
  rfl

/-- What the point leaves in the scratch memory of the part 3 of the code books. -/
theorem scr_3 (c : Dev nD) (i : grid0.Coords) (arg1 : Memref sig .tc .vmem S512x32 .f32) (harg1 : arg1.IsWhole) (arg2 : Memref sig .tc .vmem S4x1024x32 .f32) (harg2 : arg2.IsWhole) (arg3 : Memref sig .tc .vmem S512x4 .i32) (harg3 : arg3.IsWhole) (arg4 : Memref sig .tc .vmem S512x1024 .f32) (harg4 : arg4.IsWhole) (arg5 : Memref sig .tc .vmem S512x1024 .f32) (harg5 : arg5.IsWhole) (arg6 : Memref sig .tc .vmem S512x1024 .f32) (harg6 : arg6.IsWhole) (arg7 : Memref sig .tc .vmem S512x1024 .f32) (harg7 : arg7.IsWhole) (arg8 : Memref sig .tc .vmem S512x32 .f32) (harg8 : arg8.IsWhole) (arg9 : Memref sig .tc .vmem S512x4 .f32) (harg9 : arg9.IsWhole) (arg10 : Memref sig .tc .vmem S4x1x1024 .f32) (harg10 : arg10.IsWhole) (arg11 : Memref sig .tc .vmem S4x1024x32 .bf16) (harg11 : arg11.IsWhole) (arg12 : Memref sig .tc .vmem S4x1024x32 .bf16) (harg12 : arg12.IsWhole) (arg13 : Memref sig .tc .vmem S4x1024x32 .bf16) (harg13 : arg13.IsWhole) (hc0 : cond0_0 i) (x0 : Vec F S512x32 .f32) (x1 : Vec F S4x1024x32 .f32) :
    sout0_A_3 c i arg1 harg1 arg2 harg2 arg3 harg3 arg4 harg4 arg5 harg5 arg6 harg6 arg7 harg7 arg8 harg8 arg9 harg9 arg10 harg10 arg11 harg11 arg12 harg12 arg13 harg13 hc0 x0 x1 = View.canon
      [⟨Rect.unit ![3, 0, 0] ![1, 1024, 32] inb_S4x1024x32_S1x1024x32_3_0_0, kSt (kM3 (ldW x1 3))⟩,
       ⟨Rect.unit ![2, 0, 0] ![1, 1024, 32] inb_S4x1024x32_S1x1024x32_2_0_0, kSt (kM3 (ldW x1 2))⟩,
       ⟨Rect.unit ![1, 0, 0] ![1, 1024, 32] inb_S4x1024x32_S1x1024x32_1_0_0, kSt (kM3 (ldW x1 1))⟩,
       ⟨Rect.unit ![0, 0, 0] ![1, 1024, 32] inb_S4x1024x32_S1x1024x32_0_0_0, kSt (kM3 (ldW x1 0))⟩] := by
  unfold sout0_A_3
  rw [View.read_writes_eq_canon _ _ _ (scover0_A_3 c i arg1 harg1 arg2 harg2 arg3 harg3 arg4 harg4 arg5 harg5 arg6 harg6 arg7 harg7 arg8 harg8 arg9 harg9 arg10 harg10 arg11 harg11 arg12 harg12 arg13 harg13 hc0 x0 x1)]
  unfold kernelRun0_A; dsimp only; sl_unfold_words
  simp only [View.readAt_eq_ld, harg1.read_unread, harg2.read_unread]
  rfl

end Cert.KBlockA
end
-- ==== Proof.KBlockB.lean ====
module

public import proofs.«01_k».proof.Proof.KDefs
@[expose] public section

/-! The kernel's output blocks at a point after the first, in the words of `KDefs`. -/

noncomputable section
namespace Cert.KBlockB
open Idealize.ShloMosaic Idealize.ShloMosaic.TcCoe Idealize.ShloMosaic.Tactic
open Idealize.SL Idealize.SL.Sem
open Cert.KernelIdeal Cert.KernelIdeal.Gen Cert.KDefs
set_option maxRecDepth 100000
variable {F : FTy → Type} [FloatOps F]

/-- The block of the indices. -/
theorem out_2 (c : Dev nD) (i : grid0.Coords) (arg1 : Memref sig .tc .vmem S512x32 .f32) (harg1 : arg1.IsWhole) (arg2 : Memref sig .tc .vmem S4x1024x32 .f32) (harg2 : arg2.IsWhole) (arg3 : Memref sig .tc .vmem S512x4 .i32) (harg3 : arg3.IsWhole) (arg4 : Memref sig .tc .vmem S512x1024 .f32) (harg4 : arg4.IsWhole) (arg5 : Memref sig .tc .vmem S512x1024 .f32) (harg5 : arg5.IsWhole) (arg6 : Memref sig .tc .vmem S512x1024 .f32) (harg6 : arg6.IsWhole) (arg7 : Memref sig .tc .vmem S512x1024 .f32) (harg7 : arg7.IsWhole) (arg8 : Memref sig .tc .vmem S512x32 .f32) (harg8 : arg8.IsWhole) (arg9 : Memref sig .tc .vmem S512x4 .f32) (harg9 : arg9.IsWhole) (arg10 : Memref sig .tc .vmem S4x1x1024 .f32) (harg10 : arg10.IsWhole) (arg11 : Memref sig .tc .vmem S4x1024x32 .bf16) (harg11 : arg11.IsWhole) (arg12 : Memref sig .tc .vmem S4x1024x32 .bf16) (harg12 : arg12.IsWhole) (arg13 : Memref sig .tc .vmem S4x1024x32 .bf16) (harg13 : arg13.IsWhole) (hc0 : ¬cond0_0 i) (x0 : Vec F S512x32 .f32) (x1 : Vec F S4x1024x32 .f32) (xs0 : Vec F S4x1x1024 .f32) (xs1 xs2 xs3 : Vec F S4x1024x32 .bf16) :
    out0_B_2 c i arg1 harg1 arg2 harg2 arg3 harg3 arg4 harg4 arg5 harg5 arg6 harg6 arg7 harg7 arg8 harg8 arg9 harg9 arg10 harg10 arg11 harg11 arg12 harg12 arg13 harg13 hc0 x0 x1 xs0 xs1 xs2 xs3 = View.canon
      [⟨Rect.unit ![256, 3] ![256, 1] inb_S512x4_S256x1_256_3, kIdx (kDist (ldHi x0) (ldW x1) (ldN xs0) (ldB xs1) (ldB xs2) (ldB xs3) 3)⟩,
       ⟨Rect.unit ![256, 2] ![256, 1] inb_S512x4_S256x1_256_2, kIdx (kDist (ldHi x0) (ldW x1) (ldN xs0) (ldB xs1) (ldB xs2) (ldB xs3) 2)⟩,
       ⟨Rect.unit ![256, 1] ![256, 1] inb_S512x4_S256x1_256_1, kIdx (kDist (ldHi x0) (ldW x1) (ldN xs0) (ldB xs1) (ldB xs2) (ldB xs3) 1)⟩,
       ⟨Rect.unit ![256, 0] ![256, 1] inb_S512x4_S256x1_256_0, kIdx (kDist (ldHi x0) (ldW x1) (ldN xs0) (ldB xs1) (ldB xs2) (ldB xs3) 0)⟩,
       ⟨Rect.unit ![0, 3] ![256, 1] inb_S512x4_S256x1_0_3, kIdx (kDist (ldLo x0) (ldW x1) (ldN xs0) (ldB xs1) (ldB xs2) (ldB xs3) 3)⟩,
       ⟨Rect.unit ![0, 2] ![256, 1] inb_S512x4_S256x1_0_2, kIdx (kDist (ldLo x0) (ldW x1) (ldN xs0) (ldB xs1) (ldB xs2) (ldB xs3) 2)⟩,
       ⟨Rect.unit ![0, 1] ![256, 1] inb_S512x4_S256x1_0_1, kIdx (kDist (ldLo x0) (ldW x1) (ldN xs0) (ldB xs1) (ldB xs2) (ldB xs3) 1)⟩,
       ⟨Rect.unit ![0, 0] ![256, 1] inb_S512x4_S256x1_0_0, kIdx (kDist (ldLo x0) (ldW x1) (ldN xs0) (ldB xs1) (ldB xs2) (ldB xs3) 0)⟩] := by
  unfold out0_B_2
  rw [View.read_writes_eq_canon _ _ _ (cover0_B_2 c i arg1 harg1 arg2 harg2 arg3 harg3 arg4 harg4 arg5 harg5 arg6 harg6 arg7 harg7 arg8 harg8 arg9 harg9 arg10 harg10 arg11 harg11 arg12 harg12 arg13 harg13 hc0 x0 x1 xs0 xs1 xs2 xs3)]
  unfold kernelRun0_B; dsimp only; sl_unfold_words
  simp only [View.readAt_eq_ld, harg1.read_unread, harg2.read_unread, harg10.read_unread, harg11.read_unread, harg12.read_unread, harg13.read_unread]
  rfl

/-- The block of the soft assignment of layer 0. -/
theorem out_3 (c : Dev nD) (i : grid0.Coords) (arg1 : Memref sig .tc .vmem S512x32 .f32) (harg1 : arg1.IsWhole) (arg2 : Memref sig .tc .vmem S4x1024x32 .f32) (harg2 : arg2.IsWhole) (arg3 : Memref sig .tc .vmem S512x4 .i32) (harg3 : arg3.IsWhole) (arg4 : Memref sig .tc .vmem S512x1024 .f32) (harg4 : arg4.IsWhole) (arg5 : Memref sig .tc .vmem S512x1024 .f32) (harg5 : arg5.IsWhole) (arg6 : Memref sig .tc .vmem S512x1024 .f32) (harg6 : arg6.IsWhole) (arg7 : Memref sig .tc .vmem S512x1024 .f32) (harg7 : arg7.IsWhole) (arg8 : Memref sig .tc .vmem S512x32 .f32) (harg8 : arg8.IsWhole) (arg9 : Memref sig .tc .vmem S512x4 .f32) (harg9 : arg9.IsWhole) (arg10 : Memref sig .tc .vmem S4x1x1024 .f32) (harg10 : arg10.IsWhole) (arg11 : Memref sig .tc .vmem S4x1024x32 .bf16) (harg11 : arg11.IsWhole) (arg12 : Memref sig .tc .vmem S4x1024x32 .bf16) (harg12 : arg12.IsWhole) (arg13 : Memref sig .tc .vmem S4x1024x32 .bf16) (harg13 : arg13.IsWhole) (hc0 : ¬cond0_0 i) (x0 : Vec F S512x32 .f32) (x1 : Vec F S4x1024x32 .f32) (xs0 : Vec F S4x1x1024 .f32) (xs1 xs2 xs3 : Vec F S4x1024x32 .bf16) :
    out0_B_3 c i arg1 harg1 arg2 harg2 arg3 harg3 arg4 harg4 arg5 harg5 arg6 harg6 arg7 harg7 arg8 harg8 arg9 harg9 arg10 harg10 arg11 harg11 arg12 harg12 arg13 harg13 hc0 x0 x1 xs0 xs1 xs2 xs3 = View.canon
      [⟨Rect.unit ![256, 0] ![256, 1024] inb_S512x1024_S256x1024_256_0, kSoft (kDist (ldHi x0) (ldW x1) (ldN xs0) (ldB xs1) (ldB xs2) (ldB xs3) 0)⟩,
       ⟨Rect.unit ![0, 0] ![256, 1024] inb_S512x1024_S256x1024_0_0, kSoft (kDist (ldLo x0) (ldW x1) (ldN xs0) (ldB xs1) (ldB xs2) (ldB xs3) 0)⟩] := by
  unfold out0_B_3
  rw [View.read_writes_eq_canon _ _ _ (cover0_B_3 c i arg1 harg1 arg2 harg2 arg3 harg3 arg4 harg4 arg5 harg5 arg6 harg6 arg7 harg7 arg8 harg8 arg9 harg9 arg10 harg10 arg11 harg11 arg12 harg12 arg13 harg13 hc0 x0 x1 xs0 xs1 xs2 xs3)]
  unfold kernelRun0_B; dsimp only; sl_unfold_words
  simp only [View.readAt_eq_ld, harg1.read_unread, harg2.read_unread, harg10.read_unread, harg11.read_unread, harg12.read_unread, harg13.read_unread]
  rfl

/-- The block of the soft assignment of layer 1. -/
theorem out_4 (c : Dev nD) (i : grid0.Coords) (arg1 : Memref sig .tc .vmem S512x32 .f32) (harg1 : arg1.IsWhole) (arg2 : Memref sig .tc .vmem S4x1024x32 .f32) (harg2 : arg2.IsWhole) (arg3 : Memref sig .tc .vmem S512x4 .i32) (harg3 : arg3.IsWhole) (arg4 : Memref sig .tc .vmem S512x1024 .f32) (harg4 : arg4.IsWhole) (arg5 : Memref sig .tc .vmem S512x1024 .f32) (harg5 : arg5.IsWhole) (arg6 : Memref sig .tc .vmem S512x1024 .f32) (harg6 : arg6.IsWhole) (arg7 : Memref sig .tc .vmem S512x1024 .f32) (harg7 : arg7.IsWhole) (arg8 : Memref sig .tc .vmem S512x32 .f32) (harg8 : arg8.IsWhole) (arg9 : Memref sig .tc .vmem S512x4 .f32) (harg9 : arg9.IsWhole) (arg10 : Memref sig .tc .vmem S4x1x1024 .f32) (harg10 : arg10.IsWhole) (arg11 : Memref sig .tc .vmem S4x1024x32 .bf16) (harg11 : arg11.IsWhole) (arg12 : Memref sig .tc .vmem S4x1024x32 .bf16) (harg12 : arg12.IsWhole) (arg13 : Memref sig .tc .vmem S4x1024x32 .bf16) (harg13 : arg13.IsWhole) (hc0 : ¬cond0_0 i) (x0 : Vec F S512x32 .f32) (x1 : Vec F S4x1024x32 .f32) (xs0 : Vec F S4x1x1024 .f32) (xs1 xs2 xs3 : Vec F S4x1024x32 .bf16) :
    out0_B_4 c i arg1 harg1 arg2 harg2 arg3 harg3 arg4 harg4 arg5 harg5 arg6 harg6 arg7 harg7 arg8 harg8 arg9 harg9 arg10 harg10 arg11 harg11 arg12 harg12 arg13 harg13 hc0 x0 x1 xs0 xs1 xs2 xs3 = View.canon
      [⟨Rect.unit ![256, 0] ![256, 1024] inb_S512x1024_S256x1024_256_0, kSoft (kDist (ldHi x0) (ldW x1) (ldN xs0) (ldB xs1) (ldB xs2) (ldB xs3) 1)⟩,
       ⟨Rect.unit ![0, 0] ![256, 1024] inb_S512x1024_S256x1024_0_0, kSoft (kDist (ldLo x0) (ldW x1) (ldN xs0) (ldB xs1) (ldB xs2) (ldB xs3) 1)⟩] := by
  unfold out0_B_4
  rw [View.read_writes_eq_canon _ _ _ (cover0_B_4 c i arg1 harg1 arg2 harg2 arg3 harg3 arg4 harg4 arg5 harg5 arg6 harg6 arg7 harg7 arg8 harg8 arg9 harg9 arg10 harg10 arg11 harg11 arg12 harg12 arg13 harg13 hc0 x0 x1 xs0 xs1 xs2 xs3)]
  unfold kernelRun0_B; dsimp only; sl_unfold_words
  simp only [View.readAt_eq_ld, harg1.read_unread, harg2.read_unread, harg10.read_unread, harg11.read_unread, harg12.read_unread, harg13.read_unread]
  rfl

/-- The block of the soft assignment of layer 2. -/
theorem out_5 (c : Dev nD) (i : grid0.Coords) (arg1 : Memref sig .tc .vmem S512x32 .f32) (harg1 : arg1.IsWhole) (arg2 : Memref sig .tc .vmem S4x1024x32 .f32) (harg2 : arg2.IsWhole) (arg3 : Memref sig .tc .vmem S512x4 .i32) (harg3 : arg3.IsWhole) (arg4 : Memref sig .tc .vmem S512x1024 .f32) (harg4 : arg4.IsWhole) (arg5 : Memref sig .tc .vmem S512x1024 .f32) (harg5 : arg5.IsWhole) (arg6 : Memref sig .tc .vmem S512x1024 .f32) (harg6 : arg6.IsWhole) (arg7 : Memref sig .tc .vmem S512x1024 .f32) (harg7 : arg7.IsWhole) (arg8 : Memref sig .tc .vmem S512x32 .f32) (harg8 : arg8.IsWhole) (arg9 : Memref sig .tc .vmem S512x4 .f32) (harg9 : arg9.IsWhole) (arg10 : Memref sig .tc .vmem S4x1x1024 .f32) (harg10 : arg10.IsWhole) (arg11 : Memref sig .tc .vmem S4x1024x32 .bf16) (harg11 : arg11.IsWhole) (arg12 : Memref sig .tc .vmem S4x1024x32 .bf16) (harg12 : arg12.IsWhole) (arg13 : Memref sig .tc .vmem S4x1024x32 .bf16) (harg13 : arg13.IsWhole) (hc0 : ¬cond0_0 i) (x0 : Vec F S512x32 .f32) (x1 : Vec F S4x1024x32 .f32) (xs0 : Vec F S4x1x1024 .f32) (xs1 xs2 xs3 : Vec F S4x1024x32 .bf16) :
    out0_B_5 c i arg1 harg1 arg2 harg2 arg3 harg3 arg4 harg4 arg5 harg5 arg6 harg6 arg7 harg7 arg8 harg8 arg9 harg9 arg10 harg10 arg11 harg11 arg12 harg12 arg13 harg13 hc0 x0 x1 xs0 xs1 xs2 xs3 = View.canon
      [⟨Rect.unit ![256, 0] ![256, 1024] inb_S512x1024_S256x1024_256_0, kSoft (kDist (ldHi x0) (ldW x1) (ldN xs0) (ldB xs1) (ldB xs2) (ldB xs3) 2)⟩,
       ⟨Rect.unit ![0, 0] ![256, 1024] inb_S512x1024_S256x1024_0_0, kSoft (kDist (ldLo x0) (ldW x1) (ldN xs0) (ldB xs1) (ldB xs2) (ldB xs3) 2)⟩] := by
  unfold out0_B_5
  rw [View.read_writes_eq_canon _ _ _ (cover0_B_5 c i arg1 harg1 arg2 harg2 arg3 harg3 arg4 harg4 arg5 harg5 arg6 harg6 arg7 harg7 arg8 harg8 arg9 harg9 arg10 harg10 arg11 harg11 arg12 harg12 arg13 harg13 hc0 x0 x1 xs0 xs1 xs2 xs3)]
  unfold kernelRun0_B; dsimp only; sl_unfold_words
  simp only [View.readAt_eq_ld, harg1.read_unread, harg2.read_unread, harg10.read_unread, harg11.read_unread, harg12.read_unread, harg13.read_unread]
  rfl

/-- The block of the soft assignment of layer 3. -/
theorem out_6 (c : Dev nD) (i : grid0.Coords) (arg1 : Memref sig .tc .vmem S512x32 .f32) (harg1 : arg1.IsWhole) (arg2 : Memref sig .tc .vmem S4x1024x32 .f32) (harg2 : arg2.IsWhole) (arg3 : Memref sig .tc .vmem S512x4 .i32) (harg3 : arg3.IsWhole) (arg4 : Memref sig .tc .vmem S512x1024 .f32) (harg4 : arg4.IsWhole) (arg5 : Memref sig .tc .vmem S512x1024 .f32) (harg5 : arg5.IsWhole) (arg6 : Memref sig .tc .vmem S512x1024 .f32) (harg6 : arg6.IsWhole) (arg7 : Memref sig .tc .vmem S512x1024 .f32) (harg7 : arg7.IsWhole) (arg8 : Memref sig .tc .vmem S512x32 .f32) (harg8 : arg8.IsWhole) (arg9 : Memref sig .tc .vmem S512x4 .f32) (harg9 : arg9.IsWhole) (arg10 : Memref sig .tc .vmem S4x1x1024 .f32) (harg10 : arg10.IsWhole) (arg11 : Memref sig .tc .vmem S4x1024x32 .bf16) (harg11 : arg11.IsWhole) (arg12 : Memref sig .tc .vmem S4x1024x32 .bf16) (harg12 : arg12.IsWhole) (arg13 : Memref sig .tc .vmem S4x1024x32 .bf16) (harg13 : arg13.IsWhole) (hc0 : ¬cond0_0 i) (x0 : Vec F S512x32 .f32) (x1 : Vec F S4x1024x32 .f32) (xs0 : Vec F S4x1x1024 .f32) (xs1 xs2 xs3 : Vec F S4x1024x32 .bf16) :
    out0_B_6 c i arg1 harg1 arg2 harg2 arg3 harg3 arg4 harg4 arg5 harg5 arg6 harg6 arg7 harg7 arg8 harg8 arg9 harg9 arg10 harg10 arg11 harg11 arg12 harg12 arg13 harg13 hc0 x0 x1 xs0 xs1 xs2 xs3 = View.canon
      [⟨Rect.unit ![256, 0] ![256, 1024] inb_S512x1024_S256x1024_256_0, kSoft (kDist (ldHi x0) (ldW x1) (ldN xs0) (ldB xs1) (ldB xs2) (ldB xs3) 3)⟩,
       ⟨Rect.unit ![0, 0] ![256, 1024] inb_S512x1024_S256x1024_0_0, kSoft (kDist (ldLo x0) (ldW x1) (ldN xs0) (ldB xs1) (ldB xs2) (ldB xs3) 3)⟩] := by
  unfold out0_B_6
  rw [View.read_writes_eq_canon _ _ _ (cover0_B_6 c i arg1 harg1 arg2 harg2 arg3 harg3 arg4 harg4 arg5 harg5 arg6 harg6 arg7 harg7 arg8 harg8 arg9 harg9 arg10 harg10 arg11 harg11 arg12 harg12 arg13 harg13 hc0 x0 x1 xs0 xs1 xs2 xs3)]
  unfold kernelRun0_B; dsimp only; sl_unfold_words
  simp only [View.readAt_eq_ld, harg1.read_unread, harg2.read_unread, harg10.read_unread, harg11.read_unread, harg12.read_unread, harg13.read_unread]
  rfl

/-- The block of the quantised rows. -/
theorem out_7 (c : Dev nD) (i : grid0.Coords) (arg1 : Memref sig .tc .vmem S512x32 .f32) (harg1 : arg1.IsWhole) (arg2 : Memref sig .tc .vmem S4x1024x32 .f32) (harg2 : arg2.IsWhole) (arg3 : Memref sig .tc .vmem S512x4 .i32) (harg3 : arg3.IsWhole) (arg4 : Memref sig .tc .vmem S512x1024 .f32) (harg4 : arg4.IsWhole) (arg5 : Memref sig .tc .vmem S512x1024 .f32) (harg5 : arg5.IsWhole) (arg6 : Memref sig .tc .vmem S512x1024 .f32) (harg6 : arg6.IsWhole) (arg7 : Memref sig .tc .vmem S512x1024 .f32) (harg7 : arg7.IsWhole) (arg8 : Memref sig .tc .vmem S512x32 .f32) (harg8 : arg8.IsWhole) (arg9 : Memref sig .tc .vmem S512x4 .f32) (harg9 : arg9.IsWhole) (arg10 : Memref sig .tc .vmem S4x1x1024 .f32) (harg10 : arg10.IsWhole) (arg11 : Memref sig .tc .vmem S4x1024x32 .bf16) (harg11 : arg11.IsWhole) (arg12 : Memref sig .tc .vmem S4x1024x32 .bf16) (harg12 : arg12.IsWhole) (arg13 : Memref sig .tc .vmem S4x1024x32 .bf16) (harg13 : arg13.IsWhole) (hc0 : ¬cond0_0 i) (x0 : Vec F S512x32 .f32) (x1 : Vec F S4x1024x32 .f32) (xs0 : Vec F S4x1x1024 .f32) (xs1 xs2 xs3 : Vec F S4x1024x32 .bf16) :
    out0_B_7 c i arg1 harg1 arg2 harg2 arg3 harg3 arg4 harg4 arg5 harg5 arg6 harg6 arg7 harg7 arg8 harg8 arg9 harg9 arg10 harg10 arg11 harg11 arg12 harg12 arg13 harg13 hc0 x0 x1 xs0 xs1 xs2 xs3 = View.canon
      [⟨Rect.unit ![256, 0] ![256, 32] inb_S512x32_S256x32_256_0, (kAcc (ldHi x0) (ldW x1) (ldN xs0) (ldB xs1) (ldB xs2) (ldB xs3) 4)⟩,
       ⟨Rect.unit ![0, 0] ![256, 32] inb_S512x32_S256x32_0_0, (kAcc (ldLo x0) (ldW x1) (ldN xs0) (ldB xs1) (ldB xs2) (ldB xs3) 4)⟩] := by
  unfold out0_B_7
  rw [View.read_writes_eq_canon _ _ _ (cover0_B_7 c i arg1 harg1 arg2 harg2 arg3 harg3 arg4 harg4 arg5 harg5 arg6 harg6 arg7 harg7 arg8 harg8 arg9 harg9 arg10 harg10 arg11 harg11 arg12 harg12 arg13 harg13 hc0 x0 x1 xs0 xs1 xs2 xs3)]
  unfold kernelRun0_B; dsimp only; sl_unfold_words
  simp only [View.readAt_eq_ld, harg1.read_unread, harg2.read_unread, harg10.read_unread, harg11.read_unread, harg12.read_unread, harg13.read_unread]
  rfl

/-- The block of the losses. -/
theorem out_8 (c : Dev nD) (i : grid0.Coords) (arg1 : Memref sig .tc .vmem S512x32 .f32) (harg1 : arg1.IsWhole) (arg2 : Memref sig .tc .vmem S4x1024x32 .f32) (harg2 : arg2.IsWhole) (arg3 : Memref sig .tc .vmem S512x4 .i32) (harg3 : arg3.IsWhole) (arg4 : Memref sig .tc .vmem S512x1024 .f32) (harg4 : arg4.IsWhole) (arg5 : Memref sig .tc .vmem S512x1024 .f32) (harg5 : arg5.IsWhole) (arg6 : Memref sig .tc .vmem S512x1024 .f32) (harg6 : arg6.IsWhole) (arg7 : Memref sig .tc .vmem S512x1024 .f32) (harg7 : arg7.IsWhole) (arg8 : Memref sig .tc .vmem S512x32 .f32) (harg8 : arg8.IsWhole) (arg9 : Memref sig .tc .vmem S512x4 .f32) (harg9 : arg9.IsWhole) (arg10 : Memref sig .tc .vmem S4x1x1024 .f32) (harg10 : arg10.IsWhole) (arg11 : Memref sig .tc .vmem S4x1024x32 .bf16) (harg11 : arg11.IsWhole) (arg12 : Memref sig .tc .vmem S4x1024x32 .bf16) (harg12 : arg12.IsWhole) (arg13 : Memref sig .tc .vmem S4x1024x32 .bf16) (harg13 : arg13.IsWhole) (hc0 : ¬cond0_0 i) (x0 : Vec F S512x32 .f32) (x1 : Vec F S4x1024x32 .f32) (xs0 : Vec F S4x1x1024 .f32) (xs1 xs2 xs3 : Vec F S4x1024x32 .bf16) :
    out0_B_8 c i arg1 harg1 arg2 harg2 arg3 harg3 arg4 harg4 arg5 harg5 arg6 harg6 arg7 harg7 arg8 harg8 arg9 harg9 arg10 harg10 arg11 harg11 arg12 harg12 arg13 harg13 hc0 x0 x1 xs0 xs1 xs2 xs3 = View.canon
      [⟨Rect.unit ![256, 3] ![256, 1] inb_S512x4_S256x1_256_3, kLoss (kDist (ldHi x0) (ldW x1) (ldN xs0) (ldB xs1) (ldB xs2) (ldB xs3) 3)⟩,
       ⟨Rect.unit ![256, 2] ![256, 1] inb_S512x4_S256x1_256_2, kLoss (kDist (ldHi x0) (ldW x1) (ldN xs0) (ldB xs1) (ldB xs2) (ldB xs3) 2)⟩,
       ⟨Rect.unit ![256, 1] ![256, 1] inb_S512x4_S256x1_256_1, kLoss (kDist (ldHi x0) (ldW x1) (ldN xs0) (ldB xs1) (ldB xs2) (ldB xs3) 1)⟩,
       ⟨Rect.unit ![256, 0] ![256, 1] inb_S512x4_S256x1_256_0, kLoss (kDist (ldHi x0) (ldW x1) (ldN xs0) (ldB xs1) (ldB xs2) (ldB xs3) 0)⟩,
       ⟨Rect.unit ![0, 3] ![256, 1] inb_S512x4_S256x1_0_3, kLoss (kDist (ldLo x0) (ldW x1) (ldN xs0) (ldB xs1) (ldB xs2) (ldB xs3) 3)⟩,
       ⟨Rect.unit ![0, 2] ![256, 1] inb_S512x4_S256x1_0_2, kLoss (kDist (ldLo x0) (ldW x1) (ldN xs0) (ldB xs1) (ldB xs2) (ldB xs3) 2)⟩,
       ⟨Rect.unit ![0, 1] ![256, 1] inb_S512x4_S256x1_0_1, kLoss (kDist (ldLo x0) (ldW x1) (ldN xs0) (ldB xs1) (ldB xs2) (ldB xs3) 1)⟩,
       ⟨Rect.unit ![0, 0] ![256, 1] inb_S512x4_S256x1_0_0, kLoss (kDist (ldLo x0) (ldW x1) (ldN xs0) (ldB xs1) (ldB xs2) (ldB xs3) 0)⟩] := by
  unfold out0_B_8
  rw [View.read_writes_eq_canon _ _ _ (cover0_B_8 c i arg1 harg1 arg2 harg2 arg3 harg3 arg4 harg4 arg5 harg5 arg6 harg6 arg7 harg7 arg8 harg8 arg9 harg9 arg10 harg10 arg11 harg11 arg12 harg12 arg13 harg13 hc0 x0 x1 xs0 xs1 xs2 xs3)]
  unfold kernelRun0_B; dsimp only; sl_unfold_words
  simp only [View.readAt_eq_ld, harg1.read_unread, harg2.read_unread, harg10.read_unread, harg11.read_unread, harg12.read_unread, harg13.read_unread]
  rfl

end Cert.KBlockB
end
-- ==== Proof.KPoint.lean ====
module

public import proofs.«01_k».proof.Proof.KBlockA
public import proofs.«01_k».proof.Proof.KBlockB
public import Idealize.ShloMosaic.Lib.Pointwise
@[expose] public section

/-! What every grid point leaves in its blocks, in terms of the block of rows and the code books alone: the first point
    fills the scratch memory with the code books' squared lengths and parts, and every later point finds it so. -/

noncomputable section
namespace Cert.KPoint
open Idealize.ShloMosaic Idealize.ShloMosaic.TcCoe
open Cert.KernelIdeal Cert.KernelIdeal.Gen Cert.KDefs
set_option maxRecDepth 100000
variable {F : FTy → Type} [FloatOps F]

section Blocks
variable (x : Vec F S512x32 .f32) (W : Vec F S4x1024x32 .f32)

/-- What the scratch memory holds of each layer. -/
abbrev pN (l : ℕ) : Vec F S1x1x1024 .f32 := kCn (ldW W l)
abbrev p1 (l : ℕ) : Vec F S1x1024x32 .bf16 := kSt (kM1 (ldW W l))
abbrev p2 (l : ℕ) : Vec F S1x1024x32 .bf16 := kSt (kM2 (ldW W l))
abbrev p3 (l : ℕ) : Vec F S1x1024x32 .bf16 := kSt (kM3 (ldW W l))

/-- The distances of the two halves. -/
def dL (l : ℕ) : FVec F S256x1024 .f32 := kDist (ldLo x) (ldW W) (pN W) (p1 W) (p2 W) (p3 W) l
def dH (l : ℕ) : FVec F S256x1024 .f32 := kDist (ldHi x) (ldW W) (pN W) (p1 W) (p2 W) (p3 W) l

/-- The blocks: indices, soft assignments, quantised rows, losses. -/
def bIdx : Vec F S512x4 .i32 := View.canon (Val := Elt F) (e := .i32)
    [⟨Rect.unit ![256, 3] ![256, 1] inb_S512x4_S256x1_256_3, kIdx (dH x W 3)⟩,
     ⟨Rect.unit ![256, 2] ![256, 1] inb_S512x4_S256x1_256_2, kIdx (dH x W 2)⟩,
     ⟨Rect.unit ![256, 1] ![256, 1] inb_S512x4_S256x1_256_1, kIdx (dH x W 1)⟩,
     ⟨Rect.unit ![256, 0] ![256, 1] inb_S512x4_S256x1_256_0, kIdx (dH x W 0)⟩,
     ⟨Rect.unit ![0, 3] ![256, 1] inb_S512x4_S256x1_0_3, kIdx (dL x W 3)⟩,
     ⟨Rect.unit ![0, 2] ![256, 1] inb_S512x4_S256x1_0_2, kIdx (dL x W 2)⟩,
     ⟨Rect.unit ![0, 1] ![256, 1] inb_S512x4_S256x1_0_1, kIdx (dL x W 1)⟩,
     ⟨Rect.unit ![0, 0] ![256, 1] inb_S512x4_S256x1_0_0, kIdx (dL x W 0)⟩]

def bSoft (l : ℕ) : Vec F S512x1024 .f32 := View.canon (Val := Elt F) (e := .f32)
    [⟨Rect.unit ![256, 0] ![256, 1024] inb_S512x1024_S256x1024_256_0, kSoft (dH x W l)⟩,
     ⟨Rect.unit ![0, 0] ![256, 1024] inb_S512x1024_S256x1024_0_0, kSoft (dL x W l)⟩]

def bAcc : Vec F S512x32 .f32 := View.canon (Val := Elt F) (e := .f32)
    [⟨Rect.unit ![256, 0] ![256, 32] inb_S512x32_S256x32_256_0, kAcc (ldHi x) (ldW W) (pN W) (p1 W) (p2 W) (p3 W) 4⟩,
     ⟨Rect.unit ![0, 0] ![256, 32] inb_S512x32_S256x32_0_0, kAcc (ldLo x) (ldW W) (pN W) (p1 W) (p2 W) (p3 W) 4⟩]

def bLoss : Vec F S512x4 .f32 := View.canon (Val := Elt F) (e := .f32)
    [⟨Rect.unit ![256, 3] ![256, 1] inb_S512x4_S256x1_256_3, kLoss (dH x W 3)⟩,
     ⟨Rect.unit ![256, 2] ![256, 1] inb_S512x4_S256x1_256_2, kLoss (dH x W 2)⟩,
     ⟨Rect.unit ![256, 1] ![256, 1] inb_S512x4_S256x1_256_1, kLoss (dH x W 1)⟩,
     ⟨Rect.unit ![256, 0] ![256, 1] inb_S512x4_S256x1_256_0, kLoss (dH x W 0)⟩,
     ⟨Rect.unit ![0, 3] ![256, 1] inb_S512x4_S256x1_0_3, kLoss (dL x W 3)⟩,
     ⟨Rect.unit ![0, 2] ![256, 1] inb_S512x4_S256x1_0_2, kLoss (dL x W 2)⟩,
     ⟨Rect.unit ![0, 1] ![256, 1] inb_S512x4_S256x1_0_1, kLoss (dL x W 1)⟩,
     ⟨Rect.unit ![0, 0] ![256, 1] inb_S512x4_S256x1_0_0, kLoss (dL x W 0)⟩]

end Blocks

/-- Four layers stored one by one. -/
def stN (P : ℕ → Vec F S1x1x1024 .f32) : Vec F S4x1x1024 .f32 := View.canon (Val := Elt F) (e := .f32)
    [⟨Rect.unit ![3, 0, 0] ![1, 1, 1024] inb_S4x1x1024_S1x1x1024_3_0_0, P 3⟩,
     ⟨Rect.unit ![2, 0, 0] ![1, 1, 1024] inb_S4x1x1024_S1x1x1024_2_0_0, P 2⟩,
     ⟨Rect.unit ![1, 0, 0] ![1, 1, 1024] inb_S4x1x1024_S1x1x1024_1_0_0, P 1⟩,
     ⟨Rect.unit ![0, 0, 0] ![1, 1, 1024] inb_S4x1x1024_S1x1x1024_0_0_0, P 0⟩]
def stB (P : ℕ → Vec F S1x1024x32 .bf16) : Vec F S4x1024x32 .bf16 := View.canon (Val := Elt F) (e := .bf16)
    [⟨Rect.unit ![3, 0, 0] ![1, 1024, 32] inb_S4x1024x32_S1x1024x32_3_0_0, P 3⟩,
     ⟨Rect.unit ![2, 0, 0] ![1, 1024, 32] inb_S4x1024x32_S1x1024x32_2_0_0, P 2⟩,
     ⟨Rect.unit ![1, 0, 0] ![1, 1024, 32] inb_S4x1024x32_S1x1024x32_1_0_0, P 1⟩,
     ⟨Rect.unit ![0, 0, 0] ![1, 1024, 32] inb_S4x1024x32_S1x1024x32_0_0_0, P 0⟩]

/-- Reading a rectangle off stored pieces: past a piece that does not meet it, or the piece itself. -/
theorem ld_skip {s : Shape} {e : EltTy} (r : Rect s) (w : r.shape.Idx → Elt F e) (L : List (View.Piece (Elt F) s e))
    (B : Rect s) (h : LoadRect.disj r B.toLoadRect = true) : View.ld (View.canon (⟨r, w⟩ :: L)) B = View.ld (View.canon L) B :=
  funext fun j => View.canon_cons_of_not_mem ⟨r, w⟩ L (LoadRect.idx_not_mem_of_disj h j)
theorem ld_take {s : Shape} {e : EltTy} (r : Rect s) (w : r.shape.Idx → Elt F e) (L : List (View.Piece (Elt F) s e)) :
    View.ld (View.canon (⟨r, w⟩ :: L)) r = w :=
  funext fun j => View.canon_cons_emb r w L j

theorem ldN_st (P : ℕ → Vec F S1x1x1024 .f32) (h : ∀ l, P (l + 3) = P 3) : ldN (stN P) = P := by
  funext l
  match l with
  | 0 =>
    unfold ldN stN
    refine (ld_skip _ _ _ _ (by decide)).trans ?_
    refine (ld_skip _ _ _ _ (by decide)).trans ?_
    refine (ld_skip _ _ _ _ (by decide)).trans ?_
    exact ld_take _ _ _
  | 1 =>
    unfold ldN stN
    refine (ld_skip _ _ _ _ (by decide)).trans ?_
    refine (ld_skip _ _ _ _ (by decide)).trans ?_
    exact ld_take _ _ _
  | 2 =>
    unfold ldN stN
    refine (ld_skip _ _ _ _ (by decide)).trans ?_
    exact ld_take _ _ _
  | l + 3 =>
    refine Eq.trans ?_ (h l).symm
    unfold ldN stN
    exact ld_take _ _ _

theorem ldB_st (P : ℕ → Vec F S1x1024x32 .bf16) (h : ∀ l, P (l + 3) = P 3) : ldB (stB P) = P := by
  funext l
  match l with
  | 0 =>
    unfold ldB stB
    refine (ld_skip _ _ _ _ (by decide)).trans ?_
    refine (ld_skip _ _ _ _ (by decide)).trans ?_
    refine (ld_skip _ _ _ _ (by decide)).trans ?_
    exact ld_take _ _ _
  | 1 =>
    unfold ldB stB
    refine (ld_skip _ _ _ _ (by decide)).trans ?_
    refine (ld_skip _ _ _ _ (by decide)).trans ?_
    exact ld_take _ _ _
  | 2 =>
    unfold ldB stB
    refine (ld_skip _ _ _ _ (by decide)).trans ?_
    exact ld_take _ _ _
  | l + 3 =>
    refine Eq.trans ?_ (h l).symm
    unfold ldB stB
    exact ld_take _ _ _

/-- Past the third layer the code books repeat. -/
theorem ldW_rep (W : Vec F S4x1024x32 .f32) (l : ℕ) : ldW W (l + 3) = ldW W 3 := rfl

section Points
variable (m : (ℓ : Loc nD τ sig) → Buf (Elt F) ℓ) (c : Dev nD)

/-- The code books, and the block of rows of a point. -/
abbrev books : Vec F S4x1024x32 .f32 := m ((c : Thread nD τ).loc main_arg1)
abbrev rows (t : Fin cfg0.N) : Vec F S512x32 .f32 := iblk m c 0 t

/-- Every point sees the whole code books. -/
theorem iblk1 (t : Fin cfg0.N) : (iblk m c 1 t : Vec F S4x1024x32 .f32) = books m c := by
  have hi : win0_1.index t 0 = 0 ∧ win0_1.index t 1 = 0 ∧ win0_1.index t 2 = 0 := ⟨rfl, rfl, rfl⟩
  funext j
  unfold iblk
  rw [View.read_apply]
  show V m c main_arg1 _ = m (c.tc.loc main_arg1) _
  unfold V
  congr 1
  funext a
  apply Fin.ext
  match a with
  | ⟨0, _⟩ => show win0_1.index t 0 * 4 + 1 * (j 0).val = (j 0).val; rw [hi.1]; omega
  | ⟨1, _⟩ => show win0_1.index t 1 * 1024 + 1 * (j 1).val = (j 1).val; rw [hi.2.1]; omega
  | ⟨2, _⟩ => show win0_1.index t 2 * 32 + 1 * (j 2).val = (j 2).val; rw [hi.2.2]; omega

/-- A point's block of rows, entry by entry. -/
theorem rows_at (t : Fin cfg0.N) (i : Fin 512) (j : Fin 32) (h : 512 * t.val + i.val < 16384) :
    rows m c t (ix2 i j) = (m ((c : Thread nD τ).loc main_arg0) : Vec F S16384x32 .f32) (ix2 ⟨512 * t.val + i.val, h⟩ j) := by
  have hi : win0_0.index t 0 = t.val ∧ win0_0.index t 1 = 0 := by
    clear h; revert t; decide +kernel
  unfold rows iblk
  rw [View.read_apply]
  show V m c main_arg0 _ = m (c.tc.loc main_arg0) _
  unfold V
  congr 1
  funext a
  apply Fin.ext
  match a with
  | ⟨0, _⟩ => show win0_0.index t 0 * 512 + 1 * i.val = 512 * t.val + i.val; rw [hi.1]; omega
  | ⟨1, _⟩ => show win0_0.index t 1 * 32 + 1 * j.val = j.val; rw [hi.2]; omega

/-- Scratch buffer 0 after any point. -/
theorem scratch_0 (n : ℕ) (hn : n < cfg0.N) : (outsAt0 m c n hn).2.2.2.2.2.2.2.1 = stN (pN (books m c)) := by
  induction n with
  | zero =>
    have h := outsAt0_A m c ⟨0, hn⟩ (Nat.zero_mod _)
    refine (congrArg (fun p => p.2.2.2.2.2.2.2.1) h).trans ?_
    dsimp only
    refine (KBlockA.scr_0 ..).trans ?_
    rw [iblk1]
    rfl
  | succ n ih =>
    have hN : n + 1 < 32 := lt_of_lt_of_eq hn N_0
    have h := outsAt0_B m c ⟨n + 1, hn⟩ (by show ¬(n + 1) % 32 = 0; omega)
    refine (congrArg (fun p => p.2.2.2.2.2.2.2.1) h).trans ?_
    dsimp only
    unfold sout0_B_0
    exact ih (Nat.lt_of_succ_lt hn)

/-- Scratch buffer 1 after any point. -/
theorem scratch_1 (n : ℕ) (hn : n < cfg0.N) : (outsAt0 m c n hn).2.2.2.2.2.2.2.2.1 = stB (p1 (books m c)) := by
  induction n with
  | zero =>
    have h := outsAt0_A m c ⟨0, hn⟩ (Nat.zero_mod _)
    refine (congrArg (fun p => p.2.2.2.2.2.2.2.2.1) h).trans ?_
    dsimp only
    refine (KBlockA.scr_1 ..).trans ?_
    rw [iblk1]
    rfl
  | succ n ih =>
    have hN : n + 1 < 32 := lt_of_lt_of_eq hn N_0
    have h := outsAt0_B m c ⟨n + 1, hn⟩ (by show ¬(n + 1) % 32 = 0; omega)
    refine (congrArg (fun p => p.2.2.2.2.2.2.2.2.1) h).trans ?_
    dsimp only
    unfold sout0_B_1
    exact ih (Nat.lt_of_succ_lt hn)

/-- Scratch buffer 2 after any point. -/
theorem scratch_2 (n : ℕ) (hn : n < cfg0.N) : (outsAt0 m c n hn).2.2.2.2.2.2.2.2.2.1 = stB (p2 (books m c)) := by
  induction n with
  | zero =>
    have h := outsAt0_A m c ⟨0, hn⟩ (Nat.zero_mod _)
    refine (congrArg (fun p => p.2.2.2.2.2.2.2.2.2.1) h).trans ?_
    dsimp only
    refine (KBlockA.scr_2 ..).trans ?_
    rw [iblk1]
    rfl
  | succ n ih =>
    have hN : n + 1 < 32 := lt_of_lt_of_eq hn N_0
    have h := outsAt0_B m c ⟨n + 1, hn⟩ (by show ¬(n + 1) % 32 = 0; omega)
    refine (congrArg (fun p => p.2.2.2.2.2.2.2.2.2.1) h).trans ?_
    dsimp only
    unfold sout0_B_2
    exact ih (Nat.lt_of_succ_lt hn)

/-- Scratch buffer 3 after any point. -/
theorem scratch_3 (n : ℕ) (hn : n < cfg0.N) : (outsAt0 m c n hn).2.2.2.2.2.2.2.2.2.2 = stB (p3 (books m c)) := by
  induction n with
  | zero =>
    have h := outsAt0_A m c ⟨0, hn⟩ (Nat.zero_mod _)
    refine (congrArg (fun p => p.2.2.2.2.2.2.2.2.2.2) h).trans ?_
    dsimp only
    refine (KBlockA.scr_3 ..).trans ?_
    rw [iblk1]
    rfl
  | succ n ih =>
    have hN : n + 1 < 32 := lt_of_lt_of_eq hn N_0
    have h := outsAt0_B m c ⟨n + 1, hn⟩ (by show ¬(n + 1) % 32 = 0; omega)
    refine (congrArg (fun p => p.2.2.2.2.2.2.2.2.2.2) h).trans ?_
    dsimp only
    unfold sout0_B_3
    exact ih (Nat.lt_of_succ_lt hn)

/-- Result block 1 of a point. -/
theorem block_2 (t : Fin cfg0.N) : (dats m 0 c).after 2 t = bIdx (rows m c t) (books m c) := by
  rw [after0_2]
  by_cases h0 : t.val % 32 = 0
  · refine (congrArg (fun p => p.1) (outsAt0_A m c t h0)).trans ?_
    dsimp only
    refine (KBlockA.out_2 ..).trans ?_
    rw [iblk1]
    rfl
  · refine (congrArg (fun p => p.1) (outsAt0_B m c t h0)).trans ?_
    dsimp only
    refine (KBlockB.out_2 ..).trans ?_
    rw [iblk1, scratch_0, scratch_1, scratch_2, scratch_3, ldN_st _ fun l => by rw [pN, ldW_rep],
      ldB_st _ fun l => by rw [p1, ldW_rep], ldB_st _ fun l => by rw [p2, ldW_rep], ldB_st _ fun l => by rw [p3, ldW_rep]]
    rfl

/-- Result block 2 of a point. -/
theorem block_3 (t : Fin cfg0.N) : (dats m 0 c).after 3 t = bSoft (rows m c t) (books m c) 0 := by
  rw [after0_3]
  by_cases h0 : t.val % 32 = 0
  · refine (congrArg (fun p => p.2.1) (outsAt0_A m c t h0)).trans ?_
    dsimp only
    refine (KBlockA.out_3 ..).trans ?_
    rw [iblk1]
    rfl
  · refine (congrArg (fun p => p.2.1) (outsAt0_B m c t h0)).trans ?_
    dsimp only
    refine (KBlockB.out_3 ..).trans ?_
    rw [iblk1, scratch_0, scratch_1, scratch_2, scratch_3, ldN_st _ fun l => by rw [pN, ldW_rep],
      ldB_st _ fun l => by rw [p1, ldW_rep], ldB_st _ fun l => by rw [p2, ldW_rep], ldB_st _ fun l => by rw [p3, ldW_rep]]
    rfl

/-- Result block 3 of a point. -/
theorem block_4 (t : Fin cfg0.N) : (dats m 0 c).after 4 t = bSoft (rows m c t) (books m c) 1 := by
  rw [after0_4]
  by_cases h0 : t.val % 32 = 0
  · refine (congrArg (fun p => p.2.2.1) (outsAt0_A m c t h0)).trans ?_
    dsimp only
    refine (KBlockA.out_4 ..).trans ?_
    rw [iblk1]
    rfl
  · refine (congrArg (fun p => p.2.2.1) (outsAt0_B m c t h0)).trans ?_
    dsimp only
    refine (KBlockB.out_4 ..).trans ?_
    rw [iblk1, scratch_0, scratch_1, scratch_2, scratch_3, ldN_st _ fun l => by rw [pN, ldW_rep],
      ldB_st _ fun l => by rw [p1, ldW_rep], ldB_st _ fun l => by rw [p2, ldW_rep], ldB_st _ fun l => by rw [p3, ldW_rep]]
    rfl

/-- Result block 4 of a point. -/
theorem block_5 (t : Fin cfg0.N) : (dats m 0 c).after 5 t = bSoft (rows m c t) (books m c) 2 := by
  rw [after0_5]
  by_cases h0 : t.val % 32 = 0
  · refine (congrArg (fun p => p.2.2.2.1) (outsAt0_A m c t h0)).trans ?_
    dsimp only
    refine (KBlockA.out_5 ..).trans ?_
    rw [iblk1]
    rfl
  · refine (congrArg (fun p => p.2.2.2.1) (outsAt0_B m c t h0)).trans ?_
    dsimp only
    refine (KBlockB.out_5 ..).trans ?_
    rw [iblk1, scratch_0, scratch_1, scratch_2, scratch_3, ldN_st _ fun l => by rw [pN, ldW_rep],
      ldB_st _ fun l => by rw [p1, ldW_rep], ldB_st _ fun l => by rw [p2, ldW_rep], ldB_st _ fun l => by rw [p3, ldW_rep]]
    rfl

/-- Result block 5 of a point. -/
theorem block_6 (t : Fin cfg0.N) : (dats m 0 c).after 6 t = bSoft (rows m c t) (books m c) 3 := by
  rw [after0_6]
  by_cases h0 : t.val % 32 = 0
  · refine (congrArg (fun p => p.2.2.2.2.1) (outsAt0_A m c t h0)).trans ?_
    dsimp only
    refine (KBlockA.out_6 ..).trans ?_
    rw [iblk1]
    rfl
  · refine (congrArg (fun p => p.2.2.2.2.1) (outsAt0_B m c t h0)).trans ?_
    dsimp only
    refine (KBlockB.out_6 ..).trans ?_
    rw [iblk1, scratch_0, scratch_1, scratch_2, scratch_3, ldN_st _ fun l => by rw [pN, ldW_rep],
      ldB_st _ fun l => by rw [p1, ldW_rep], ldB_st _ fun l => by rw [p2, ldW_rep], ldB_st _ fun l => by rw [p3, ldW_rep]]
    rfl

/-- Result block 6 of a point. -/
theorem block_7 (t : Fin cfg0.N) : (dats m 0 c).after 7 t = bAcc (rows m c t) (books m c) := by
  rw [after0_7]
  by_cases h0 : t.val % 32 = 0
  · refine (congrArg (fun p => p.2.2.2.2.2.1) (outsAt0_A m c t h0)).trans ?_
    dsimp only
    refine (KBlockA.out_7 ..).trans ?_
    rw [iblk1]
    rfl
  · refine (congrArg (fun p => p.2.2.2.2.2.1) (outsAt0_B m c t h0)).trans ?_
    dsimp only
    refine (KBlockB.out_7 ..).trans ?_
    rw [iblk1, scratch_0, scratch_1, scratch_2, scratch_3, ldN_st _ fun l => by rw [pN, ldW_rep],
      ldB_st _ fun l => by rw [p1, ldW_rep], ldB_st _ fun l => by rw [p2, ldW_rep], ldB_st _ fun l => by rw [p3, ldW_rep]]
    rfl

/-- Result block 7 of a point. -/
theorem block_8 (t : Fin cfg0.N) : (dats m 0 c).after 8 t = bLoss (rows m c t) (books m c) := by
  rw [after0_8]
  by_cases h0 : t.val % 32 = 0
  · refine (congrArg (fun p => p.2.2.2.2.2.2.1) (outsAt0_A m c t h0)).trans ?_
    dsimp only
    refine (KBlockA.out_8 ..).trans ?_
    rw [iblk1]
    rfl
  · refine (congrArg (fun p => p.2.2.2.2.2.2.1) (outsAt0_B m c t h0)).trans ?_
    dsimp only
    refine (KBlockB.out_8 ..).trans ?_
    rw [iblk1, scratch_0, scratch_1, scratch_2, scratch_3, ldN_st _ fun l => by rw [pN, ldW_rep],
      ldB_st _ fun l => by rw [p1, ldW_rep], ldB_st _ fun l => by rw [p2, ldW_rep], ldB_st _ fun l => by rw [p3, ldW_rep]]
    rfl

end Points

end Cert.KPoint
end
-- ==== Proof.RowMath.lean ====
module

public import Idealize.ShloMosaic.PureOps.Ideal.Laws
public import Idealize.ShloMosaic.Lib.ValueIdx
@[expose] public section

/-! The mathematics of one row over the real numbers: the distances to the codes, the first nearest code, the soft
    assignment, the loss, the residuals; and how the extended-real operations act on real arguments. -/

noncomputable section
namespace Cert.RowMath
open Idealize.ShloMosaic

/-- A row, and a code book. -/
abbrev Row := Fin 32 → ℝ
abbrev Book := Fin 1024 → Fin 32 → ℝ

/-- Squared distance of the row to each code, expanded. -/
def dist (x : Row) (c : Book) (k : Fin 1024) : ℝ :=
  (∑ j, x j * x j - 2 * ∑ j, x j * c k j) + ∑ j, c k j * c k j

/-- The least of 1024 numbers. -/
def least (d : Fin 1024 → ℝ) : ℝ := Finset.univ.inf' ⟨0, Finset.mem_univ _⟩ d

theorem least_le (d : Fin 1024 → ℝ) (k : Fin 1024) : least d ≤ d k := Finset.inf'_le _ (Finset.mem_univ k)

theorem exists_least (d : Fin 1024 → ℝ) : ∃ k, d k = least d := by
  obtain ⟨k, -, h⟩ := Finset.exists_mem_eq_inf' (s := Finset.univ) ⟨0, Finset.mem_univ _⟩ d
  exact ⟨k, h.symm⟩

/-- The first place where the least is taken. -/
def first (d : Fin 1024 → ℝ) : Fin 1024 :=
  (Finset.univ.filter fun k => d k = least d).min' (by
    obtain ⟨k, h⟩ := exists_least d
    exact ⟨k, Finset.mem_filter.mpr ⟨Finset.mem_univ _, h⟩⟩)

theorem at_first (d : Fin 1024 → ℝ) : d (first d) = least d :=
  (Finset.mem_filter.mp (Finset.min'_mem (Finset.univ.filter fun k => d k = least d) _)).2

theorem first_le (d : Fin 1024 → ℝ) (k : Fin 1024) (h : d k = least d) : first d ≤ k :=
  Finset.min'_le (Finset.univ.filter fun k => d k = least d) k (Finset.mem_filter.mpr ⟨Finset.mem_univ k, h⟩)

/-- The soft assignment. -/
def soft (d : Fin 1024 → ℝ) (k : Fin 1024) : ℝ :=
  Real.exp (least d - d k) * (1 / ∑ k', Real.exp (least d - d k'))

/-- The commitment weight, as the program's constant has it. -/
def beta : ℝ := (Ideal.ofBits .f32 0x3C23D70A#32).toReal

/-- The loss of a row whose least distance is given. -/
def loss (d : Fin 1024 → ℝ) : ℝ := least d * (1 / 32) + beta * (least d * (1 / 32))

/-- The residual before each layer, and the quantised row after each layer. -/
def res (x : Row) (w : ℕ → Book) : ℕ → Row
  | 0 => x
  | l + 1 => fun j => res x w l j - w l (first (dist (res x w l) (w l))) j

def acc (x : Row) (w : ℕ → Book) : ℕ → Row
  | 0 => fun _ => 0
  | l + 1 => fun j => acc x w l j + w l (first (dist (res x w l) (w l))) j

/-- The distances of a layer. -/
def layer (x : Row) (w : ℕ → Book) (l : ℕ) : Fin 1024 → ℝ := dist (res x w l) (w l)

/-- The expanded distance is the sum of squares. -/
theorem dist_eq (x : Row) (c : Book) (k : Fin 1024) : dist x c k = ∑ j, (x j - c k j) * (x j - c k j) := by
  unfold dist
  rw [Finset.mul_sum, ← Finset.sum_sub_distrib, ← Finset.sum_add_distrib]
  exact Finset.sum_congr rfl fun j _ => by ring

theorem least_dist (x : Row) (c : Book) :
    least (dist x c) = ∑ j, (x j - c (first (dist x c)) j) * (x j - c (first (dist x c)) j) := by
  rw [← at_first, dist_eq]

theorem sum_exp_pos (d : Fin 1024 → ℝ) : 0 < ∑ k, Real.exp (least d - d k) :=
  Finset.sum_pos (fun _ _ => Real.exp_pos _) ⟨0, Finset.mem_univ _⟩

/-! ## Extended reals that are real -/

theorem coe_sum {n : ℕ} (f : Fin n → ℝ) : (∑ k, (f k : EReal)) = ((∑ k, f k : ℝ) : EReal) := by
  induction n with
  | zero => simp
  | succ n ih => rw [Fin.sum_univ_succ, Fin.sum_univ_succ, ih, EReal.coe_add]

theorem sum_eq {n : ℕ} (g : Fin n → EReal) (f : Fin n → ℝ) (h : ∀ k, g k = f k) :
    ∑ k, g k = ((∑ k, f k : ℝ) : EReal) := by
  rw [← coe_sum]; exact Finset.sum_congr rfl fun k _ => h k

theorem fold_min (g : Fin 1024 → EReal) (d : Fin 1024 → ℝ) (h : ∀ k, g k = d k) :
    Finset.fold min (⊤ : EReal) g Finset.univ = (least d : EReal) := by
  apply le_antisymm
  · obtain ⟨k, hk⟩ := exists_least d
    rw [← hk, ← h k]
    exact ((Finset.le_fold_min _).mp le_rfl).2 k (Finset.mem_univ _)
  · exact (Finset.le_fold_min _).mpr ⟨le_top, fun k _ => by rw [h k]; exact EReal.coe_le_coe_iff.mpr (least_le d k)⟩

theorem fold_max_neg (g : Fin 1024 → EReal) (d : Fin 1024 → ℝ) (h : ∀ k, g k = -(d k : EReal)) :
    Finset.fold max (⊥ : EReal) g Finset.univ = -(least d : EReal) := by
  apply le_antisymm
  · exact (Finset.fold_max_le _).mpr ⟨bot_le, fun k _ => by
      rw [h k]; exact EReal.neg_le_neg_iff.mpr (EReal.coe_le_coe_iff.mpr (least_le d k))⟩
  · obtain ⟨k, hk⟩ := exists_least d
    rw [← hk, ← h k]
    exact ((Finset.fold_max_le _).mp le_rfl).2 k (Finset.mem_univ _)

theorem ofBits_top : Ideal.ofBits .f32 0x7F800000#32 = ⊤ := by simp [Ideal.ofBits, Ideal.ieee]
theorem ofBits_bot : Ideal.ofBits .f32 0xFF800000#32 = ⊥ := by simp [Ideal.ofBits, Ideal.ieee]
theorem ofBits_two : Ideal.ofBits .f32 0x40000000#32 = ((2 : ℝ) : EReal) := by
  simp [Ideal.ofBits, Ideal.ieee, ← EReal.coe_mul]
  norm_num
theorem ofBits_32 : Ideal.ofBits .f32 0x42000000#32 = ((32 : ℝ) : EReal) := by
  simp [Ideal.ofBits, Ideal.ieee, ← EReal.coe_mul]
  norm_num
theorem ofBits_32nd : Ideal.ofBits .f32 0x3D000000#32 = ((1 / 32 : ℝ) : EReal) := by
  simp [Ideal.ofBits, Ideal.ieee, ← EReal.coe_mul]
  norm_num
theorem ofBits_beta : Ideal.ofBits .f32 0x3C23D70A#32 = (beta : EReal) := by
  unfold beta
  refine (EReal.coe_toReal ?_ ?_).symm <;> simp [Ideal.ofBits, Ideal.ieee, ← EReal.coe_mul]

/-- Dividing one by a positive real. -/
theorem one_div {y : ℝ} (h : 0 < y) : Ideal.div 1 (y : EReal) = ((1 / y : ℝ) : EReal) := by
  rw [Ideal.div_coe h.ne', one_mul]

/-! ## Words -/

theorem minsi_toInt (a b : BitVec 32) : (IntOp.minsi a b).toInt = min a.toInt b.toInt := by
  unfold IntOp.minsi
  by_cases h : a.toInt < b.toInt
  all_goals simp [BitVec.slt, h]
  all_goals omega

theorem toInt_ofNat {k : ℕ} (h : k ≤ 1024) : (BitVec.ofNat 32 k).toInt = k := by
  rw [BitVec.toInt_eq_toNat_cond, BitVec.toNat_ofNat, Nat.mod_eq_of_lt (by omega)]
  rw [if_pos (by omega)]

/-- The least column number whose number is the least, the other columns counting as 1024. -/
theorem fold_first (g : Fin 1024 → EReal) (d : Fin 1024 → ℝ) (h : ∀ k, g k = d k) :
    Finset.fold IntOp.minsi 2147483647#32
      (fun k : Fin 1024 => if g k = (least d : EReal) then BitVec.ofNat 32 k.val else 1024#32) Finset.univ
      = BitVec.ofNat 32 (first d).val := by
  apply BitVec.eq_of_toInt_eq
  have hf : ∀ s : Finset (Fin 1024), (Finset.fold IntOp.minsi 2147483647#32
      (fun k : Fin 1024 => if g k = (least d : EReal) then BitVec.ofNat 32 k.val else 1024#32) s).toInt
      = Finset.fold min (2147483647 : ℤ) (fun k : Fin 1024 => if g k = (least d : EReal) then (k.val : ℤ) else 1024) s := by
    intro s
    induction s using Finset.induction_on with
    | empty => rfl
    | insert a s ha ih =>
      rw [Finset.fold_insert ha, Finset.fold_insert ha, minsi_toInt, ih]
      congr 1
      split
      · exact toInt_ofNat (by omega)
      · rfl
  rw [hf, toInt_ofNat (by omega)]
  apply le_antisymm
  · refine ((Finset.le_fold_min _).mp le_rfl).2 (first d) (Finset.mem_univ _) |>.trans ?_
    rw [if_pos (by rw [h (first d), at_first d])]
  · refine (Finset.le_fold_min _).mpr ⟨by have := (first d).isLt; omega, fun k _ => ?_⟩
    split
    · rename_i hk
      rw [h k, EReal.coe_eq_coe_iff] at hk
      exact_mod_cast first_le d k hk
    · have := (first d).isLt; omega

end Cert.RowMath
end
-- ==== Proof.KRow.lean ====
module

public import proofs.«01_k».proof.Proof.KDefs
public import proofs.«01_k».proof.Proof.RowMath
public import Idealize.ShloMosaic.Lib.Pointwise
@[expose] public section

/-! One row of a half block of the kernel, over the real numbers: with a real row and real code books, every step of
    the kernel computes the row's mathematics. -/

noncomputable section
namespace Cert.KRow
open Idealize.ShloMosaic
open Cert.KernelIdeal Cert.KernelIdeal.Gen Cert.KDefs Cert.RowMath

/-- The distances. -/
theorem kD_row (r : FVec Ideal S256x32 .f32) (w : Vec Ideal S1x1024x32 .f32) (n : Vec Ideal S1x1x1024 .f32)
    (i : Fin 256) (x : Row) (c : Book) (hr : ∀ j, r (ix2 i j) = (x j : EReal))
    (hw : ∀ k j, w (ix3 0 k j) = (c k j : EReal)) (hn : ∀ k, n (ix3 0 0 k) = ((∑ j, c k j * c k j : ℝ) : EReal))
    (k : Fin 1024) : kD r w n (ix2 i k) = (dist x c k : EReal) := by
  have h : kD r w n (ix2 i k) = ∑ j, r (ix2 i j) * r (ix2 i j)
      - Ideal.ofBits .f32 1073741824#32 * ∑ j, r (ix2 i j) * w (ix3 0 k j) + n (ix3 0 0 k) := by
    pointwise [kD, kRn, kMm]
  rw [h, hn, ofBits_two, sum_eq _ (fun j => x j * x j) (fun j => by rw [hr, EReal.coe_mul]),
    sum_eq _ (fun j => x j * c k j) (fun j => by rw [hr, hw, EReal.coe_mul])]
  rw [← EReal.coe_mul, ← EReal.coe_sub, ← EReal.coe_add]
  rfl

section Row
variable (d : FVec Ideal S256x1024 .f32) (i : Fin 256) (δ : Fin 1024 → ℝ) (hd : ∀ k, d (ix2 i k) = (δ k : EReal))
include hd

/-- The least distance. -/
theorem kMin_row : kMin d (ix2 i 0) = (least δ : EReal) := by
  have h : kMin d (ix2 i 0)
      = Finset.fold min (Ideal.ofBits .f32 2139095040#32) (fun x : Fin 1024 => d (ix2 i x)) Finset.univ := by
    pointwise [kMin]
  rw [h, ofBits_top]
  exact fold_min _ δ hd

/-- The first nearest code. -/
theorem kIdx_row : kIdx d (ix2 i 0) = BitVec.ofNat 32 (first δ).val := by
  have h : kIdx d (ix2 i 0) = Finset.fold IntOp.minsi 2147483647#32
      (fun x : Fin 1024 => if d (ix2 i x) = kMin d (ix2 i 0) then BitVec.ofNat 32 x.val else 1024#32) Finset.univ := by
    pointwise [kIdx, kIota]
  rw [h, kMin_row d i δ hd]
  exact fold_first _ δ hd

/-- The soft assignment. -/
theorem kSoft_row (k : Fin 1024) : kSoft d (ix2 i k) = (soft δ k : EReal) := by
  have h : kSoft d (ix2 i k) = Ideal.exp (kMin d (ix2 i 0) - d (ix2 i k))
      * Ideal.div 1 (∑ x : Fin 1024, Ideal.exp (kMin d (ix2 i 0) - d (ix2 i x))) := by
    pointwise [kSoft, kExp]
  rw [h, kMin_row d i δ hd]
  have he : ∀ x, Ideal.exp ((least δ : EReal) - d (ix2 i x)) = ((Real.exp (least δ - δ x) : ℝ) : EReal) := fun x => by
    rw [hd, ← EReal.coe_sub]; rfl
  rw [sum_eq _ _ he, he, one_div (sum_exp_pos δ), ← EReal.coe_mul]
  rfl

/-- The loss. -/
theorem kLoss_row : kLoss d (ix2 i 0) = (loss δ : EReal) := by
  have h : kLoss d (ix2 i 0) = kMin d (ix2 i 0) * Ideal.ofBits .f32 1023410176#32
      + Ideal.ofBits .f32 1008981770#32 * (kMin d (ix2 i 0) * Ideal.ofBits .f32 1023410176#32) := by
    pointwise [kLoss, kMean]
  rw [h, kMin_row d i δ hd, ofBits_32nd, ofBits_beta, ← EReal.coe_mul, ← EReal.coe_mul, ← EReal.coe_add]
  rfl

end Row

/-- The indicator of one code among the codes. -/
theorem hot (k q : Fin 1024) :
    (FloatOps.sitofp .f32 (BitVec.setWidth 32 (IntOp.cmpi .eq (BitVec.ofNat 32 k.val) (BitVec.ofNat 32 q.val))) : Ideal .f32)
      = if k = q then (1 : EReal) else 0 := by
  by_cases h : k = q
  · subst h
    rw [if_pos rfl]
    have : IntOp.cmpi .eq (BitVec.ofNat 32 k.val) (BitVec.ofNat 32 k.val) = 1#1 := by simp [IntOp.cmpi]
    rw [this]
    show (((BitVec.setWidth 32 1#1).toInt : ℝ) : EReal) = 1
    rw [show (BitVec.setWidth 32 1#1).toInt = 1 from by decide]; norm_num
  · rw [if_neg h]
    have : IntOp.cmpi .eq (BitVec.ofNat 32 k.val) (BitVec.ofNat 32 q.val) = 0#1 := by
      have hne : BitVec.ofNat 32 k.val ≠ BitVec.ofNat 32 q.val := fun e => h (Fin.ext (by
        have := congrArg BitVec.toNat e
        simp only [BitVec.toNat_ofNat] at this
        omega))
      simp [IntOp.cmpi, beq_eq_false_iff_ne.mpr hne]
    rw [this]
    show (((BitVec.setWidth 32 0#1).toInt : ℝ) : EReal) = 0
    rw [show (BitVec.setWidth 32 0#1).toInt = 0 from by decide]; norm_num

/-- What a layer adds: the chosen code. -/
theorem kQuants_row (r : FVec Ideal S256x32 .f32) (z : IVec S256x1 32) (b1 b2 b3 : Vec Ideal S1x1024x32 .bf16)
    (i : Fin 256) (x : Row) (c : Book) (q : Fin 1024) (hr : ∀ j, r (ix2 i j) = (x j : EReal))
    (hz : z (ix2 i 0) = BitVec.ofNat 32 q.val) (h1 : ∀ k j, b1 (ix3 0 k j) = (c k j : EReal))
    (h2 : ∀ k j, b2 (ix3 0 k j) = 0) (h3 : ∀ k j, b3 (ix3 0 k j) = 0) (j : Fin 32) :
    kQuants r z b1 b2 b3 (ix2 i j) = (c q j : EReal) := by
  have h : kQuants r z b1 b2 b3 (ix2 i j) = r (ix2 i j)
      + (∑ k : Fin 1024, (FloatOps.sitofp .f32 (BitVec.setWidth 32 (IntOp.cmpi .eq (BitVec.ofNat 32 k.val) (z (ix2 i 0)))) : Ideal .f32)
            * b1 (ix3 0 k j)
        + ∑ k : Fin 1024, (FloatOps.sitofp .f32 (BitVec.setWidth 32 (IntOp.cmpi .eq (BitVec.ofNat 32 k.val) (z (ix2 i 0)))) : Ideal .f32)
            * b2 (ix3 0 k j)
        + ∑ k : Fin 1024, (FloatOps.sitofp .f32 (BitVec.setWidth 32 (IntOp.cmpi .eq (BitVec.ofNat 32 k.val) (z (ix2 i 0)))) : Ideal .f32)
            * b3 (ix3 0 k j) - r (ix2 i j)) := by
    pointwise [kQuants, kPart, kHot, kIota]
  rw [h, hz]
  simp only [hot, h1, h2, h3, mul_zero, Finset.sum_const_zero, add_zero, ite_mul, one_mul, zero_mul,
    Finset.sum_ite_eq', Finset.mem_univ, if_true, hr]
  rw [← EReal.coe_sub, ← EReal.coe_add]
  congr 1; ring

section Layers
variable (r : FVec Ideal S256x32 .f32) (w : ℕ → Vec Ideal S1x1024x32 .f32) (n : ℕ → Vec Ideal S1x1x1024 .f32)
  (b1 b2 b3 : ℕ → Vec Ideal S1x1024x32 .bf16) (i : Fin 256) (x : Row) (c : ℕ → Book)

/-- The arrays hold a real row and real code books: their squared lengths, themselves as first parts, nothing as
    second and third parts. -/
structure Reads : Prop where
  row : ∀ j, r (ix2 i j) = (x j : EReal)
  book : ∀ l k j, w l (ix3 0 k j) = (c l k j : EReal)
  len : ∀ l k, n l (ix3 0 0 k) = ((∑ j, c l k j * c l k j : ℝ) : EReal)
  part1 : ∀ l k j, b1 l (ix3 0 k j) = (c l k j : EReal)
  part2 : ∀ l k j, b2 l (ix3 0 k j) = 0
  part3 : ∀ l k j, b3 l (ix3 0 k j) = 0

variable {r w n b1 b2 b3 i x c} (H : Reads r w n b1 b2 b3 i x c)
include H

theorem kX_row (l : ℕ) : ∀ j, kX r w n b1 b2 b3 l (ix2 i j) = (res x c l j : EReal) := by
  induction l with
  | zero => exact H.row
  | succ l ih =>
    intro j
    have h : kX r w n b1 b2 b3 (l + 1) (ix2 i j) = kX r w n b1 b2 b3 l (ix2 i j)
        - kQuants (kX r w n b1 b2 b3 l) (kIdx (kD (kX r w n b1 b2 b3 l) (w l) (n l))) (b1 l) (b2 l) (b3 l) (ix2 i j) := rfl
    rw [h, kQuants_row _ _ _ _ _ i (res x c l) (c l) (first (dist (res x c l) (c l))) ih
      (kIdx_row _ i _ (kD_row _ _ _ i _ _ ih (H.book l) (H.len l))) (H.part1 l) (H.part2 l) (H.part3 l), ih, ← EReal.coe_sub]
    rfl

theorem kDist_row (l : ℕ) (k : Fin 1024) : kDist r w n b1 b2 b3 l (ix2 i k) = (layer x c l k : EReal) :=
  kD_row _ _ _ i _ _ (kX_row H l) (H.book l) (H.len l) k

theorem kAcc_row (l : ℕ) : ∀ j, kAcc r w n b1 b2 b3 l (ix2 i j) = (acc x c l j : EReal) := by
  induction l with
  | zero =>
    intro j
    show Ideal.ofBits .f32 0x00000000#32 = _
    rw [Ideal.ofBits_zero_f32]; rfl
  | succ l ih =>
    intro j
    have h : kAcc r w n b1 b2 b3 (l + 1) (ix2 i j) = kAcc r w n b1 b2 b3 l (ix2 i j) + kQ r w n b1 b2 b3 l (ix2 i j) := rfl
    rw [h, kQ, kQuants_row _ _ _ _ _ i (res x c l) (c l) (first (layer x c l)) (kX_row H l)
      (kIdx_row _ i _ (kDist_row H l)) (H.part1 l) (H.part2 l) (H.part3 l), ih, ← EReal.coe_add]
    rfl

end Layers

end Cert.KRow
end
-- ==== Proof.KCanon.lean ====
module

public import proofs.«01_k».proof.Proof.KRow
public import Idealize.ShloMosaic.Lib.Pipeline.ReadBack
@[expose] public section

/-! Blocks of 512 rows stored piece by piece, read at an entry: two halves of 256 rows, or two halves of four columns. -/

noncomputable section
namespace Cert.KCanon
open Idealize.ShloMosaic
open Cert.KernelIdeal Cert.KernelIdeal.Gen Cert.KDefs

/-- Rows of the first and of the second half. -/
abbrev lo (i : Fin 256) : Fin 512 := ⟨i.val, by omega⟩
abbrev hi (i : Fin 256) : Fin 512 := ⟨256 + i.val, by omega⟩

/-- Every row is in a half. -/
theorem half (i : Fin 512) : (∃ j, i = lo j) ∨ ∃ j, i = hi j := by
  by_cases h : i.val < 256
  · exact Or.inl ⟨⟨i.val, h⟩, rfl⟩
  · exact Or.inr ⟨⟨i.val - 256, by omega⟩, Fin.ext (by show i.val = 256 + (i.val - 256); omega)⟩

section Two

variable (G : Fin 512 → Fin 1024 → EReal) (d0 d1 : FVec Ideal S256x1024 .f32)

theorem wide (h0 : ∀ i k, d0 (ix2 i k) = G (lo i) k) (h1 : ∀ i k, d1 (ix2 i k) = G (hi i) k) (i : Fin 512) (k : Fin 1024) :
    View.canon (Val := Elt Ideal) (e := .f32)
      [⟨Rect.unit (s := S512x1024) ![256, 0] ![256, 1024] inb_S512x1024_S256x1024_256_0, d1⟩,
       ⟨Rect.unit ![0, 0] ![256, 1024] inb_S512x1024_S256x1024_0_0, d0⟩] (ix2 i k) = G i k := by
  rcases half i with ⟨j, rfl⟩ | ⟨j, rfl⟩
  · rw [View.canon_cons_of_not_mem]
    · rw [← h0 j k]
      have e : (ix2 (lo j) k : S512x1024.Idx)
          = (Rect.unit (s := S512x1024) ![0, 0] ![256, 1024] inb_S512x1024_S256x1024_0_0).emb (ix2 j k) := by
        funext a
        fin_cases a <;> exact Fin.ext (by simp [Rect.emb, Rect.unit, lo, ix2])
      rw [e, View.canon_cons_emb]
    · rw [Rect.mem_set_unit]
      intro h
      have := (h 0).1
      simp [lo, ix2] at this
      omega
  · rw [← h1 j k]
    have e : (ix2 (hi j) k : S512x1024.Idx)
        = (Rect.unit (s := S512x1024) ![256, 0] ![256, 1024] inb_S512x1024_S256x1024_256_0).emb (ix2 j k) := by
      funext a
      fin_cases a <;> exact Fin.ext (by simp [Rect.emb, Rect.unit, hi, ix2])
    rw [e, View.canon_cons_emb]

end Two

section TwoNarrow
variable (G : Fin 512 → Fin 32 → EReal) (d0 d1 : FVec Ideal S256x32 .f32)

theorem narrow (h0 : ∀ i k, d0 (ix2 i k) = G (lo i) k) (h1 : ∀ i k, d1 (ix2 i k) = G (hi i) k) (i : Fin 512) (k : Fin 32) :
    View.canon (Val := Elt Ideal) (e := .f32)
      [⟨Rect.unit (s := S512x32) ![256, 0] ![256, 32] inb_S512x32_S256x32_256_0, d1⟩,
       ⟨Rect.unit ![0, 0] ![256, 32] inb_S512x32_S256x32_0_0, d0⟩] (ix2 i k) = G i k := by
  rcases half i with ⟨j, rfl⟩ | ⟨j, rfl⟩
  · rw [View.canon_cons_of_not_mem]
    · rw [← h0 j k]
      have e : (ix2 (lo j) k : S512x32.Idx)
          = (Rect.unit (s := S512x32) ![0, 0] ![256, 32] inb_S512x32_S256x32_0_0).emb (ix2 j k) := by
        funext a
        fin_cases a <;> exact Fin.ext (by simp [Rect.emb, Rect.unit, lo, ix2])
      rw [e, View.canon_cons_emb]
    · rw [Rect.mem_set_unit]
      intro h
      have := (h 0).1
      simp [lo, ix2] at this
      omega
  · rw [← h1 j k]
    have e : (ix2 (hi j) k : S512x32.Idx)
        = (Rect.unit (s := S512x32) ![256, 0] ![256, 32] inb_S512x32_S256x32_256_0).emb (ix2 j k) := by
      funext a
      fin_cases a <;> exact Fin.ext (by simp [Rect.emb, Rect.unit, hi, ix2])
    rw [e, View.canon_cons_emb]

end TwoNarrow

section Eight
variable {e : EltTy} (G : Fin 512 → ℕ → Elt Ideal e) (d0 d1 : ℕ → S256x1.Idx → Elt Ideal e)

/-- A place outside a piece of one column. -/
theorem not_col (i : Fin 512) (k : Fin 4) (off l : ℕ) (inb) (h : ¬(off ≤ i.val ∧ i.val < off + 256 ∧ k.val = l)) :
    (ix2 i k : S512x4.Idx) ∉ (Rect.unit (s := S512x4) ![off, l] ![256, 1] inb).set := by
  rw [Rect.mem_set_unit]
  intro hm
  have h0 : off ≤ i.val ∧ i.val < off + 256 := hm 0
  have h1 : l ≤ k.val ∧ k.val < l + 1 := hm 1
  exact h ⟨h0.1, h0.2, by omega⟩

/-- A place inside a piece of one column. -/
theorem in_col (i : Fin 512) (k : Fin 4) (j : Fin 256) (off l : ℕ) (inb) (hi : i.val = off + j.val) (hk : k.val = l) :
    (ix2 i k : S512x4.Idx) = (Rect.unit (s := S512x4) ![off, l] ![256, 1] inb).emb (ix2 j 0) := by
  funext a
  apply Fin.ext
  fin_cases a
  · show i.val = off + 1 * j.val; omega
  · show k.val = l + 1 * 0; omega

/-- Passing a piece that does not hold the place. -/
theorem skip {s : Shape} (p : View.Piece (Elt Ideal) s e) (L : List (View.Piece (Elt Ideal) s e)) (y : s.Idx) (v : Elt Ideal e)
    (h : y ∉ p.1.set) (hL : View.canon L y = v) : View.canon (p :: L) y = v :=
  (View.canon_cons_of_not_mem p L h).trans hL

/-- Reading the piece that holds the place. -/
theorem take {s : Shape} (r : Rect s) (w : r.shape.Idx → Elt Ideal e) (L : List (View.Piece (Elt Ideal) s e)) (y : s.Idx)
    (v : Elt Ideal e) (x : r.shape.Idx) (h : y = r.emb x) (hv : w x = v) :
    View.canon ((⟨r, w⟩ : View.Piece (Elt Ideal) s e) :: L) y = v := by
  rw [h]
  exact (View.canon_cons_emb r w L x).trans hv

theorem cols (h0 : ∀ i l, d0 l (ix2 i 0) = G (lo i) l) (h1 : ∀ i l, d1 l (ix2 i 0) = G (hi i) l) (i : Fin 512) (k : Fin 4) :
    View.canon (Val := Elt Ideal) (e := e)
      [⟨Rect.unit (s := S512x4) ![256, 3] ![256, 1] inb_S512x4_S256x1_256_3, d1 3⟩,
       ⟨Rect.unit (s := S512x4) ![256, 2] ![256, 1] inb_S512x4_S256x1_256_2, d1 2⟩,
       ⟨Rect.unit (s := S512x4) ![256, 1] ![256, 1] inb_S512x4_S256x1_256_1, d1 1⟩,
       ⟨Rect.unit (s := S512x4) ![256, 0] ![256, 1] inb_S512x4_S256x1_256_0, d1 0⟩,
       ⟨Rect.unit (s := S512x4) ![0, 3] ![256, 1] inb_S512x4_S256x1_0_3, d0 3⟩,
       ⟨Rect.unit (s := S512x4) ![0, 2] ![256, 1] inb_S512x4_S256x1_0_2, d0 2⟩,
       ⟨Rect.unit (s := S512x4) ![0, 1] ![256, 1] inb_S512x4_S256x1_0_1, d0 1⟩,
       ⟨Rect.unit (s := S512x4) ![0, 0] ![256, 1] inb_S512x4_S256x1_0_0, d0 0⟩] (ix2 i k) = G i k.val := by
  rcases half i with ⟨j, rfl⟩ | ⟨j, rfl⟩
  · have ho : (lo j).val = 0 + j.val := by show j.val = _; omega
    have hn : ∀ l, ¬(256 ≤ (lo j).val ∧ (lo j).val < 256 + 256 ∧ k.val = l) := fun l => by
      show ¬(256 ≤ j.val ∧ _ ∧ _); omega
    refine skip _ _ _ _ (not_col _ k 256 3 inb_S512x4_S256x1_256_3 (hn 3)) ?_
    refine skip _ _ _ _ (not_col _ k 256 2 inb_S512x4_S256x1_256_2 (hn 2)) ?_
    refine skip _ _ _ _ (not_col _ k 256 1 inb_S512x4_S256x1_256_1 (hn 1)) ?_
    refine skip _ _ _ _ (not_col _ k 256 0 inb_S512x4_S256x1_256_0 (hn 0)) ?_
    rcases (by omega : k.val = 0 ∨ k.val = 1 ∨ k.val = 2 ∨ k.val = 3) with h | h | h | h
    · refine skip _ _ _ _ (not_col _ k 0 3 inb_S512x4_S256x1_0_3 (by omega)) ?_
      refine skip _ _ _ _ (not_col _ k 0 2 inb_S512x4_S256x1_0_2 (by omega)) ?_
      refine skip _ _ _ _ (not_col _ k 0 1 inb_S512x4_S256x1_0_1 (by omega)) ?_
      exact take _ _ _ _ _ (ix2 j 0) (in_col _ k j 0 0 inb_S512x4_S256x1_0_0 ho h) ((h0 j 0).trans (by rw [h]))
    · refine skip _ _ _ _ (not_col _ k 0 3 inb_S512x4_S256x1_0_3 (by omega)) ?_
      refine skip _ _ _ _ (not_col _ k 0 2 inb_S512x4_S256x1_0_2 (by omega)) ?_
      exact take _ _ _ _ _ (ix2 j 0) (in_col _ k j 0 1 inb_S512x4_S256x1_0_1 ho h) ((h0 j 1).trans (by rw [h]))
    · refine skip _ _ _ _ (not_col _ k 0 3 inb_S512x4_S256x1_0_3 (by omega)) ?_
      exact take _ _ _ _ _ (ix2 j 0) (in_col _ k j 0 2 inb_S512x4_S256x1_0_2 ho h) ((h0 j 2).trans (by rw [h]))
    · exact take _ _ _ _ _ (ix2 j 0) (in_col _ k j 0 3 inb_S512x4_S256x1_0_3 ho h) ((h0 j 3).trans (by rw [h]))
  · have ho : (hi j).val = 256 + j.val := rfl
    rcases (by omega : k.val = 0 ∨ k.val = 1 ∨ k.val = 2 ∨ k.val = 3) with h | h | h | h
    · refine skip _ _ _ _ (not_col _ k 256 3 inb_S512x4_S256x1_256_3 (by omega)) ?_
      refine skip _ _ _ _ (not_col _ k 256 2 inb_S512x4_S256x1_256_2 (by omega)) ?_
      refine skip _ _ _ _ (not_col _ k 256 1 inb_S512x4_S256x1_256_1 (by omega)) ?_
      exact take _ _ _ _ _ (ix2 j 0) (in_col _ k j 256 0 inb_S512x4_S256x1_256_0 ho h) ((h1 j 0).trans (by rw [h]))
    · refine skip _ _ _ _ (not_col _ k 256 3 inb_S512x4_S256x1_256_3 (by omega)) ?_
      refine skip _ _ _ _ (not_col _ k 256 2 inb_S512x4_S256x1_256_2 (by omega)) ?_
      exact take _ _ _ _ _ (ix2 j 0) (in_col _ k j 256 1 inb_S512x4_S256x1_256_1 ho h) ((h1 j 1).trans (by rw [h]))
    · refine skip _ _ _ _ (not_col _ k 256 3 inb_S512x4_S256x1_256_3 (by omega)) ?_
      exact take _ _ _ _ _ (ix2 j 0) (in_col _ k j 256 2 inb_S512x4_S256x1_256_2 ho h) ((h1 j 2).trans (by rw [h]))
    · exact take _ _ _ _ _ (ix2 j 0) (in_col _ k j 256 3 inb_S512x4_S256x1_256_3 ho h) ((h1 j 3).trans (by rw [h]))

end Eight

end Cert.KCanon
end
-- ==== Proof.KBlk.lean ====
module

public import proofs.«01_k».proof.Proof.KPoint
public import proofs.«01_k».proof.Proof.KCanon
@[expose] public section

/-! The blocks of a point over the real numbers: with real rows and real code books, every entry of every block is the
    row's mathematics. -/

noncomputable section
namespace Cert.KBlk
open Idealize.ShloMosaic
open Cert.KernelIdeal Cert.KernelIdeal.Gen Cert.KDefs Cert.KPoint Cert.KCanon Cert.RowMath

/-- Four code books as a sequence, the last repeated. -/
def seq (C : Fin 4 → Book) (l : ℕ) : Book := C ⟨min l 3, by omega⟩

theorem ldW_at (W : Vec Ideal S4x1024x32 .f32) (l : ℕ) (k : Fin 1024) (j : Fin 32) :
    ldW W l (ix3 0 k j) = W (ix3 ⟨min l 3, by omega⟩ k j) := by
  match l with
  | 0 => show ldW W 0 (ix3 0 k j) = W (ix3 0 k j); pointwise [ldW]
  | 1 => show ldW W 1 (ix3 0 k j) = W (ix3 1 k j); pointwise [ldW]
  | 2 => show ldW W 2 (ix3 0 k j) = W (ix3 2 k j); pointwise [ldW]
  | l + 3 =>
    have : (⟨min (l + 3) 3, by omega⟩ : Fin 4) = 3 := Fin.ext (by show min (l + 3) 3 = 3; omega)
    rw [this, ldW_rep]
    show ldW W 3 (ix3 0 k j) = W (ix3 3 k j)
    pointwise [ldW]

theorem ldLo_at (x : Vec Ideal S512x32 .f32) (i : Fin 256) (j : Fin 32) : ldLo x (ix2 i j) = x (ix2 (lo i) j) := by
  pointwise [ldLo]

theorem ldHi_at (x : Vec Ideal S512x32 .f32) (i : Fin 256) (j : Fin 32) : ldHi x (ix2 i j) = x (ix2 (hi i) j) := by
  pointwise [ldHi]

section Parts
variable (w : Vec Ideal S1x1024x32 .f32) (c : Book) (h : ∀ k j, w (ix3 0 k j) = (c k j : EReal))
include h

theorem kCn_at (k : Fin 1024) : kCn w (ix3 0 0 k) = ((∑ j, c k j * c k j : ℝ) : EReal) := by
  have e : kCn w (ix3 0 0 k) = ∑ j, w (ix3 0 k j) * w (ix3 0 k j) := by
    pointwise [kCn]
  rw [e, sum_eq _ _ fun j => by rw [h, EReal.coe_mul]]

theorem kM1_at (k : Fin 1024) (j : Fin 32) : kSt (kM1 w) (ix3 0 k j) = (c k j : EReal) := by
  have e : kSt (kM1 w) (ix3 0 k j) = w (ix3 0 k j) := by
    pointwise [kSt, kM1]
  rw [e, h]

theorem kM2_at (k : Fin 1024) (j : Fin 32) : kSt (kM2 w) (ix3 0 k j) = (0 : EReal) := by
  have e : kSt (kM2 w) (ix3 0 k j) = w (ix3 0 k j) - w (ix3 0 k j) := by
    pointwise [kSt, kM2, kR1, kM1]
  rw [e, h, ← EReal.coe_sub, sub_self, EReal.coe_zero]

theorem kM3_at (k : Fin 1024) (j : Fin 32) : kSt (kM3 w) (ix3 0 k j) = (0 : EReal) := by
  have e : kSt (kM3 w) (ix3 0 k j) = (w (ix3 0 k j) - w (ix3 0 k j)) - (w (ix3 0 k j) - w (ix3 0 k j)) := by
    pointwise [kSt, kM3, kM2, kR1, kM1]
  rw [e, h, ← EReal.coe_sub, sub_self, ← EReal.coe_sub, sub_self, EReal.coe_zero]

end Parts

section Block
variable (x : Vec Ideal S512x32 .f32) (W : Vec Ideal S4x1024x32 .f32) (X : Fin 512 → Row) (C : Fin 4 → Book)
  (hx : ∀ i j, x (ix2 i j) = (X i j : EReal)) (hW : ∀ l k j, W (ix3 l k j) = (C l k j : EReal))
include hx hW

theorem reads (r : FVec Ideal S256x32 .f32) (i : Fin 256) (y : Row) (hr : ∀ j, r (ix2 i j) = (y j : EReal)) :
    KRow.Reads r (ldW W) (pN W) (p1 W) (p2 W) (p3 W) i y (seq C) :=
  have hb : ∀ l k j, ldW W l (ix3 0 k j) = (seq C l k j : EReal) := fun l k j => (ldW_at W l k j).trans (hW _ k j)
  ⟨hr, hb, fun l => kCn_at _ _ (hb l), fun l => kM1_at _ _ (hb l), fun l => kM2_at _ _ (hb l), fun l => kM3_at _ _ (hb l)⟩

theorem reads_lo (i : Fin 256) : KRow.Reads (ldLo x) (ldW W) (pN W) (p1 W) (p2 W) (p3 W) i (X (lo i)) (seq C) :=
  reads x W X C hx hW _ i _ fun j => (ldLo_at x i j).trans (hx _ j)

theorem reads_hi (i : Fin 256) : KRow.Reads (ldHi x) (ldW W) (pN W) (p1 W) (p2 W) (p3 W) i (X (hi i)) (seq C) :=
  reads x W X C hx hW _ i _ fun j => (ldHi_at x i j).trans (hx _ j)

theorem bIdx_at (i : Fin 512) (l : Fin 4) :
    bIdx x W (ix2 i l) = BitVec.ofNat 32 (first (layer (X i) (seq C) l)).val :=
  cols (e := .i32) (fun i l => BitVec.ofNat 32 (first (layer (X i) (seq C) l)).val) (fun l => kIdx (dL x W l))
    (fun l => kIdx (dH x W l)) (fun i l => KRow.kIdx_row _ i _ (KRow.kDist_row (reads_lo x W X C hx hW i) l))
    (fun i l => KRow.kIdx_row _ i _ (KRow.kDist_row (reads_hi x W X C hx hW i) l)) i l

theorem bLoss_at (i : Fin 512) (l : Fin 4) : bLoss x W (ix2 i l) = (loss (layer (X i) (seq C) l) : EReal) :=
  cols (e := .f32) (fun i l => (loss (layer (X i) (seq C) l) : EReal)) (fun l => kLoss (dL x W l))
    (fun l => kLoss (dH x W l)) (fun i l => KRow.kLoss_row _ i _ (KRow.kDist_row (reads_lo x W X C hx hW i) l))
    (fun i l => KRow.kLoss_row _ i _ (KRow.kDist_row (reads_hi x W X C hx hW i) l)) i l

theorem bSoft_at (l : ℕ) (i : Fin 512) (k : Fin 1024) : bSoft x W l (ix2 i k) = (soft (layer (X i) (seq C) l) k : EReal) :=
  wide (fun i k => (soft (layer (X i) (seq C) l) k : EReal)) (kSoft (dL x W l)) (kSoft (dH x W l))
    (fun i k => KRow.kSoft_row _ i _ (KRow.kDist_row (reads_lo x W X C hx hW i) l) k)
    (fun i k => KRow.kSoft_row _ i _ (KRow.kDist_row (reads_hi x W X C hx hW i) l) k) i k

theorem bAcc_at (i : Fin 512) (j : Fin 32) : bAcc x W (ix2 i j) = (acc (X i) (seq C) 4 j : EReal) :=
  narrow (fun i j => (acc (X i) (seq C) 4 j : EReal)) _ _ (fun i j => KRow.kAcc_row (reads_lo x W X C hx hW i) 4 j)
    (fun i j => KRow.kAcc_row (reads_hi x W X C hx hW i) 4 j) i j

end Block

end Cert.KBlk
end
-- ==== Proof.KArr.lean ====
module

public import proofs.«01_k».proof.Proof.KBlk
public import Idealize.ShloMosaic.Lib.Pipeline.Value
@[expose] public section

/-! The kernel's result arrays over the real numbers: the blocks of the 32 points tile them. -/

noncomputable section
namespace Cert.KArr
open Idealize.ShloMosaic Idealize.ShloMosaic.TcCoe Idealize.SL.Sem
open Cert.KernelIdeal Cert.KernelIdeal.Gen Cert.KDefs Cert.KPoint Cert.KBlk Cert.RowMath

/-- The results of all rows: indices, soft assignments of a layer, quantised rows, losses. -/
def gIdx (X : Fin 16384 → Row) (C : Fin 4 → Book) : S16384x4.Idx → Elt Ideal .i32 :=
  fun y => BitVec.ofNat 32 (first (layer (X (y 0)) (seq C) (y 1).val)).val
def gSoft (X : Fin 16384 → Row) (C : Fin 4 → Book) (l : ℕ) : S16384x1024.Idx → Elt Ideal .f32 :=
  fun y => (soft (layer (X (y 0)) (seq C) l) (y 1) : EReal)
def gAcc (X : Fin 16384 → Row) (C : Fin 4 → Book) : S16384x32.Idx → Elt Ideal .f32 :=
  fun y => (acc (X (y 0)) (seq C) 4 (y 1) : EReal)
def gLoss (X : Fin 16384 → Row) (C : Fin 4 → Book) : S16384x4.Idx → Elt Ideal .f32 :=
  fun y => (loss (layer (X (y 0)) (seq C) (y 1).val) : EReal)

section Arrays
variable (m : (ℓ : Loc nD τ sig) → Buf (Elt Ideal) ℓ) (c : Dev nD) (X : Fin 16384 → Row) (C : Fin 4 → Book)
  (hX : ∀ i j, (m ((c : Thread nD τ).loc main_arg0) : Vec Ideal S16384x32 .f32) (ix2 i j) = (X i j : EReal))
  (hC : ∀ l k j, (m ((c : Thread nD τ).loc main_arg1) : Vec Ideal S4x1024x32 .f32) (ix3 l k j) = (C l k j : EReal))

/-- The row of the whole array a block's row is. -/
def row (t : Fin cfg0.N) (i : Fin 512) : Fin 16384 :=
  ⟨512 * t.val + i.val, by have h : t.val < 32 := lt_of_lt_of_eq t.isLt N_0; omega⟩

/-- Where result array 1's blocks lie. -/
theorem index_2 (t : Fin cfg0.N) : win0_2.index t 0 * win0_2.size 0 = 512 * t.val ∧ win0_2.xsize (grid0.coords t) 0 = 512
    ∧ win0_2.index t 1 * win0_2.size 1 = 0 ∧ win0_2.xsize (grid0.coords t) 1 = 4 := by
  revert t; decide +kernel

/-- The entries of a block: its 512 rows, every column. -/
theorem mem_2 (t : Fin cfg0.N) (i : S16384x4.Idx) :
    i ∈ ((cfg0.win 2).blk t).view.set ↔ 512 * t.val ≤ (i 0 : ℕ) ∧ (i 0 : ℕ) < 512 * t.val + 512 := by
  show i ∈ ((View.whole main_v0_0).slice (win0_2.rect t)).set ↔ _
  rw [View.set_slice_whole, Rect.mem_set_unit]
  have h1 : (i 1 : ℕ) < 4 := (i 1).isLt
  have e := index_2 t
  refine ⟨fun h => ?_, fun h a => ?_⟩
  · have : win0_2.index t 0 * win0_2.size 0 ≤ (i 0 : ℕ)
        ∧ (i 0 : ℕ) < win0_2.index t 0 * win0_2.size 0 + win0_2.xsize (grid0.coords t) 0 := h 0
    rw [e.1, e.2.1] at this; exact this
  · match a with
    | ⟨0, _⟩ =>
      show win0_2.index t 0 * win0_2.size 0 ≤ (i 0 : ℕ)
        ∧ (i 0 : ℕ) < win0_2.index t 0 * win0_2.size 0 + win0_2.xsize (grid0.coords t) 0
      rw [e.1, e.2.1]; exact h
    | ⟨1, _⟩ =>
      show win0_2.index t 1 * win0_2.size 1 ≤ (i 1 : ℕ)
        ∧ (i 1 : ℕ) < win0_2.index t 1 * win0_2.size 1 + win0_2.xsize (grid0.coords t) 1
      rw [e.2.2.1, e.2.2.2]; omega

/-- Every entry lies in the block of some point, and every point writes its block back. -/
theorem cover_2 (i : S16384x4.Idx) : ∃ t : Fin cfg0.N, (cfg0.win 2).flush t = true ∧ i ∈ ((cfg0.win 2).blk t).view.set := by
  have h0 : (i 0 : ℕ) < 16384 := (i 0).isLt
  have hN : cfg0.N = 32 := N_0
  refine ⟨⟨(i 0 : ℕ) / 512, by omega⟩, flush0_2 _, ?_⟩
  rw [mem_2]
  dsimp only
  omega

/-- Where an entry of a block lies in the whole array. -/
theorem place_2 (t : Fin cfg0.N) (p : Fin 512) (q : Fin 4) :
    ((cfg0.win 2).blk t).view.emb (ix2 p q : S512x4.Idx) = (ix2 (row t p) q : S16384x4.Idx) := by
  have e := index_2 t
  funext a
  apply Fin.ext
  match a with
  | ⟨0, _⟩ => show win0_2.index t 0 * win0_2.size 0 + 1 * p.val = 512 * t.val + p.val; rw [e.1]; omega
  | ⟨1, _⟩ => show win0_2.index t 1 * win0_2.size 1 + 1 * q.val = q.val; rw [e.2.2.1]; omega

include hX hC in
/-- What a point writes back is its block of the whole result. -/
theorem flushed_2 (t : Fin cfg0.N) : (dats m 0 c).flushed 2 t = ((cfg0.win 2).blk t).view.read (Elt Ideal) (gIdx X C) := by
  have hx : ∀ i j, rows m c t (ix2 i j) = (X (row t i) j : EReal) := fun i j => (rows_at m c t i j (row t i).isLt).trans (hX _ j)
  have hW : ∀ l k j, books m c (ix3 l k j) = (C l k j : EReal) := hC
  show (cfg0.win 2).cut (grid0.coords t) ((dats m 0 c).after 2 t) = _
  rw [block_2]
  have key : ∀ (p : Fin 512) (q : Fin 4), bIdx (rows m c t) (books m c) (ix2 p q)
      = gIdx X C (((cfg0.win 2).blk t).view.emb (ix2 p q : S512x4.Idx)) := fun p q => by
    rw [place_2]
    exact bIdx_at _ _ _ _ hx hW p q
  funext j
  have hj : j = (ix2 (j 0) (j 1) : S512x4.Idx) := by
    funext a
    fin_cases a <;> rfl
  rw [View.read_apply, hj]
  exact key (j 0) (j 1)

include hX hC in
/-- Result array 1 in the end. -/
theorem final_2 : (dats m 0 c).arrAt 2 cfg0.N = gIdx X C :=
  (dats m 0 c).arrAt_eq_of_cover 2 (gIdx X C) (fun t _ => flushed_2 m c X C hX hC t) cover_2

/-- Where result array 2's blocks lie. -/
theorem index_3 (t : Fin cfg0.N) : win0_3.index t 0 * win0_3.size 0 = 512 * t.val ∧ win0_3.xsize (grid0.coords t) 0 = 512
    ∧ win0_3.index t 1 * win0_3.size 1 = 0 ∧ win0_3.xsize (grid0.coords t) 1 = 1024 := by
  revert t; decide +kernel

/-- The entries of a block: its 512 rows, every column. -/
theorem mem_3 (t : Fin cfg0.N) (i : S16384x1024.Idx) :
    i ∈ ((cfg0.win 3).blk t).view.set ↔ 512 * t.val ≤ (i 0 : ℕ) ∧ (i 0 : ℕ) < 512 * t.val + 512 := by
  show i ∈ ((View.whole main_call0_v0_1).slice (win0_3.rect t)).set ↔ _
  rw [View.set_slice_whole, Rect.mem_set_unit]
  have h1 : (i 1 : ℕ) < 1024 := (i 1).isLt
  have e := index_3 t
  refine ⟨fun h => ?_, fun h a => ?_⟩
  · have : win0_3.index t 0 * win0_3.size 0 ≤ (i 0 : ℕ)
        ∧ (i 0 : ℕ) < win0_3.index t 0 * win0_3.size 0 + win0_3.xsize (grid0.coords t) 0 := h 0
    rw [e.1, e.2.1] at this; exact this
  · match a with
    | ⟨0, _⟩ =>
      show win0_3.index t 0 * win0_3.size 0 ≤ (i 0 : ℕ)
        ∧ (i 0 : ℕ) < win0_3.index t 0 * win0_3.size 0 + win0_3.xsize (grid0.coords t) 0
      rw [e.1, e.2.1]; exact h
    | ⟨1, _⟩ =>
      show win0_3.index t 1 * win0_3.size 1 ≤ (i 1 : ℕ)
        ∧ (i 1 : ℕ) < win0_3.index t 1 * win0_3.size 1 + win0_3.xsize (grid0.coords t) 1
      rw [e.2.2.1, e.2.2.2]; omega

/-- Every entry lies in the block of some point, and every point writes its block back. -/
theorem cover_3 (i : S16384x1024.Idx) : ∃ t : Fin cfg0.N, (cfg0.win 3).flush t = true ∧ i ∈ ((cfg0.win 3).blk t).view.set := by
  have h0 : (i 0 : ℕ) < 16384 := (i 0).isLt
  have hN : cfg0.N = 32 := N_0
  refine ⟨⟨(i 0 : ℕ) / 512, by omega⟩, flush0_3 _, ?_⟩
  rw [mem_3]
  dsimp only
  omega

/-- Where an entry of a block lies in the whole array. -/
theorem place_3 (t : Fin cfg0.N) (p : Fin 512) (q : Fin 1024) :
    ((cfg0.win 3).blk t).view.emb (ix2 p q : S512x1024.Idx) = (ix2 (row t p) q : S16384x1024.Idx) := by
  have e := index_3 t
  funext a
  apply Fin.ext
  match a with
  | ⟨0, _⟩ => show win0_3.index t 0 * win0_3.size 0 + 1 * p.val = 512 * t.val + p.val; rw [e.1]; omega
  | ⟨1, _⟩ => show win0_3.index t 1 * win0_3.size 1 + 1 * q.val = q.val; rw [e.2.2.1]; omega

include hX hC in
/-- What a point writes back is its block of the whole result. -/
theorem flushed_3 (t : Fin cfg0.N) : (dats m 0 c).flushed 3 t = ((cfg0.win 3).blk t).view.read (Elt Ideal) (gSoft X C 0) := by
  have hx : ∀ i j, rows m c t (ix2 i j) = (X (row t i) j : EReal) := fun i j => (rows_at m c t i j (row t i).isLt).trans (hX _ j)
  have hW : ∀ l k j, books m c (ix3 l k j) = (C l k j : EReal) := hC
  show (cfg0.win 3).cut (grid0.coords t) ((dats m 0 c).after 3 t) = _
  rw [block_3]
  have key : ∀ (p : Fin 512) (q : Fin 1024), bSoft (rows m c t) (books m c) 0 (ix2 p q)
      = gSoft X C 0 (((cfg0.win 3).blk t).view.emb (ix2 p q : S512x1024.Idx)) := fun p q => by
    rw [place_3]
    exact bSoft_at _ _ _ _ hx hW 0 p q
  funext j
  have hj : j = (ix2 (j 0) (j 1) : S512x1024.Idx) := by
    funext a
    fin_cases a <;> rfl
  rw [View.read_apply, hj]
  exact key (j 0) (j 1)

include hX hC in
/-- Result array 2 in the end. -/
theorem final_3 : (dats m 0 c).arrAt 3 cfg0.N = gSoft X C 0 :=
  (dats m 0 c).arrAt_eq_of_cover 3 (gSoft X C 0) (fun t _ => flushed_3 m c X C hX hC t) cover_3

/-- Where result array 3's blocks lie. -/
theorem index_4 (t : Fin cfg0.N) : win0_4.index t 0 * win0_4.size 0 = 512 * t.val ∧ win0_4.xsize (grid0.coords t) 0 = 512
    ∧ win0_4.index t 1 * win0_4.size 1 = 0 ∧ win0_4.xsize (grid0.coords t) 1 = 1024 := by
  revert t; decide +kernel

/-- The entries of a block: its 512 rows, every column. -/
theorem mem_4 (t : Fin cfg0.N) (i : S16384x1024.Idx) :
    i ∈ ((cfg0.win 4).blk t).view.set ↔ 512 * t.val ≤ (i 0 : ℕ) ∧ (i 0 : ℕ) < 512 * t.val + 512 := by
  show i ∈ ((View.whole main_call0_v0_2).slice (win0_4.rect t)).set ↔ _
  rw [View.set_slice_whole, Rect.mem_set_unit]
  have h1 : (i 1 : ℕ) < 1024 := (i 1).isLt
  have e := index_4 t
  refine ⟨fun h => ?_, fun h a => ?_⟩
  · have : win0_4.index t 0 * win0_4.size 0 ≤ (i 0 : ℕ)
        ∧ (i 0 : ℕ) < win0_4.index t 0 * win0_4.size 0 + win0_4.xsize (grid0.coords t) 0 := h 0
    rw [e.1, e.2.1] at this; exact this
  · match a with
    | ⟨0, _⟩ =>
      show win0_4.index t 0 * win0_4.size 0 ≤ (i 0 : ℕ)
        ∧ (i 0 : ℕ) < win0_4.index t 0 * win0_4.size 0 + win0_4.xsize (grid0.coords t) 0
      rw [e.1, e.2.1]; exact h
    | ⟨1, _⟩ =>
      show win0_4.index t 1 * win0_4.size 1 ≤ (i 1 : ℕ)
        ∧ (i 1 : ℕ) < win0_4.index t 1 * win0_4.size 1 + win0_4.xsize (grid0.coords t) 1
      rw [e.2.2.1, e.2.2.2]; omega

/-- Every entry lies in the block of some point, and every point writes its block back. -/
theorem cover_4 (i : S16384x1024.Idx) : ∃ t : Fin cfg0.N, (cfg0.win 4).flush t = true ∧ i ∈ ((cfg0.win 4).blk t).view.set := by
  have h0 : (i 0 : ℕ) < 16384 := (i 0).isLt
  have hN : cfg0.N = 32 := N_0
  refine ⟨⟨(i 0 : ℕ) / 512, by omega⟩, flush0_4 _, ?_⟩
  rw [mem_4]
  dsimp only
  omega

/-- Where an entry of a block lies in the whole array. -/
theorem place_4 (t : Fin cfg0.N) (p : Fin 512) (q : Fin 1024) :
    ((cfg0.win 4).blk t).view.emb (ix2 p q : S512x1024.Idx) = (ix2 (row t p) q : S16384x1024.Idx) := by
  have e := index_4 t
  funext a
  apply Fin.ext
  match a with
  | ⟨0, _⟩ => show win0_4.index t 0 * win0_4.size 0 + 1 * p.val = 512 * t.val + p.val; rw [e.1]; omega
  | ⟨1, _⟩ => show win0_4.index t 1 * win0_4.size 1 + 1 * q.val = q.val; rw [e.2.2.1]; omega

include hX hC in
/-- What a point writes back is its block of the whole result. -/
theorem flushed_4 (t : Fin cfg0.N) : (dats m 0 c).flushed 4 t = ((cfg0.win 4).blk t).view.read (Elt Ideal) (gSoft X C 1) := by
  have hx : ∀ i j, rows m c t (ix2 i j) = (X (row t i) j : EReal) := fun i j => (rows_at m c t i j (row t i).isLt).trans (hX _ j)
  have hW : ∀ l k j, books m c (ix3 l k j) = (C l k j : EReal) := hC
  show (cfg0.win 4).cut (grid0.coords t) ((dats m 0 c).after 4 t) = _
  rw [block_4]
  have key : ∀ (p : Fin 512) (q : Fin 1024), bSoft (rows m c t) (books m c) 1 (ix2 p q)
      = gSoft X C 1 (((cfg0.win 4).blk t).view.emb (ix2 p q : S512x1024.Idx)) := fun p q => by
    rw [place_4]
    exact bSoft_at _ _ _ _ hx hW 1 p q
  funext j
  have hj : j = (ix2 (j 0) (j 1) : S512x1024.Idx) := by
    funext a
    fin_cases a <;> rfl
  rw [View.read_apply, hj]
  exact key (j 0) (j 1)

include hX hC in
/-- Result array 3 in the end. -/
theorem final_4 : (dats m 0 c).arrAt 4 cfg0.N = gSoft X C 1 :=
  (dats m 0 c).arrAt_eq_of_cover 4 (gSoft X C 1) (fun t _ => flushed_4 m c X C hX hC t) cover_4

/-- Where result array 4's blocks lie. -/
theorem index_5 (t : Fin cfg0.N) : win0_5.index t 0 * win0_5.size 0 = 512 * t.val ∧ win0_5.xsize (grid0.coords t) 0 = 512
    ∧ win0_5.index t 1 * win0_5.size 1 = 0 ∧ win0_5.xsize (grid0.coords t) 1 = 1024 := by
  revert t; decide +kernel

/-- The entries of a block: its 512 rows, every column. -/
theorem mem_5 (t : Fin cfg0.N) (i : S16384x1024.Idx) :
    i ∈ ((cfg0.win 5).blk t).view.set ↔ 512 * t.val ≤ (i 0 : ℕ) ∧ (i 0 : ℕ) < 512 * t.val + 512 := by
  show i ∈ ((View.whole main_call0_v0_3).slice (win0_5.rect t)).set ↔ _
  rw [View.set_slice_whole, Rect.mem_set_unit]
  have h1 : (i 1 : ℕ) < 1024 := (i 1).isLt
  have e := index_5 t
  refine ⟨fun h => ?_, fun h a => ?_⟩
  · have : win0_5.index t 0 * win0_5.size 0 ≤ (i 0 : ℕ)
        ∧ (i 0 : ℕ) < win0_5.index t 0 * win0_5.size 0 + win0_5.xsize (grid0.coords t) 0 := h 0
    rw [e.1, e.2.1] at this; exact this
  · match a with
    | ⟨0, _⟩ =>
      show win0_5.index t 0 * win0_5.size 0 ≤ (i 0 : ℕ)
        ∧ (i 0 : ℕ) < win0_5.index t 0 * win0_5.size 0 + win0_5.xsize (grid0.coords t) 0
      rw [e.1, e.2.1]; exact h
    | ⟨1, _⟩ =>
      show win0_5.index t 1 * win0_5.size 1 ≤ (i 1 : ℕ)
        ∧ (i 1 : ℕ) < win0_5.index t 1 * win0_5.size 1 + win0_5.xsize (grid0.coords t) 1
      rw [e.2.2.1, e.2.2.2]; omega

/-- Every entry lies in the block of some point, and every point writes its block back. -/
theorem cover_5 (i : S16384x1024.Idx) : ∃ t : Fin cfg0.N, (cfg0.win 5).flush t = true ∧ i ∈ ((cfg0.win 5).blk t).view.set := by
  have h0 : (i 0 : ℕ) < 16384 := (i 0).isLt
  have hN : cfg0.N = 32 := N_0
  refine ⟨⟨(i 0 : ℕ) / 512, by omega⟩, flush0_5 _, ?_⟩
  rw [mem_5]
  dsimp only
  omega

/-- Where an entry of a block lies in the whole array. -/
theorem place_5 (t : Fin cfg0.N) (p : Fin 512) (q : Fin 1024) :
    ((cfg0.win 5).blk t).view.emb (ix2 p q : S512x1024.Idx) = (ix2 (row t p) q : S16384x1024.Idx) := by
  have e := index_5 t
  funext a
  apply Fin.ext
  match a with
  | ⟨0, _⟩ => show win0_5.index t 0 * win0_5.size 0 + 1 * p.val = 512 * t.val + p.val; rw [e.1]; omega
  | ⟨1, _⟩ => show win0_5.index t 1 * win0_5.size 1 + 1 * q.val = q.val; rw [e.2.2.1]; omega

include hX hC in
/-- What a point writes back is its block of the whole result. -/
theorem flushed_5 (t : Fin cfg0.N) : (dats m 0 c).flushed 5 t = ((cfg0.win 5).blk t).view.read (Elt Ideal) (gSoft X C 2) := by
  have hx : ∀ i j, rows m c t (ix2 i j) = (X (row t i) j : EReal) := fun i j => (rows_at m c t i j (row t i).isLt).trans (hX _ j)
  have hW : ∀ l k j, books m c (ix3 l k j) = (C l k j : EReal) := hC
  show (cfg0.win 5).cut (grid0.coords t) ((dats m 0 c).after 5 t) = _
  rw [block_5]
  have key : ∀ (p : Fin 512) (q : Fin 1024), bSoft (rows m c t) (books m c) 2 (ix2 p q)
      = gSoft X C 2 (((cfg0.win 5).blk t).view.emb (ix2 p q : S512x1024.Idx)) := fun p q => by
    rw [place_5]
    exact bSoft_at _ _ _ _ hx hW 2 p q
  funext j
  have hj : j = (ix2 (j 0) (j 1) : S512x1024.Idx) := by
    funext a
    fin_cases a <;> rfl
  rw [View.read_apply, hj]
  exact key (j 0) (j 1)

include hX hC in
/-- Result array 4 in the end. -/
theorem final_5 : (dats m 0 c).arrAt 5 cfg0.N = gSoft X C 2 :=
  (dats m 0 c).arrAt_eq_of_cover 5 (gSoft X C 2) (fun t _ => flushed_5 m c X C hX hC t) cover_5

/-- Where result array 5's blocks lie. -/
theorem index_6 (t : Fin cfg0.N) : win0_6.index t 0 * win0_6.size 0 = 512 * t.val ∧ win0_6.xsize (grid0.coords t) 0 = 512
    ∧ win0_6.index t 1 * win0_6.size 1 = 0 ∧ win0_6.xsize (grid0.coords t) 1 = 1024 := by
  revert t; decide +kernel

/-- The entries of a block: its 512 rows, every column. -/
theorem mem_6 (t : Fin cfg0.N) (i : S16384x1024.Idx) :
    i ∈ ((cfg0.win 6).blk t).view.set ↔ 512 * t.val ≤ (i 0 : ℕ) ∧ (i 0 : ℕ) < 512 * t.val + 512 := by
  show i ∈ ((View.whole main_call0_v0_4).slice (win0_6.rect t)).set ↔ _
  rw [View.set_slice_whole, Rect.mem_set_unit]
  have h1 : (i 1 : ℕ) < 1024 := (i 1).isLt
  have e := index_6 t
  refine ⟨fun h => ?_, fun h a => ?_⟩
  · have : win0_6.index t 0 * win0_6.size 0 ≤ (i 0 : ℕ)
        ∧ (i 0 : ℕ) < win0_6.index t 0 * win0_6.size 0 + win0_6.xsize (grid0.coords t) 0 := h 0
    rw [e.1, e.2.1] at this; exact this
  · match a with
    | ⟨0, _⟩ =>
      show win0_6.index t 0 * win0_6.size 0 ≤ (i 0 : ℕ)
        ∧ (i 0 : ℕ) < win0_6.index t 0 * win0_6.size 0 + win0_6.xsize (grid0.coords t) 0
      rw [e.1, e.2.1]; exact h
    | ⟨1, _⟩ =>
      show win0_6.index t 1 * win0_6.size 1 ≤ (i 1 : ℕ)
        ∧ (i 1 : ℕ) < win0_6.index t 1 * win0_6.size 1 + win0_6.xsize (grid0.coords t) 1
      rw [e.2.2.1, e.2.2.2]; omega

/-- Every entry lies in the block of some point, and every point writes its block back. -/
theorem cover_6 (i : S16384x1024.Idx) : ∃ t : Fin cfg0.N, (cfg0.win 6).flush t = true ∧ i ∈ ((cfg0.win 6).blk t).view.set := by
  have h0 : (i 0 : ℕ) < 16384 := (i 0).isLt
  have hN : cfg0.N = 32 := N_0
  refine ⟨⟨(i 0 : ℕ) / 512, by omega⟩, flush0_6 _, ?_⟩
  rw [mem_6]
  dsimp only
  omega

/-- Where an entry of a block lies in the whole array. -/
theorem place_6 (t : Fin cfg0.N) (p : Fin 512) (q : Fin 1024) :
    ((cfg0.win 6).blk t).view.emb (ix2 p q : S512x1024.Idx) = (ix2 (row t p) q : S16384x1024.Idx) := by
  have e := index_6 t
  funext a
  apply Fin.ext
  match a with
  | ⟨0, _⟩ => show win0_6.index t 0 * win0_6.size 0 + 1 * p.val = 512 * t.val + p.val; rw [e.1]; omega
  | ⟨1, _⟩ => show win0_6.index t 1 * win0_6.size 1 + 1 * q.val = q.val; rw [e.2.2.1]; omega

include hX hC in
/-- What a point writes back is its block of the whole result. -/
theorem flushed_6 (t : Fin cfg0.N) : (dats m 0 c).flushed 6 t = ((cfg0.win 6).blk t).view.read (Elt Ideal) (gSoft X C 3) := by
  have hx : ∀ i j, rows m c t (ix2 i j) = (X (row t i) j : EReal) := fun i j => (rows_at m c t i j (row t i).isLt).trans (hX _ j)
  have hW : ∀ l k j, books m c (ix3 l k j) = (C l k j : EReal) := hC
  show (cfg0.win 6).cut (grid0.coords t) ((dats m 0 c).after 6 t) = _
  rw [block_6]
  have key : ∀ (p : Fin 512) (q : Fin 1024), bSoft (rows m c t) (books m c) 3 (ix2 p q)
      = gSoft X C 3 (((cfg0.win 6).blk t).view.emb (ix2 p q : S512x1024.Idx)) := fun p q => by
    rw [place_6]
    exact bSoft_at _ _ _ _ hx hW 3 p q
  funext j
  have hj : j = (ix2 (j 0) (j 1) : S512x1024.Idx) := by
    funext a
    fin_cases a <;> rfl
  rw [View.read_apply, hj]
  exact key (j 0) (j 1)

include hX hC in
/-- Result array 5 in the end. -/
theorem final_6 : (dats m 0 c).arrAt 6 cfg0.N = gSoft X C 3 :=
  (dats m 0 c).arrAt_eq_of_cover 6 (gSoft X C 3) (fun t _ => flushed_6 m c X C hX hC t) cover_6

/-- Where result array 6's blocks lie. -/
theorem index_7 (t : Fin cfg0.N) : win0_7.index t 0 * win0_7.size 0 = 512 * t.val ∧ win0_7.xsize (grid0.coords t) 0 = 512
    ∧ win0_7.index t 1 * win0_7.size 1 = 0 ∧ win0_7.xsize (grid0.coords t) 1 = 32 := by
  revert t; decide +kernel

/-- The entries of a block: its 512 rows, every column. -/
theorem mem_7 (t : Fin cfg0.N) (i : S16384x32.Idx) :
    i ∈ ((cfg0.win 7).blk t).view.set ↔ 512 * t.val ≤ (i 0 : ℕ) ∧ (i 0 : ℕ) < 512 * t.val + 512 := by
  show i ∈ ((View.whole main_v0_2).slice (win0_7.rect t)).set ↔ _
  rw [View.set_slice_whole, Rect.mem_set_unit]
  have h1 : (i 1 : ℕ) < 32 := (i 1).isLt
  have e := index_7 t
  refine ⟨fun h => ?_, fun h a => ?_⟩
  · have : win0_7.index t 0 * win0_7.size 0 ≤ (i 0 : ℕ)
        ∧ (i 0 : ℕ) < win0_7.index t 0 * win0_7.size 0 + win0_7.xsize (grid0.coords t) 0 := h 0
    rw [e.1, e.2.1] at this; exact this
  · match a with
    | ⟨0, _⟩ =>
      show win0_7.index t 0 * win0_7.size 0 ≤ (i 0 : ℕ)
        ∧ (i 0 : ℕ) < win0_7.index t 0 * win0_7.size 0 + win0_7.xsize (grid0.coords t) 0
      rw [e.1, e.2.1]; exact h
    | ⟨1, _⟩ =>
      show win0_7.index t 1 * win0_7.size 1 ≤ (i 1 : ℕ)
        ∧ (i 1 : ℕ) < win0_7.index t 1 * win0_7.size 1 + win0_7.xsize (grid0.coords t) 1
      rw [e.2.2.1, e.2.2.2]; omega

/-- Every entry lies in the block of some point, and every point writes its block back. -/
theorem cover_7 (i : S16384x32.Idx) : ∃ t : Fin cfg0.N, (cfg0.win 7).flush t = true ∧ i ∈ ((cfg0.win 7).blk t).view.set := by
  have h0 : (i 0 : ℕ) < 16384 := (i 0).isLt
  have hN : cfg0.N = 32 := N_0
  refine ⟨⟨(i 0 : ℕ) / 512, by omega⟩, flush0_7 _, ?_⟩
  rw [mem_7]
  dsimp only
  omega

/-- Where an entry of a block lies in the whole array. -/
theorem place_7 (t : Fin cfg0.N) (p : Fin 512) (q : Fin 32) :
    ((cfg0.win 7).blk t).view.emb (ix2 p q : S512x32.Idx) = (ix2 (row t p) q : S16384x32.Idx) := by
  have e := index_7 t
  funext a
  apply Fin.ext
  match a with
  | ⟨0, _⟩ => show win0_7.index t 0 * win0_7.size 0 + 1 * p.val = 512 * t.val + p.val; rw [e.1]; omega
  | ⟨1, _⟩ => show win0_7.index t 1 * win0_7.size 1 + 1 * q.val = q.val; rw [e.2.2.1]; omega

include hX hC in
/-- What a point writes back is its block of the whole result. -/
theorem flushed_7 (t : Fin cfg0.N) : (dats m 0 c).flushed 7 t = ((cfg0.win 7).blk t).view.read (Elt Ideal) (gAcc X C) := by
  have hx : ∀ i j, rows m c t (ix2 i j) = (X (row t i) j : EReal) := fun i j => (rows_at m c t i j (row t i).isLt).trans (hX _ j)
  have hW : ∀ l k j, books m c (ix3 l k j) = (C l k j : EReal) := hC
  show (cfg0.win 7).cut (grid0.coords t) ((dats m 0 c).after 7 t) = _
  rw [block_7]
  have key : ∀ (p : Fin 512) (q : Fin 32), bAcc (rows m c t) (books m c) (ix2 p q)
      = gAcc X C (((cfg0.win 7).blk t).view.emb (ix2 p q : S512x32.Idx)) := fun p q => by
    rw [place_7]
    exact bAcc_at _ _ _ _ hx hW p q
  funext j
  have hj : j = (ix2 (j 0) (j 1) : S512x32.Idx) := by
    funext a
    fin_cases a <;> rfl
  rw [View.read_apply, hj]
  exact key (j 0) (j 1)

include hX hC in
/-- Result array 6 in the end. -/
theorem final_7 : (dats m 0 c).arrAt 7 cfg0.N = gAcc X C :=
  (dats m 0 c).arrAt_eq_of_cover 7 (gAcc X C) (fun t _ => flushed_7 m c X C hX hC t) cover_7

/-- Where result array 7's blocks lie. -/
theorem index_8 (t : Fin cfg0.N) : win0_8.index t 0 * win0_8.size 0 = 512 * t.val ∧ win0_8.xsize (grid0.coords t) 0 = 512
    ∧ win0_8.index t 1 * win0_8.size 1 = 0 ∧ win0_8.xsize (grid0.coords t) 1 = 4 := by
  revert t; decide +kernel

/-- The entries of a block: its 512 rows, every column. -/
theorem mem_8 (t : Fin cfg0.N) (i : S16384x4.Idx) :
    i ∈ ((cfg0.win 8).blk t).view.set ↔ 512 * t.val ≤ (i 0 : ℕ) ∧ (i 0 : ℕ) < 512 * t.val + 512 := by
  show i ∈ ((View.whole main_v0_3).slice (win0_8.rect t)).set ↔ _
  rw [View.set_slice_whole, Rect.mem_set_unit]
  have h1 : (i 1 : ℕ) < 4 := (i 1).isLt
  have e := index_8 t
  refine ⟨fun h => ?_, fun h a => ?_⟩
  · have : win0_8.index t 0 * win0_8.size 0 ≤ (i 0 : ℕ)
        ∧ (i 0 : ℕ) < win0_8.index t 0 * win0_8.size 0 + win0_8.xsize (grid0.coords t) 0 := h 0
    rw [e.1, e.2.1] at this; exact this
  · match a with
    | ⟨0, _⟩ =>
      show win0_8.index t 0 * win0_8.size 0 ≤ (i 0 : ℕ)
        ∧ (i 0 : ℕ) < win0_8.index t 0 * win0_8.size 0 + win0_8.xsize (grid0.coords t) 0
      rw [e.1, e.2.1]; exact h
    | ⟨1, _⟩ =>
      show win0_8.index t 1 * win0_8.size 1 ≤ (i 1 : ℕ)
        ∧ (i 1 : ℕ) < win0_8.index t 1 * win0_8.size 1 + win0_8.xsize (grid0.coords t) 1
      rw [e.2.2.1, e.2.2.2]; omega

/-- Every entry lies in the block of some point, and every point writes its block back. -/
theorem cover_8 (i : S16384x4.Idx) : ∃ t : Fin cfg0.N, (cfg0.win 8).flush t = true ∧ i ∈ ((cfg0.win 8).blk t).view.set := by
  have h0 : (i 0 : ℕ) < 16384 := (i 0).isLt
  have hN : cfg0.N = 32 := N_0
  refine ⟨⟨(i 0 : ℕ) / 512, by omega⟩, flush0_8 _, ?_⟩
  rw [mem_8]
  dsimp only
  omega

/-- Where an entry of a block lies in the whole array. -/
theorem place_8 (t : Fin cfg0.N) (p : Fin 512) (q : Fin 4) :
    ((cfg0.win 8).blk t).view.emb (ix2 p q : S512x4.Idx) = (ix2 (row t p) q : S16384x4.Idx) := by
  have e := index_8 t
  funext a
  apply Fin.ext
  match a with
  | ⟨0, _⟩ => show win0_8.index t 0 * win0_8.size 0 + 1 * p.val = 512 * t.val + p.val; rw [e.1]; omega
  | ⟨1, _⟩ => show win0_8.index t 1 * win0_8.size 1 + 1 * q.val = q.val; rw [e.2.2.1]; omega

include hX hC in
/-- What a point writes back is its block of the whole result. -/
theorem flushed_8 (t : Fin cfg0.N) : (dats m 0 c).flushed 8 t = ((cfg0.win 8).blk t).view.read (Elt Ideal) (gLoss X C) := by
  have hx : ∀ i j, rows m c t (ix2 i j) = (X (row t i) j : EReal) := fun i j => (rows_at m c t i j (row t i).isLt).trans (hX _ j)
  have hW : ∀ l k j, books m c (ix3 l k j) = (C l k j : EReal) := hC
  show (cfg0.win 8).cut (grid0.coords t) ((dats m 0 c).after 8 t) = _
  rw [block_8]
  have key : ∀ (p : Fin 512) (q : Fin 4), bLoss (rows m c t) (books m c) (ix2 p q)
      = gLoss X C (((cfg0.win 8).blk t).view.emb (ix2 p q : S512x4.Idx)) := fun p q => by
    rw [place_8]
    exact bLoss_at _ _ _ _ hx hW p q
  funext j
  have hj : j = (ix2 (j 0) (j 1) : S512x4.Idx) := by
    funext a
    fin_cases a <;> rfl
  rw [View.read_apply, hj]
  exact key (j 0) (j 1)

include hX hC in
/-- Result array 7 in the end. -/
theorem final_8 : (dats m 0 c).arrAt 8 cfg0.N = gLoss X C :=
  (dats m 0 c).arrAt_eq_of_cover 8 (gLoss X C) (fun t _ => flushed_8 m c X C hX hC t) cover_8

end Arrays

end Cert.KArr
end
-- ==== Proof.RefDefs.lean ====
/-
The reference layer by layer. One layer, from the residual `x` and the layer's code table `cb`: the distances `refDist`,
the nearest code `refIdx`, the soft assignment `refSoft`, the picked codes `refTake`, the loss `refLoss`, and what the layer
hands on.
-/
module

public import proofs.«01_k».proof.Proof.RefRun

@[expose] public section

noncomputable section

namespace Cert.RefRun

open Idealize.ShloMosaic Idealize.ShloMosaic.StableHlo Idealize.SL.Sem Cert.ReferenceIdeal Cert.ReferenceIdeal.Gen

set_option maxHeartbeats 4000000
set_option maxRecDepth 100000

/-- An array of floats, of 32-bit integers, of flags. -/
abbrev Flt (S : Shape) := FVec Ideal S .f32
abbrev Int32 (S : Shape) := IVec S 32

/-- The scalars the reference names. -/
def czero : Flt S_ := constant S_ .f32 0x00000000#32
def ctwo : Flt S_ := constant S_ .f32 0x40000000#32
def cinf : Flt S_ := constant S_ .f32 0x7F800000#32
def cninf : Flt S_ := constant S_ .f32 0xFF800000#32
def cnan : Flt S_ := constant S_ .f32 0x7FC00000#32
def c32 : Flt S_ := constant S_ .f32 0x42000000#32
def cbeta : Flt S_ := constant S_ .f32 0x3C23D70A#32

/-- A layer's code table. -/
def refCb (w : Flt S4x1024x32) : ℕ → Flt S1024x32
  | 0 => shapeCast S1024x32 (extractStridedSlice S1x1024x32 ![0, 0, 0] w slices_S4x1024x32_S1x1024x32_0_0_0) shapeCasts_S1x1024x32_S1024x32
  | 1 => shapeCast S1024x32 (extractStridedSlice S1x1024x32 ![1, 0, 0] w slices_S4x1024x32_S1x1024x32_1_0_0) shapeCasts_S1x1024x32_S1024x32
  | 2 => shapeCast S1024x32 (extractStridedSlice S1x1024x32 ![2, 0, 0] w slices_S4x1024x32_S1x1024x32_2_0_0) shapeCasts_S1x1024x32_S1024x32
  | _ => shapeCast S1024x32 (extractStridedSlice S1x1024x32 ![3, 0, 0] w slices_S4x1024x32_S1x1024x32_3_0_0) shapeCasts_S1x1024x32_S1024x32

/-- Squared distances, row against code: `|x|² − (2x)·c + |c|²`. -/
def refDist (x : Flt S16384x32) (cb : Flt S1024x32) : Flt S16384x1024 :=
  addf
    (subf
      (broadcastInDim S16384x1024 ![0, 1] bcast_S16384x1_S16384x1024_0_1
        (broadcastInDim S16384x1 ![0] bcast_S16384_S16384x1_0 (Host.reduceAdd (mulf x x) czero reducesTo_S16384x32_S16384_d1 h_S_)))
      (Host.dotGeneral dot_S16384x32_S32x1024_S16384x1024_1_0_0_1_n_n none
        (mulf (broadcastInDim S16384x32 ![] bcast_S_S16384x32 ctwo) x)
        (transpose S32x1024 [1, 0] cb transposes_S1024x32_S32x1024_1_0)))
    (broadcastInDim S16384x1024 ![0, 1] bcast_S1x1024_S16384x1024_0_1
      (broadcastInDim S1x1024 ![1] bcast_S1024_S1x1024_1 (Host.reduceAdd (mulf cb cb) czero reducesTo_S1024x32_S1024_d1 h_S_)))

/-- The first nearest code of each row. -/
def refIdx (d : Flt S16384x1024) : Int32 S16384 :=
  fun j => (Host.argReduce reducer_argmin_f32_i32 d (iotaInDim S16384x1024 32 1) cinf (constantI S_ 32 0#32)
    reducesTo_S16384x1024_S16384_d1 h_S_ j).2

/-- The exponentials of the soft assignment, shifted by the row's largest exponent. -/
def refExp (d : Flt S16384x1024) : Flt S16384x1024 :=
  Host.exp (subf (Host.negf d)
    (broadcastInDim S16384x1024 ![0, 1] bcast_S16384x1_S16384x1024_0_1
      (broadcastInDim S16384x1 ![0] bcast_S16384_S16384x1_0
        (maximumf (broadcastInDim S16384 ![] bcast_S_S16384 cninf)
          (Host.reduce FloatOps.maximumf (Host.negf d) cninf reducesTo_S16384x1024_S16384_d1 h_S_)))))

/-- The soft assignment. -/
def refSoft (d : Flt S16384x1024) : Flt S16384x1024 :=
  Host.divf (refExp d)
    (broadcastInDim S16384x1024 ![0, 1] bcast_S16384x1_S16384x1024_0_1
      (broadcastInDim S16384x1 ![0] bcast_S16384_S16384x1_0
        (Host.reduceAdd (refExp d) czero reducesTo_S16384x1024_S16384_d1 h_S_)))

/-- The row numbers the pick uses, a negative one counted from the end. -/
def refRow (i : Int32 S16384) : Int32 S16384x1 :=
  broadcastInDim S16384x1 ![0] bcast_S16384_S16384x1_0
    (select (cmpi .slt i (broadcastInDim S16384 ![] bcast_S_S16384 (constantI S_ 32 0#32)))
      (addi i (broadcastInDim S16384 ![] bcast_S_S16384 (constantI S_ 32 1024#32))) i)

/-- Whether the row numbers lie in the table. -/
def refMask (i : Int32 S16384) : IVec S16384 1 :=
  Host.reduce IntOp.andi
    (andi (cmpi .sge (refRow i) (broadcastInDim S16384x1 ![] bcast_S_S16384x1 (constantI S_ 32 0#32)))
      (cmpi .sle (refRow i) (broadcastInDim S16384x1 ![0, 1] bcast_S1x1_S16384x1_0_1
        (broadcastInDim S1x1 ![1] bcast_S1_S1x1_1 (constantI S1 32 1023#32)))))
    (constantI S_ 1 1#1) reducesTo_S16384x1_S16384_d1 h_S_

/-- The picked codes. -/
def refTake (cb : Flt S1024x32) (i : Int32 S16384) : Flt S16384x32 :=
  select
    (broadcastInDim S16384x32 ![0] bcast_S16384_S16384x32_0 (refMask i))
    (Host.gather gather_S1024x32_S16384x1_S16384x32_1_0_n_n_0_1_132 cb (refRow i))
    (broadcastInDim S16384x32 ![] bcast_S_S16384x32 cnan)

/-- The mean of a row's squared error. -/
def refMean (x q : Flt S16384x32) : Flt S16384 :=
  Host.divf (Host.reduceAdd (mulf (subf x q) (subf x q)) czero reducesTo_S16384x32_S16384_d1 h_S_)
    (broadcastInDim S16384 ![] bcast_S_S16384 c32)

/-- The loss: the mean, and `BETA` times the mean. -/
def refLoss (x q : Flt S16384x32) : Flt S16384 :=
  addf (refMean x q) (mulf (broadcastInDim S16384 ![] bcast_S_S16384 cbeta) (refMean x q))

/-- The quantised row, as the straight-through form writes it. -/
def refQuants (x q : Flt S16384x32) : Flt S16384x32 := addf x (subf q x)

/-- The layers' residuals, distances, picks and sums so far. -/
def refX (x : Flt S16384x32) (w : Flt S4x1024x32) : ℕ → Flt S16384x32
  | 0 => x
  | l + 1 => subf (refX x w l) (refQuants (refX x w l) (refTake (refCb w l) (refIdx (refDist (refX x w l) (refCb w l)))))

def refD (x : Flt S16384x32) (w : Flt S4x1024x32) (l : ℕ) : Flt S16384x1024 := refDist (refX x w l) (refCb w l)
def refQ (x : Flt S16384x32) (w : Flt S4x1024x32) (l : ℕ) : Flt S16384x32 := refTake (refCb w l) (refIdx (refD x w l))

def refAcc (x : Flt S16384x32) (w : Flt S4x1024x32) : ℕ → Flt S16384x32
  | 0 => broadcastInDim S16384x32 ![] bcast_S_S16384x32 czero
  | l + 1 => addf (refAcc x w l) (refQuants (refX x w l) (refQ x w l))

theorem refAcc_succ (x : Flt S16384x32) (w : Flt S4x1024x32) (l : ℕ) :
    refAcc x w (l + 1) = addf (refAcc x w l) (addf (refX x w l) (subf (refQ x w l) (refX x w l))) := rfl

/-- The four results of the reference. -/
def refOutIdx (x : Flt S16384x32) (w : Flt S4x1024x32) : Int32 S16384x4 :=
  concatenate S16384x4 1
    [⟨S16384x1, broadcastInDim S16384x1 ![0] bcast_S16384_S16384x1_0 (refIdx (refD x w 0))⟩,
     ⟨S16384x1, broadcastInDim S16384x1 ![0] bcast_S16384_S16384x1_0 (refIdx (refD x w 1))⟩,
     ⟨S16384x1, broadcastInDim S16384x1 ![0] bcast_S16384_S16384x1_0 (refIdx (refD x w 2))⟩,
     ⟨S16384x1, broadcastInDim S16384x1 ![0] bcast_S16384_S16384x1_0 (refIdx (refD x w 3))⟩]
    concatenates_S16384x1_S16384x1_S16384x1_S16384x1_S16384x4_d1

def refOutSoft (x : Flt S16384x32) (w : Flt S4x1024x32) : Flt S16384x1024x4 :=
  concatenate S16384x1024x4 2
    [⟨S16384x1024x1, broadcastInDim S16384x1024x1 ![0, 1] bcast_S16384x1024_S16384x1024x1_0_1 (refSoft (refD x w 0))⟩,
     ⟨S16384x1024x1, broadcastInDim S16384x1024x1 ![0, 1] bcast_S16384x1024_S16384x1024x1_0_1 (refSoft (refD x w 1))⟩,
     ⟨S16384x1024x1, broadcastInDim S16384x1024x1 ![0, 1] bcast_S16384x1024_S16384x1024x1_0_1 (refSoft (refD x w 2))⟩,
     ⟨S16384x1024x1, broadcastInDim S16384x1024x1 ![0, 1] bcast_S16384x1024_S16384x1024x1_0_1 (refSoft (refD x w 3))⟩]
    concatenates_S16384x1024x1_S16384x1024x1_S16384x1024x1_S16384x1024x1_S16384x1024x4_d2

def refOutLoss (x : Flt S16384x32) (w : Flt S4x1024x32) : Flt S16384x4 :=
  concatenate S16384x4 1
    [⟨S16384x1, broadcastInDim S16384x1 ![0] bcast_S16384_S16384x1_0 (refLoss (refX x w 0) (refQ x w 0))⟩,
     ⟨S16384x1, broadcastInDim S16384x1 ![0] bcast_S16384_S16384x1_0 (refLoss (refX x w 1) (refQ x w 1))⟩,
     ⟨S16384x1, broadcastInDim S16384x1 ![0] bcast_S16384_S16384x1_0 (refLoss (refX x w 2) (refQ x w 2))⟩,
     ⟨S16384x1, broadcastInDim S16384x1 ![0] bcast_S16384_S16384x1_0 (refLoss (refX x w 3) (refQ x w 3))⟩]
    concatenates_S16384x1_S16384x1_S16384x1_S16384x1_S16384x4_d1

end Cert.RefRun

end
-- ==== Proof.RefArg.lean ====
module

public import proofs.«01_k».proof.Proof.RefDefs
public import proofs.«01_k».proof.Proof.RowMath
public import Idealize.ShloMosaic.Lib.Pointwise
@[expose] public section

/-! The reference's reductions along a row: its arg-min picks the first nearest code, and its maximum of the negated
    distances is minus the least distance. -/

noncomputable section
namespace Cert.RefRow
open Idealize.ShloMosaic
open Cert.ReferenceIdeal Cert.ReferenceIdeal.Gen Cert.RefRun Cert.RowMath

/-- One step of the arg-min over extended reals. -/
theorem step_eq (a b : EReal × BitVec 32) :
    reducer_argmin_f32_i32 (F := Ideal) a b
      = (if a.1 < b.1 then a.1 else b.1, if a.1 < b.1 ∨ (a.1 = b.1 ∧ a.2.toInt < b.2.toInt) then a.2 else b.2) := by
  unfold reducer_argmin_f32_i32
  by_cases h1 : a.1 < b.1 <;> by_cases h2 : a.1 = b.1 <;> by_cases h3 : a.2.toInt < b.2.toInt <;>
    simp [Ideal.cmpf_def, Ideal.cmp, IntOp.cmpi, IntOp.ori, IntOp.andi, Scalar.select, BitVec.slt, h1, h2, h3]

/-- A pair is at least another one: larger value, or the same value and no smaller number. -/
def Above (p b : EReal × BitVec 32) : Prop := b.1 < p.1 ∨ (b.1 = p.1 ∧ b.2.toInt ≤ p.2.toInt)

theorem step_above (a b c : EReal × BitVec 32) (ha : Above a c) (hb : Above b c) :
    Above (reducer_argmin_f32_i32 (F := Ideal) a b) c := by
  rw [step_eq]
  by_cases h : a.1 < b.1
  · simpa [h] using ha
  · by_cases h2 : a.1 = b.1 ∧ a.2.toInt < b.2.toInt
    · have := ha
      unfold Above at *
      simp only [h2.1, lt_irrefl, if_false, false_or, true_and, h2.2, if_true]
      rwa [h2.1] at this
    · simpa [h, h2] using hb

theorem step_left (b c : EReal × BitVec 32) (hb : Above b c) : reducer_argmin_f32_i32 (F := Ideal) c b = c := by
  rw [step_eq]
  rcases hb with h | ⟨h, h'⟩
  · simp [h]
  · by_cases h2 : c.2.toInt < b.2.toInt
    · rw [if_neg (by rw [h]; exact lt_irrefl _), if_pos (Or.inr ⟨h, h2⟩), ← h]
    · rw [if_neg (by rw [h]; exact lt_irrefl _), if_neg (by rintro (g | g); exact absurd g (by rw [h]; exact lt_irrefl _); exact h2 g.2)]
      have : c.2 = b.2 := BitVec.eq_of_toInt_eq (by omega)
      rw [← h, ← this]

theorem step_right (a c : EReal × BitVec 32) (ha : Above a c) : reducer_argmin_f32_i32 (F := Ideal) a c = c := by
  rw [step_eq]
  rcases ha with h | ⟨h, h'⟩
  · rw [if_neg (not_lt.mpr h.le), if_neg (by rintro (g | g); exact absurd g (not_lt.mpr h.le); exact absurd g.1 h.ne')]
  · rw [if_neg (by rw [h]; exact lt_irrefl _), if_neg (by
      rintro (g | g)
      · exact absurd g (by rw [h]; exact lt_irrefl _)
      · omega)]

/-- From the best pair on, the fold stays there. -/
theorem foldl_stay (c : EReal × BitVec 32) (L : List (EReal × BitVec 32)) (h : ∀ p ∈ L, Above p c) :
    L.foldl (reducer_argmin_f32_i32 (F := Ideal)) c = c := by
  induction L with
  | nil => rfl
  | cons p L ih =>
    rw [List.foldl_cons, step_left p c (h p (List.mem_cons_self ..))]
    exact ih fun q hq => h q (List.mem_cons_of_mem _ hq)

/-- The fold over a list that holds the best pair gives it. -/
theorem foldl_best (c : EReal × BitVec 32) (L : List (EReal × BitVec 32)) (h : ∀ p ∈ L, Above p c) (hc : c ∈ L)
    (a : EReal × BitVec 32) (ha : Above a c) : L.foldl (reducer_argmin_f32_i32 (F := Ideal)) a = c := by
  induction L generalizing a with
  | nil => simp at hc
  | cons p L ih =>
    have hL : ∀ q ∈ L, Above q c := fun q hq => h q (List.mem_cons_of_mem _ hq)
    rw [List.foldl_cons]
    rcases List.mem_cons.mp hc with rfl | hc
    · rw [step_right a c ha]; exact foldl_stay c L hL
    · exact ih hL hc _ (step_above _ _ _ ha (h p (List.mem_cons_self ..)))

/-- Dropping the column of a place leaves its row. -/
theorem drop_row (h : S16384x1024.ReducesTo [1] S16384) (i : S16384x1024.Idx) (j : Fin 16384) :
    h.drop i = ix1 j ↔ i 0 = j := by
  constructor
  · intro e
    have := congrFun e 0
    exact this
  · intro e
    funext a
    fin_cases a
    exact e

/-- The pairs the arg-min folds at a place: those of the places that drop to it. -/
theorem mem_fiber {α β : Type} {s t : Shape} {axes : List (Fin s.rank)} (x : s.Idx → α) (y : s.Idx → β)
    (h : s.ReducesTo axes t) (j : t.Idx) (p : α × β) :
    p ∈ Host.argReduceFiber x y h j ↔ ∃ i, h.drop i = j ∧ (x i, y i) = p := by
  unfold Host.argReduceFiber
  rw [List.mem_map]
  constructor
  · rintro ⟨n, hn, e⟩
    exact ⟨_, by simpa using hn, e⟩
  · rintro ⟨i, hi, e⟩
    exact ⟨s.rowMajor i, by simpa using hi, by simpa using e⟩

/-- A place in row `i` is the row with a column. -/
theorem place (z : S16384x1024.Idx) (i : Fin 16384) (hz : z 0 = i) : ∃ k : Fin 1024, z = ix2 i k :=
  ⟨z 1, by
    funext a
    fin_cases a
    · exact hz
    · rfl⟩

/-- The numbers an arg-min picks, for arrays of any shape. -/
def argIdx {s t u : Shape} {axes : List (Fin s.rank)}
    (f : EReal × BitVec 32 → EReal × BitVec 32 → EReal × BitVec 32) (d : FVec Ideal s .f32) (y : IVec s 32)
    (ix : FVec Ideal u .f32) (iy : IVec u 32) (h : s.ReducesTo axes t) (hu : 0 < u.numel) : IVec t 32 :=
  fun j => (Host.argReduce (F := Ideal) (φ := .f32) f d y ix iy h hu j).2

theorem argIdx_of_foldl {s t u : Shape} {axes : List (Fin s.rank)}
    (f : EReal × BitVec 32 → EReal × BitVec 32 → EReal × BitVec 32) (d : FVec Ideal s .f32) (y : IVec s 32)
    (ix : FVec Ideal u .f32) (iy : IVec u 32) (h : s.ReducesTo axes t) (hu : 0 < u.numel) (j : t.Idx)
    (v : EReal × BitVec 32)
    (hv : (Host.argReduceFiber d y h j).foldl f (ix (Shape.Idx.first hu), iy (Shape.Idx.first hu)) = v) :
    argIdx f d y ix iy h hu j = v.2 := by
  unfold argIdx
  rw [Ideal.argReduce_eq_reduce2, Host.reduce2_eq_foldl_fiber]
  exact congrArg Prod.snd hv

/-- The arg-min over a row of real numbers, each with its column number, is at the first least one. -/
theorem argIdx_row (d : Flt S16384x1024) (i : Fin 16384) (δ : Fin 1024 → ℝ) (hd : ∀ k, d (ix2 i k) = (δ k : EReal))
    (y : Int32 S16384x1024) (hy : ∀ k, y (ix2 i k) = BitVec.ofNat 32 k.val) (ix : Flt S_) (iy : Int32 S_)
    (hix : ∀ u, ix u = ⊤) (h : S16384x1024.ReducesTo [1] S16384) (hu : 0 < S_.numel) :
    argIdx (reducer_argmin_f32_i32 (F := Ideal)) d y ix iy h hu (ix1 i) = BitVec.ofNat 32 (first δ).val := by
  refine argIdx_of_foldl _ d y ix iy h hu (ix1 i) ((least δ : EReal), BitVec.ofNat 32 (first δ).val)
    (foldl_best _ _ ?_ ?_ _ ?_)
  · intro p hp
    obtain ⟨z, hz, rfl⟩ := (mem_fiber d y h (ix1 i) p).mp hp
    obtain ⟨k, rfl⟩ := place z i ((drop_row h z i).mp hz)
    rw [hd, hy]
    rcases (least_le δ k).lt_or_eq with g | g
    · exact Or.inl (EReal.coe_lt_coe_iff.mpr g)
    · refine Or.inr ⟨by rw [g], ?_⟩
      show (BitVec.ofNat 32 (first δ).val).toInt ≤ (BitVec.ofNat 32 k.val).toInt
      rw [toInt_ofNat (by omega), toInt_ofNat (by omega)]
      exact_mod_cast first_le δ k g.symm
  · refine (mem_fiber d y h (ix1 i) _).mpr ⟨ix2 i (first δ), (drop_row h _ i).mpr rfl, ?_⟩
    generalize hq : first δ = q
    rw [hd, hy, ← at_first δ, hq]
  · left
    rw [hix]; exact EReal.coe_lt_top _

/-- The column numbers. -/
theorem iota_row (i : Fin 16384) (k : Fin 1024) :
    (iotaInDim S16384x1024 32 1 : Int32 S16384x1024) (ix2 i k) = BitVec.ofNat 32 k.val := rfl

theorem cinf_top (u : S_.Idx) : cinf u = ⊤ := by
  unfold cinf; exact ofBits_top

/-- The reference's choice is that arg-min with the column numbers. -/
theorem refIdx_arg (d : Flt S16384x1024) : refIdx d = argIdx (reducer_argmin_f32_i32 (F := Ideal)) d (iotaInDim S16384x1024 32 1) cinf (constantI S_ 32 0#32)
    reducesTo_S16384x1024_S16384_d1 h_S_ := rfl

/-- The reference's choice in a row of real distances is the first nearest code. -/
theorem refIdx_row (d : Flt S16384x1024) (i : Fin 16384) (δ : Fin 1024 → ℝ) (hd : ∀ k, d (ix2 i k) = (δ k : EReal)) :
    refIdx d (ix1 i) = BitVec.ofNat 32 (first δ).val := by
  rw [refIdx_arg]
  exact argIdx_row d i δ hd _ (iota_row i) cinf _ cinf_top _ _

/-- The largest of the negated distances of a row. -/
theorem maxneg_row (d : Flt S16384x1024) (i : Fin 16384) (δ : Fin 1024 → ℝ) (hd : ∀ k, d (ix2 i k) = (δ k : EReal)) :
    (Host.reduce FloatOps.maximumf (Host.negf d) cninf reducesTo_S16384x1024_S16384_d1 h_S_ : Flt S16384) (ix1 i)
      = -(least δ : EReal) := by
  have key : ∀ y : Flt S16384x1024, (∀ k, y (ix2 i k) = -(δ k : EReal)) → ∀ (ix : Flt S_), (∀ u, ix u = ⊥) →
      ∀ (h' : S16384x1024.ReducesTo [1] S16384) (h : S16384x1024.Reduces [1] S16384) (hu : 0 < S_.numel),
      (Host.reduce (FloatOps.maximumf : Ideal .f32 → Ideal .f32 → Ideal .f32) y ix h' hu : Flt S16384) (ix1 i)
        = -(least δ : EReal) := by
    intro y hy ix hix h' h hu
    refine (Host.reduce_eq_fold_single max y ix h' h hu (ix1 i)).trans ?_
    rw [hix]
    refine fold_max_neg _ δ fun k => ?_
    rw [← hy k]
    refine congrArg y ?_
    funext a
    fin_cases a <;> rfl
  exact key _ (fun k => by show -(d (ix2 i k)) = _; rw [hd]) _ (fun u => ofBits_bot) _ (by decide) _

end Cert.RefRow
end
-- ==== Proof.RefRow.lean ====
module

public import proofs.«01_k».proof.Proof.RefArg
public import Idealize.ShloMosaic.Lib.Routing.Ops
@[expose] public section

/-! One row of the reference over the real numbers: with real arguments, every step computes the row's mathematics. -/

noncomputable section
namespace Cert.RefRow
open Idealize.ShloMosaic
open Cert.ReferenceIdeal Cert.ReferenceIdeal.Gen Cert.RefRun Cert.RowMath

/-- The distances. -/
theorem refDist_row (r : Flt S16384x32) (w : Flt S1024x32) (i : Fin 16384) (x : Row) (c : Book)
    (hr : ∀ j, r (ix2 i j) = (x j : EReal)) (hw : ∀ k j, w (ix2 k j) = (c k j : EReal)) (k : Fin 1024) :
    refDist r w (ix2 i k) = (dist x c k : EReal) := by
  have h : refDist r w (ix2 i k) = ∑ j, r (ix2 i j) * r (ix2 i j)
      - ∑ j, Ideal.ofBits .f32 1073741824#32 * r (ix2 i j) * w (ix2 k j) + ∑ j, w (ix2 k j) * w (ix2 k j) := by
    pointwise [refDist, czero, ctwo]
  rw [h, ofBits_two, sum_eq _ (fun j => x j * x j) (fun j => by rw [hr, EReal.coe_mul]),
    sum_eq _ (fun j => 2 * x j * c k j) (fun j => by rw [hr, hw, EReal.coe_mul, EReal.coe_mul]),
    sum_eq _ (fun j => c k j * c k j) (fun j => by rw [hw, EReal.coe_mul])]
  rw [← EReal.coe_sub, ← EReal.coe_add]
  refine EReal.coe_eq_coe_iff.mpr ?_
  unfold RowMath.dist
  rw [Finset.mul_sum]
  simp only [mul_assoc]

/-- The shifted exponentials. -/
theorem refExp_row (d : Flt S16384x1024) (i : Fin 16384) (δ : Fin 1024 → ℝ) (hd : ∀ k, d (ix2 i k) = (δ k : EReal))
    (k : Fin 1024) : refExp d (ix2 i k) = ((Real.exp (least δ - δ k) : ℝ) : EReal) := by
  have key : ∀ y : Flt S16384, y (ix1 i) = -(least δ : EReal) →
      (Host.exp (subf (Host.negf d)
        (broadcastInDim S16384x1024 ![0, 1] bcast_S16384x1_S16384x1024_0_1
          (broadcastInDim S16384x1 ![0] bcast_S16384_S16384x1_0
            (maximumf (broadcastInDim S16384 ![] bcast_S_S16384 cninf) y)))) : Flt S16384x1024) (ix2 i k)
        = ((Real.exp (least δ - δ k) : ℝ) : EReal) := by
    intro y hy
    have h : (Host.exp (subf (Host.negf d)
        (broadcastInDim S16384x1024 ![0, 1] bcast_S16384x1_S16384x1024_0_1
          (broadcastInDim S16384x1 ![0] bcast_S16384_S16384x1_0
            (maximumf (broadcastInDim S16384 ![] bcast_S_S16384 cninf) y)))) : Flt S16384x1024) (ix2 i k)
        = Ideal.exp (-(d (ix2 i k)) - max (Ideal.ofBits .f32 0xFF800000#32) (y (ix1 i))) := by
      pointwise [cninf]
    rw [h, hy, hd, ofBits_bot, max_eq_right bot_le, ← EReal.coe_neg, ← EReal.coe_neg, ← EReal.coe_sub]
    show ((Real.exp (-δ k - -least δ) : ℝ) : EReal) = _
    refine EReal.coe_eq_coe_iff.mpr (congrArg Real.exp ?_)
    ring
  exact key _ (maxneg_row d i δ hd)

/-- The soft assignment. -/
theorem refSoft_row (d : Flt S16384x1024) (i : Fin 16384) (δ : Fin 1024 → ℝ) (hd : ∀ k, d (ix2 i k) = (δ k : EReal))
    (k : Fin 1024) : refSoft d (ix2 i k) = (soft δ k : EReal) := by
  have key : ∀ e : Flt S16384x1024, (∀ k, e (ix2 i k) = ((Real.exp (least δ - δ k) : ℝ) : EReal)) →
      (Host.divf e
        (broadcastInDim S16384x1024 ![0, 1] bcast_S16384x1_S16384x1024_0_1
          (broadcastInDim S16384x1 ![0] bcast_S16384_S16384x1_0
            (Host.reduceAdd e czero reducesTo_S16384x1024_S16384_d1 h_S_))) : Flt S16384x1024) (ix2 i k)
        = (soft δ k : EReal) := by
    intro e he
    have h : (Host.divf e
        (broadcastInDim S16384x1024 ![0, 1] bcast_S16384x1_S16384x1024_0_1
          (broadcastInDim S16384x1 ![0] bcast_S16384_S16384x1_0
            (Host.reduceAdd e czero reducesTo_S16384x1024_S16384_d1 h_S_))) : Flt S16384x1024) (ix2 i k)
        = Ideal.div (e (ix2 i k)) (∑ x : Fin 1024, e (ix2 i x)) := by
      pointwise [czero]
    rw [h, sum_eq _ _ he, he, Ideal.div_coe (sum_exp_pos δ).ne', ← EReal.coe_mul]
    rfl
  exact key (refExp d) (refExp_row d i δ hd)

/-- The row number the pick uses. -/
theorem refRow_row (z : Int32 S16384) (i : Fin 16384) (q : Fin 1024) (hz : z (ix1 i) = BitVec.ofNat 32 q.val) :
    refRow z (ix2 i 0) = BitVec.ofNat 32 q.val := by
  have h : refRow z (ix2 i 0) = Scalar.select (IntOp.cmpi .slt (z (ix1 i)) 0#32) (IntOp.addi (z (ix1 i)) 1024#32) (z (ix1 i)) := by
    pointwise [refRow]
  rw [h, hz]
  have : IntOp.cmpi .slt (BitVec.ofNat 32 q.val) 0#32 = 0#1 := by
    have h0 : ¬ (BitVec.ofNat 32 q.val).toInt < (0#32 : BitVec 32).toInt := by
      rw [toInt_ofNat (by omega)]; simp
    simp only [IntOp.cmpi, BitVec.slt, decide_eq_false h0]
    rfl
  rw [this]
  rfl

/-- The chosen row lies in the table. -/
theorem refMask_row (z : Int32 S16384) (i : Fin 16384) (q : Fin 1024) (hz : z (ix1 i) = BitVec.ofNat 32 q.val) :
    refMask z (ix1 i) = 1#1 := by
  have key : ∀ y : IVec S16384x1 1, y (ix2 i 0) = 1#1 → ∀ (ix : IVec S_ 1), (∀ u, ix u = 1#1) →
      ∀ (h' : S16384x1.ReducesTo [1] S16384) (h : S16384x1.Reduces [1] S16384) (hu : 0 < S_.numel),
      (Host.reduce IntOp.andi y ix h' hu : IVec S16384 1) (ix1 i) = 1#1 := by
    intro y hy ix hix h' h hu
    refine (Host.reduce_eq_fold_single IntOp.andi y ix h' h hu (ix1 i)).trans ?_
    rw [hix]
    have hl : ∀ k : Fin 1, h.lift (ix1 i) k = ix2 i 0 := by
      intro k
      funext a
      fin_cases a
      · rfl
      · fin_cases k; rfl
    show Finset.fold IntOp.andi 1#1 (fun k : Fin 1 => y (h.lift (ix1 i) k)) Finset.univ = 1#1
    simp only [hl, hy]
    rfl
  refine key _ ?_ _ (fun _ => rfl) _ (by decide) _
  have h : (andi (cmpi .sge (refRow z) (broadcastInDim S16384x1 ![] bcast_S_S16384x1 (constantI S_ 32 0#32)))
      (cmpi .sle (refRow z) (broadcastInDim S16384x1 ![0, 1] bcast_S1x1_S16384x1_0_1
        (broadcastInDim S1x1 ![1] bcast_S1_S1x1_1 (constantI S1 32 1023#32)))) : IVec S16384x1 1) (ix2 i 0)
      = IntOp.andi (IntOp.cmpi .sge (refRow z (ix2 i 0)) 0#32) (IntOp.cmpi .sle (refRow z (ix2 i 0)) 1023#32) := by
    pointwise []
  rw [h, refRow_row z i q hz]
  have h1 : (0#32 : BitVec 32).toInt ≤ (BitVec.ofNat 32 q.val).toInt := by
    rw [toInt_ofNat (k := q.val) (by omega)]; simp
  have h2 : (BitVec.ofNat 32 q.val).toInt ≤ (1023#32 : BitVec 32).toInt := by
    rw [toInt_ofNat (k := q.val) (by omega), show (1023#32 : BitVec 32).toInt = 1023 from by decide]; have := q.isLt; omega
  simp only [IntOp.cmpi, BitVec.sle, decide_eq_true h1, decide_eq_true h2]
  rfl

/-- The picked code. -/
theorem refTake_row (w : Flt S1024x32) (z : Int32 S16384) (i : Fin 16384) (q : Fin 1024)
    (hz : z (ix1 i) = BitVec.ofNat 32 q.val) (j : Fin 32) : refTake w z (ix2 i j) = w (ix2 q j) := by
  have key : ∀ (m : IVec S16384 1) (g : Flt S16384x32),
      (select (broadcastInDim S16384x32 ![0] bcast_S16384_S16384x32_0 m) g
        (broadcastInDim S16384x32 ![] bcast_S_S16384x32 cnan) : Flt S16384x32) (ix2 i j)
        = Scalar.select (m (ix1 i)) (g (ix2 i j)) (cnan ix0) := by
    intro m g
    pointwise []
  have h := key (refMask z) (Host.gather gather_S1024x32_S16384x1_S16384x32_1_0_n_n_0_1_132 w (refRow z))
  have hg : Host.gather gather_S1024x32_S16384x1_S16384x32_1_0_n_n_0_1_132 w (refRow z) (ix2 i j) = w (ix2 q j) :=
    Routing.gather_row _ rfl rfl rfl rfl rfl w (refRow z) i j q (refRow_row z i q hz) (by norm_num)
  rw [refMask_row z i q hz, hg] at h
  exact h

/-- The loss. -/
theorem refLoss_row (x q : Flt S16384x32) (i : Fin 16384) (δ : Fin 1024 → ℝ) (a b : Row)
    (hx : ∀ j, x (ix2 i j) = (a j : EReal)) (hq : ∀ j, q (ix2 i j) = (b j : EReal))
    (h : least δ = ∑ j, (a j - b j) * (a j - b j)) : refLoss x q (ix1 i) = (loss δ : EReal) := by
  have e : refLoss x q (ix1 i)
      = Ideal.div (∑ j, (x (ix2 i j) - q (ix2 i j)) * (x (ix2 i j) - q (ix2 i j))) (Ideal.ofBits .f32 1107296256#32)
        + Ideal.ofBits .f32 1008981770#32
          * Ideal.div (∑ j, (x (ix2 i j) - q (ix2 i j)) * (x (ix2 i j) - q (ix2 i j))) (Ideal.ofBits .f32 1107296256#32) := by
    pointwise [refLoss, refMean, czero, c32, cbeta]
  rw [e, sum_eq _ (fun j => (a j - b j) * (a j - b j)) (fun j => by rw [hx, hq, ← EReal.coe_sub, EReal.coe_mul]), ← h,
    ofBits_32, Ideal.div_coe (by norm_num), ofBits_beta, ← EReal.coe_mul, ← EReal.coe_mul, ← EReal.coe_add]
  rfl

section Layers
variable (r : Flt S16384x32) (w : Flt S4x1024x32) (i : Fin 16384) (x : Row) (c : ℕ → Book)

/-- The arrays hold a real row and real code books. -/
structure Reads : Prop where
  row : ∀ j, r (ix2 i j) = (x j : EReal)
  book : ∀ l, l < 4 → ∀ k j, refCb w l (ix2 k j) = (c l k j : EReal)

variable {r w i x c} (H : Reads r w i x c)
include H

theorem refX_row (l : ℕ) : l ≤ 4 → ∀ j, refX r w l (ix2 i j) = (res x c l j : EReal) := by
  induction l with
  | zero => exact fun _ => H.row
  | succ l ih =>
    intro hl j
    have ih := ih (by omega)
    have hb := H.book l (by omega)
    have hq := refTake_row (refCb w l) (refIdx (refDist (refX r w l) (refCb w l))) i (first (layer x c l))
      (refIdx_row _ i _ (refDist_row _ _ i _ _ ih hb)) j
    have key : ∀ X Q : Flt S16384x32, subf X (refQuants X Q) (ix2 i j)
        = X (ix2 i j) - (X (ix2 i j) + (Q (ix2 i j) - X (ix2 i j))) := fun _ _ => rfl
    refine (key _ _).trans ?_
    rw [hq, ih, hb, ← EReal.coe_sub, ← EReal.coe_add, ← EReal.coe_sub]
    show _ = ((res x c l j - c l (first (layer x c l)) j : ℝ) : EReal)
    refine EReal.coe_eq_coe_iff.mpr ?_
    ring

theorem refD_row (l : ℕ) (hl : l < 4) (k : Fin 1024) : refD r w l (ix2 i k) = (layer x c l k : EReal) :=
  refDist_row _ _ i _ _ (refX_row H l hl.le) (H.book l hl) k

theorem refQ_row (l : ℕ) (hl : l < 4) (j : Fin 32) : refQ r w l (ix2 i j) = (c l (first (layer x c l)) j : EReal) :=
  (refTake_row _ _ i _ (refIdx_row _ i _ (refD_row H l hl)) j).trans (H.book l hl _ j)

theorem refLossL_row (l : ℕ) (hl : l < 4) : refLoss (refX r w l) (refQ r w l) (ix1 i) = (loss (layer x c l) : EReal) :=
  refLoss_row _ _ i _ (res x c l) (c l (first (layer x c l))) (refX_row H l hl.le) (refQ_row H l hl) (least_dist _ _)

theorem refAcc_row (l : ℕ) : l ≤ 4 → ∀ j, refAcc r w l (ix2 i j) = (acc x c l j : EReal) := by
  induction l with
  | zero =>
    intro _ j
    show Ideal.ofBits .f32 0x00000000#32 = _
    rw [Ideal.ofBits_zero_f32]; rfl
  | succ l ih =>
    intro hl j
    have key : ∀ A X Q : Flt S16384x32, addf A (addf X (subf Q X)) (ix2 i j)
        = A (ix2 i j) + (X (ix2 i j) + (Q (ix2 i j) - X (ix2 i j))) := fun _ _ _ => rfl
    rw [refAcc_succ, key, ih (by omega), refX_row H l (by omega), refQ_row H l (by omega), ← EReal.coe_sub, ← EReal.coe_add,
      ← EReal.coe_add]
    show _ = ((acc x c l j + c l (first (layer x c l)) j : ℝ) : EReal)
    refine EReal.coe_eq_coe_iff.mpr ?_
    ring

end Layers

/-- Four columns side by side. -/
theorem cat2 {α : Type} (a b c d : S16384.Idx → α) (i : Fin 16384) (v : Fin 4 → α) (h0 : a (ix1 i) = v 0)
    (h1 : b (ix1 i) = v 1) (h2 : c (ix1 i) = v 2) (h3 : d (ix1 i) = v 3) (l : Fin 4) :
    concatenate S16384x4 1
      [⟨S16384x1, broadcastInDim S16384x1 ![0] bcast_S16384_S16384x1_0 a⟩,
       ⟨S16384x1, broadcastInDim S16384x1 ![0] bcast_S16384_S16384x1_0 b⟩,
       ⟨S16384x1, broadcastInDim S16384x1 ![0] bcast_S16384_S16384x1_0 c⟩,
       ⟨S16384x1, broadcastInDim S16384x1 ![0] bcast_S16384_S16384x1_0 d⟩]
      concatenates_S16384x1_S16384x1_S16384x1_S16384x1_S16384x4_d1 (ix2 i l) = v l := by
  fin_cases l
  · refine Eq.trans ?_ h0; show _ = _; pointwise []
  · refine Eq.trans ?_ h1; show _ = _; pointwise []
  · refine Eq.trans ?_ h2; show _ = _; pointwise []
  · refine Eq.trans ?_ h3; show _ = _; pointwise []

/-- Four tables side by side. -/
theorem cat3 (a b c d : Flt S16384x1024) (i : Fin 16384) (k : Fin 1024) (v : Fin 4 → EReal) (h0 : a (ix2 i k) = v 0)
    (h1 : b (ix2 i k) = v 1) (h2 : c (ix2 i k) = v 2) (h3 : d (ix2 i k) = v 3) (l : Fin 4) :
    concatenate S16384x1024x4 2
      [⟨S16384x1024x1, broadcastInDim S16384x1024x1 ![0, 1] bcast_S16384x1024_S16384x1024x1_0_1 a⟩,
       ⟨S16384x1024x1, broadcastInDim S16384x1024x1 ![0, 1] bcast_S16384x1024_S16384x1024x1_0_1 b⟩,
       ⟨S16384x1024x1, broadcastInDim S16384x1024x1 ![0, 1] bcast_S16384x1024_S16384x1024x1_0_1 c⟩,
       ⟨S16384x1024x1, broadcastInDim S16384x1024x1 ![0, 1] bcast_S16384x1024_S16384x1024x1_0_1 d⟩]
      concatenates_S16384x1024x1_S16384x1024x1_S16384x1024x1_S16384x1024x1_S16384x1024x4_d2 (ix3 i k l) = v l := by
  fin_cases l
  · refine Eq.trans ?_ h0; show _ = _; pointwise []
  · refine Eq.trans ?_ h1; show _ = _; pointwise []
  · refine Eq.trans ?_ h2; show _ = _; pointwise []
  · refine Eq.trans ?_ h3; show _ = _; pointwise []

section Outputs
variable {r : Flt S16384x32} {w : Flt S4x1024x32} {i : Fin 16384} {x : Row} {c : ℕ → Book} (H : Reads r w i x c)
include H

theorem refIdxL_row (l : ℕ) (hl : l < 4) : refIdx (refD r w l) (ix1 i) = BitVec.ofNat 32 (first (layer x c l)).val :=
  refIdx_row _ i _ (refD_row H l hl)

theorem refSoftL_row (k : Fin 1024) (l : ℕ) (hl : l < 4) : refSoft (refD r w l) (ix2 i k) = (soft (layer x c l) k : EReal) :=
  refSoft_row _ i _ (refD_row H l hl) k

theorem refOutIdx_row (l : Fin 4) : refOutIdx r w (ix2 i l) = BitVec.ofNat 32 (first (layer x c l)).val := by
  unfold refOutIdx
  exact cat2 _ _ _ _ i (fun l : Fin 4 => BitVec.ofNat 32 (first (layer x c l)).val) (refIdxL_row H 0 (by omega))
    (refIdxL_row H 1 (by omega)) (refIdxL_row H 2 (by omega)) (refIdxL_row H 3 (by omega)) l

theorem refOutSoft_row (k : Fin 1024) (l : Fin 4) : refOutSoft r w (ix3 i k l) = (soft (layer x c l) k : EReal) := by
  unfold refOutSoft
  exact cat3 _ _ _ _ i k (fun l : Fin 4 => (soft (layer x c l) k : EReal)) (refSoftL_row H k 0 (by omega))
    (refSoftL_row H k 1 (by omega)) (refSoftL_row H k 2 (by omega)) (refSoftL_row H k 3 (by omega)) l

theorem refOutLoss_row (l : Fin 4) : refOutLoss r w (ix2 i l) = (loss (layer x c l) : EReal) := by
  unfold refOutLoss
  exact cat2 _ _ _ _ i (fun l : Fin 4 => (loss (layer x c l) : EReal)) (refLossL_row H 0 (by omega))
    (refLossL_row H 1 (by omega)) (refLossL_row H 2 (by omega)) (refLossL_row H 3 (by omega)) l

end Outputs

/-- A layer of the code books, entry by entry. -/
theorem refCb_at (w : Flt S4x1024x32) (l : Fin 4) (k : Fin 1024) (j : Fin 32) : refCb w l (ix2 k j) = w (ix3 l k j) := by
  fin_cases l
  · show refCb w 0 (ix2 k j) = w (ix3 0 k j); pointwise [refCb]
  · show refCb w 1 (ix2 k j) = w (ix3 1 k j); pointwise [refCb]
  · show refCb w 2 (ix2 k j) = w (ix3 2 k j); pointwise [refCb]
  · show refCb w 3 (ix2 k j) = w (ix3 3 k j); pointwise [refCb]

end Cert.RefRow
end
-- ==== Proof.KRun.lean ====
module

public import proofs.«01_k».proof.Proof.KArr
public import proofs.«01_k».proof.Proof.RefRow
public import Idealize.ShloMosaic.Lib.StableHlo.RunRead
@[expose] public section

/-! The kernel's whole run over the real numbers: its four results and its arguments at the end. -/

noncomputable section
namespace Cert.KRun
open Idealize.ShloMosaic Idealize.ShloMosaic.TcCoe Idealize.SL.Sem
open Cert.KernelIdeal Cert.KernelIdeal.Gen Cert.KBlk Cert.KArr Cert.RowMath

/-- Four tables of soft assignments side by side, as the lines after the launch put them. -/
def side (a b c d : Vec Ideal S16384x1024 .f32) : Vec Ideal S16384x1024x4 .f32 :=
  concatenate S16384x1024x4 2
    [⟨S16384x1024x1, broadcastInDim S16384x1024x1 ![0, 1] bcast_S16384x1024_S16384x1024x1_0_1 a⟩,
     ⟨S16384x1024x1, broadcastInDim S16384x1024x1 ![0, 1] bcast_S16384x1024_S16384x1024x1_0_1 b⟩,
     ⟨S16384x1024x1, broadcastInDim S16384x1024x1 ![0, 1] bcast_S16384x1024_S16384x1024x1_0_1 c⟩,
     ⟨S16384x1024x1, broadcastInDim S16384x1024x1 ![0, 1] bcast_S16384x1024_S16384x1024x1_0_1 d⟩]
    concatenates_S16384x1024x1_S16384x1024x1_S16384x1024x1_S16384x1024x1_S16384x1024x4_d2

/-- The launch's arrays are distinct. -/
theorem arr_inj : Function.Injective (Pipeline.arrRef spec0) := by decide

/-- The lines after the launch, at the result they write. -/
theorem tail_read (V : Valuation τ sig (Elt Ideal)) : StableHlo.after (hostOps1 (F := Ideal)) V (Proc.devRef .tc main_v0_1)
    = side (V (Proc.devRef .tc main_call0_v0_1)) (V (Proc.devRef .tc main_call0_v0_2)) (V (Proc.devRef .tc main_call0_v0_3))
        (V (Proc.devRef .tc main_call0_v0_4)) := by
  after_reads_simp
  rfl

/-- The tables side by side, entry by entry. -/
theorem side_at (a b c d : Vec Ideal S16384x1024 .f32) (i : Fin 16384) (k : Fin 1024) (v : Fin 4 → EReal) (h0 : a (ix2 i k) = v 0)
    (h1 : b (ix2 i k) = v 1) (h2 : c (ix2 i k) = v 2) (h3 : d (ix2 i k) = v 3) (l : Fin 4) : side a b c d (ix3 i k l) = v l :=
  RefRow.cat3 a b c d i k v h0 h1 h2 h3 l

/-- The second result: every layer's soft assignments. -/
def gAll (X : Fin 16384 → Row) (C : Fin 4 → Book) : S16384x1024x4.Idx → Elt Ideal .f32 :=
  fun y => (soft (layer (X (y 0)) (seq C) (y 2).val) (y 1) : EReal)

/-- The layers' tables side by side are the second result. -/
theorem side_eq (X : Fin 16384 → Row) (C : Fin 4 → Book) : side (gSoft X C 0) (gSoft X C 1) (gSoft X C 2) (gSoft X C 3) = gAll X C := by
  have key : ∀ (i : Fin 16384) (k : Fin 1024) (l : Fin 4),
      side (gSoft X C 0) (gSoft X C 1) (gSoft X C 2) (gSoft X C 3) (ix3 i k l) = gAll X C (ix3 i k l) := fun i k l =>
    side_at _ _ _ _ i k (fun l => (soft (layer (X i) (seq C) l.val) k : EReal)) rfl rfl rfl rfl l
  funext y
  have hy : y = (ix3 (y 0) (y 1) (y 2) : S16384x1024x4.Idx) := by
    funext a
    fin_cases a <;> rfl
  rw [hy]
  exact key (y 0) (y 1) (y 2)

section
variable (m : (ℓ : Loc nD τ sig) → Buf (Elt Ideal) ℓ) (g : Dev nD → PrngReg) (X : Dev nD → Fin 16384 → Row) (C : Dev nD → Fin 4 → Book)
  (hX : ∀ c i j, (m ((c : Thread nD τ).loc main_arg0) : Vec Ideal S16384x32 .f32) (ix2 i j) = (X c i j : EReal))
  (hC : ∀ c l k j, (m ((c : Thread nD τ).loc main_arg1) : Vec Ideal S4x1024x32 .f32) (ix3 l k j) = (C c l k j : EReal))

include hX hC in
/-- The second result at the end of the run. -/
theorem tail_eq (c : Dev nD) : Pipeline.afterTail₀ cfgs (dats m) 0 (V0 m) [hostOps1] c main_v0_1 = gAll (X c) (C c) := by
  show StableHlo.after (hostOps1 (F := Ideal)) _ (Proc.devRef .tc main_v0_1) = _
  rw [tail_read]
  have e := Pipeline.withArrays_arr spec0 arr_inj c (V0 m c) (fun w => (dats m 0 c).arrAt w cfg0.N)
  have h3 := (e 3).trans (final_3 m c (X c) (C c) (hX c) (hC c))
  have h4 := (e 4).trans (final_4 m c (X c) (C c) (hX c) (hC c))
  have h5 := (e 5).trans (final_5 m c (X c) (C c) (hX c) (hC c))
  have h6 := (e 6).trans (final_6 m c (X c) (C c) (hX c) (hC c))
  have hs : ∀ {a b p q a' b' p' q' : Vec Ideal S16384x1024 .f32}, a = a' → b = b' → p = p' → q = q' → side a b p q = side a' b' p' q' :=
    fun h1 h2 h3 h4 => by rw [h1, h2, h3, h4]
  exact (hs h3 h4 h5 h6).trans (side_eq (X c) (C c))

include hX hC in
/-- The kernel runs, and ends with its four results at the stated values and its arguments unchanged. -/
theorem run : θ_run (defs (F := Ideal)) (onTc (τ := τ) (main (F := Ideal))) ⟨m, fun _ => 0, g⟩ (fun r => ∀ c : Dev nD,
    r.2.mem ((c.tc : Thread nD τ).loc main_v0_0) = gIdx (X c) (C c)
    ∧ r.2.mem ((c.tc : Thread nD τ).loc main_v0_1) = gAll (X c) (C c)
    ∧ r.2.mem ((c.tc : Thread nD τ).loc main_v0_2) = gAcc (X c) (C c)
    ∧ r.2.mem ((c.tc : Thread nD τ).loc main_v0_3) = gLoss (X c) (C c)
    ∧ r.2.mem ((c.tc : Thread nD τ).loc main_arg0) = m ((c.tc : Thread nD τ).loc main_arg0)
    ∧ r.2.mem ((c.tc : Thread nD τ).loc main_arg1) = m ((c.tc : Thread nD τ).loc main_arg1)) :=
  (θ_run defs _ _).mono (fun _ h c =>
    ⟨((h c).1 2).trans (final_2 m c (X c) (C c) (hX c) (hC c)),
     ((h c).2 main_v0_1 (Pipeline.mem_restRefs_of main_v0_1 (by decide) (by decide))).trans (tail_eq m X C hX hC c),
     ((h c).1 7).trans (final_7 m c (X c) (C c) (hX c) (hC c)),
     ((h c).1 8).trans (final_8 m c (X c) (C c) (hX c) (hC c)),
     ((h c).1 0).trans (((dats m 0 c).arrAt_in 0 rfl _).trans ((A_eq m c 0).trans (V_main_arg0 m c))),
     ((h c).1 1).trans (((dats m 0 c).arrAt_in 1 rfl _).trans ((A_eq m c 1).trans (V_main_arg1 m c)))⟩) (run_main m g)
end

end Cert.KRun
end
-- ==== Proof.Finite.lean ====
module

public import proofs.«01_k».proof.Pre_finite
public import proofs.«01_k».proof.Proof.RowMath
public import Idealize.ShloMosaic.Lib.ReduceAll
@[expose] public section

/-! The precondition `finite` read entry by entry: every entry of the two arguments is a real number. -/

noncomputable section
namespace Cert.Finite
open Idealize.ShloMosaic Cert.Pre_finite Cert.RowMath

/-- The shape relations the precondition's operations take. -/
instance facts : Cert.Pre_finite.Facts where
  bcast_S_S16384x32 := by decide
  reducesTo_S16384x32_S_d0_1 := by decide
  h_S_ := by decide
  bcast_S_S4x1024x32 := by decide
  reducesTo_S4x1024x32_S_d0_1_2 := by decide

/-- An extended real whose absolute value is below infinity is a real number. -/
theorem real_of_word (x : EReal) (h : Ideal.cmp .olt (max x (-x)) (Ideal.ofBits .f32 0x7F800000#32) = 1#1) : x = (x.toReal : EReal) := by
  rw [ofBits_top] at h
  have h' : max x (-x) < ⊤ := by
    by_contra hn
    have : Ideal.cmp .olt (max x (-x)) ⊤ = 0#1 := by
      show BitVec.ofBool (decide (max x (-x) < ⊤)) = 0#1
      rw [decide_eq_false hn]; rfl
    rw [this] at h
    exact absurd h (by decide)
  have h1 : x ≠ ⊤ := fun e => by rw [e] at h'; exact absurd h' (by simp)
  have h2 : x ≠ ⊥ := fun e => by rw [e] at h'; exact absurd h' (by simp)
  exact (EReal.coe_toReal h1 h2).symm

/-- Both words of a true conjunction are true. -/
theorem and_both {a b : BitVec 1} (h : IntOp.andi a b = 1#1) : a = 1#1 ∧ b = 1#1 := by
  revert a b; decide

/-- The precondition's meaning. -/
theorem real_of_fn (r : FVec Ideal S16384x32 .f32) (w : FVec Ideal S4x1024x32 .f32) (h : fn r w = fun _ => 1#1) :
    (∀ i, r i = ((r i : EReal).toReal : EReal)) ∧ (∀ i, w i = ((w i : EReal).toReal : EReal)) := by
  have h0 := congrFun h (fun a => a.elim0)
  obtain ⟨ha, hb⟩ := and_both h0
  exact ⟨fun i => real_of_word _ (Host.reduce_andi_all _ _ _ _ _ ha i), fun i => real_of_word _ (Host.reduce_andi_all _ _ _ _ _ hb i)⟩

end Cert.Finite
end
-- ==== Proof.RefLayer.lean ====
/-
The run of the reference holds, layer after layer, what `RefDefs` names: `fin_dist0` … , and at last the four results.
-/
module

public import proofs.«01_k».proof.Proof.RefDefs

@[expose] public section

noncomputable section

namespace Cert.RefRun

open Idealize.ShloMosaic Idealize.ShloMosaic.StableHlo Idealize.SL.Sem Cert.ReferenceIdeal Cert.ReferenceIdeal.Gen

set_option maxHeartbeats 4000000
set_option maxRecDepth 100000

variable (V : Valuation τ sig (Elt Ideal))

theorem fin_acc0 : fin V main_v0 = refAcc (fin V main_arg0) (fin V main_arg1) 0 := by
  have h := e1 1 (e0 V 0 rfl) rfl
  exact h

theorem fin_cb0 : fin V main_v2 = refCb (fin V main_arg1) 0 := by
  have h := eR 3 (e1 2 ((rfl : fin V main_arg1 = _)) rfl) rfl
  exact h

theorem fin_dist0 : fin V main_v16 = refD (fin V main_arg0) (fin V main_arg1) 0 := by
  have h := e2 20 (e2 14 (e1 13 (e1 7 (e2 6 (e2 4 ((rfl : fin V main_arg0 = _)) ((rfl : fin V main_arg0 = _)) rfl) (e0 V 5 rfl) rfl) rfl) rfl) (e2 12 (e2 10 (e1 9 (e0 V 8 rfl) rfl) ((rfl : fin V main_arg0 = _)) rfl) (e1 11 ((fin_cb0 V)) rfl) rfl) rfl) (e1 19 (e1 18 (e2 17 (e2 15 ((fin_cb0 V)) ((fin_cb0 V)) rfl) (e0 V 16 rfl) rfl) rfl) rfl) rfl
  exact h

theorem fin_idx0 : fin V main_v17 = refIdx (refD (fin V main_arg0) (fin V main_arg1) 0) := by
  have h := e4 25 ((fin_dist0 V)) (e0 V 21 rfl) (e0 V 22 rfl) (e0 V 23 rfl) rfl
  exact h

theorem fin_soft0 : fin V main_v29 = refSoft (refD (fin V main_arg0) (fin V main_arg1) 0) := by
  have h := e2 40 (e1 35 (e2 34 (e1 26 ((fin_dist0 V)) rfl) (e1 33 (e1 32 (e2 31 (e1 30 (e0 V 29 rfl) rfl) (e2 28 (e1 26 ((fin_dist0 V)) rfl) (e0 V 27 rfl) rfl) rfl) rfl) rfl) rfl) rfl) (e1 39 (e1 38 (e2 37 (e1 35 (e2 34 (e1 26 ((fin_dist0 V)) rfl) (e1 33 (e1 32 (e2 31 (e1 30 (e0 V 29 rfl) rfl) (e2 28 (e1 26 ((fin_dist0 V)) rfl) (e0 V 27 rfl) rfl) rfl) rfl) rfl) rfl) rfl) (e0 V 36 rfl) rfl) rfl) rfl) rfl
  exact h

theorem fin_take0_c : fin V main_call1_c = constantI S_ 32 0#32 :=
  e0 V 41 rfl

theorem fin_take0_v0 : fin V main_call1_v0 = broadcastInDim S16384 ![] bcast_S_S16384 (constantI S_ 32 0#32) :=
  e1 42 ((fin_take0_c V)) rfl

theorem fin_take0_v1 : fin V main_call1_v1 = cmpi .slt (refIdx (refD (fin V main_arg0) (fin V main_arg1) 0)) (broadcastInDim S16384 ![] bcast_S_S16384 (constantI S_ 32 0#32)) :=
  e2 43 ((fin_idx0 V)) ((fin_take0_v0 V)) rfl

theorem fin_take0_c_0 : fin V main_call1_c_0 = constantI S_ 32 1024#32 :=
  e0 V 44 rfl

theorem fin_take0_v2 : fin V main_call1_v2 = broadcastInDim S16384 ![] bcast_S_S16384 (constantI S_ 32 1024#32) :=
  e1 45 ((fin_take0_c_0 V)) rfl

theorem fin_take0_v3 : fin V main_call1_v3 = addi (refIdx (refD (fin V main_arg0) (fin V main_arg1) 0)) (broadcastInDim S16384 ![] bcast_S_S16384 (constantI S_ 32 1024#32)) :=
  e2 46 ((fin_idx0 V)) ((fin_take0_v2 V)) rfl

theorem fin_take0_v4 : fin V main_call1_v4 = select (cmpi .slt (refIdx (refD (fin V main_arg0) (fin V main_arg1) 0)) (broadcastInDim S16384 ![] bcast_S_S16384 (constantI S_ 32 0#32))) (addi (refIdx (refD (fin V main_arg0) (fin V main_arg1) 0)) (broadcastInDim S16384 ![] bcast_S_S16384 (constantI S_ 32 1024#32))) (refIdx (refD (fin V main_arg0) (fin V main_arg1) 0)) :=
  e3 47 ((fin_take0_v1 V)) ((fin_take0_v3 V)) ((fin_idx0 V)) rfl

theorem fin_take0_v5 : fin V main_call1_v5 = broadcastInDim S16384x1 ![0] bcast_S16384_S16384x1_0 (select (cmpi .slt (refIdx (refD (fin V main_arg0) (fin V main_arg1) 0)) (broadcastInDim S16384 ![] bcast_S_S16384 (constantI S_ 32 0#32))) (addi (refIdx (refD (fin V main_arg0) (fin V main_arg1) 0)) (broadcastInDim S16384 ![] bcast_S_S16384 (constantI S_ 32 1024#32))) (refIdx (refD (fin V main_arg0) (fin V main_arg1) 0))) :=
  e1 48 ((fin_take0_v4 V)) rfl

theorem fin_row0 : fin V main_call1_v5 = refRow (refIdx (refD (fin V main_arg0) (fin V main_arg1) 0)) := by unfold refRow; exact fin_take0_v5 V

theorem fin_take0_c_1 : fin V main_call1_c_1 = constantI S1 32 1023#32 :=
  e0 V 49 rfl

theorem fin_take0_c_2 : fin V main_call1_c_2 = constantI S_ 32 0#32 :=
  e0 V 50 rfl

theorem fin_take0_v6 : fin V main_call1_v6 = broadcastInDim S16384x1 ![] bcast_S_S16384x1 (constantI S_ 32 0#32) :=
  e1 51 ((fin_take0_c_2 V)) rfl

theorem fin_take0_v7 : fin V main_call1_v7 = cmpi .sge (refRow (refIdx (refD (fin V main_arg0) (fin V main_arg1) 0))) (broadcastInDim S16384x1 ![] bcast_S_S16384x1 (constantI S_ 32 0#32)) :=
  e2 52 ((fin_row0 V)) ((fin_take0_v6 V)) rfl

theorem fin_take0_v8 : fin V main_call1_v8 = broadcastInDim S1x1 ![1] bcast_S1_S1x1_1 (constantI S1 32 1023#32) :=
  e1 53 ((fin_take0_c_1 V)) rfl

theorem fin_take0_v9 : fin V main_call1_v9 = broadcastInDim S16384x1 ![0, 1] bcast_S1x1_S16384x1_0_1 (broadcastInDim S1x1 ![1] bcast_S1_S1x1_1 (constantI S1 32 1023#32)) :=
  e1 54 ((fin_take0_v8 V)) rfl

theorem fin_take0_v10 : fin V main_call1_v10 = cmpi .sle (refRow (refIdx (refD (fin V main_arg0) (fin V main_arg1) 0))) (broadcastInDim S16384x1 ![0, 1] bcast_S1x1_S16384x1_0_1 (broadcastInDim S1x1 ![1] bcast_S1_S1x1_1 (constantI S1 32 1023#32))) :=
  e2 55 ((fin_row0 V)) ((fin_take0_v9 V)) rfl

theorem fin_take0_v11 : fin V main_call1_v11 = andi (cmpi .sge (refRow (refIdx (refD (fin V main_arg0) (fin V main_arg1) 0))) (broadcastInDim S16384x1 ![] bcast_S_S16384x1 (constantI S_ 32 0#32))) (cmpi .sle (refRow (refIdx (refD (fin V main_arg0) (fin V main_arg1) 0))) (broadcastInDim S16384x1 ![0, 1] bcast_S1x1_S16384x1_0_1 (broadcastInDim S1x1 ![1] bcast_S1_S1x1_1 (constantI S1 32 1023#32)))) :=
  e2 56 ((fin_take0_v7 V)) ((fin_take0_v10 V)) rfl

theorem fin_take0_c_3 : fin V main_call1_c_3 = constantI S_ 1 1#1 :=
  e0 V 57 rfl

theorem fin_take0_v12 : fin V main_call1_v12 = refMask (refIdx (refD (fin V main_arg0) (fin V main_arg1) 0)) :=
  e2 58 ((fin_take0_v11 V)) ((fin_take0_c_3 V)) rfl

theorem fin_take0_v13 : fin V main_call1_v13 = Host.gather gather_S1024x32_S16384x1_S16384x32_1_0_n_n_0_1_132 (refCb (fin V main_arg1) 0) (refRow (refIdx (refD (fin V main_arg0) (fin V main_arg1) 0))) :=
  e2 59 ((fin_cb0 V)) ((fin_row0 V)) rfl

theorem fin_take0_v14 : fin V main_call1_v14 = broadcastInDim S16384x32 ![0] bcast_S16384_S16384x32_0 (refMask (refIdx (refD (fin V main_arg0) (fin V main_arg1) 0))) :=
  e1 60 ((fin_take0_v12 V)) rfl

theorem fin_take0_cst : fin V main_call1_cst = cnan :=
  e0 V 61 rfl

theorem fin_take0_v15 : fin V main_call1_v15 = broadcastInDim S16384x32 ![] bcast_S_S16384x32 cnan :=
  e1 62 ((fin_take0_cst V)) rfl

theorem fin_q0 : fin V main_v30 = refQ (fin V main_arg0) (fin V main_arg1) 0 :=
  e3 63 ((fin_take0_v14 V)) ((fin_take0_v13 V)) ((fin_take0_v15 V)) rfl

theorem fin_loss0 : fin V main_v43 = refLoss (refX (fin V main_arg0) (fin V main_arg1) 0) (refQ (fin V main_arg0) (fin V main_arg1) 0) := by
  have h := e2 81 (e2 70 (e2 67 (e2 65 (e2 64 ((rfl : fin V main_arg0 = _)) ((fin_q0 V)) rfl) (e2 64 ((rfl : fin V main_arg0 = _)) ((fin_q0 V)) rfl) rfl) (e0 V 66 rfl) rfl) (e1 69 (e0 V 68 rfl) rfl) rfl) (e2 80 (e1 79 (e0 V 78 rfl) rfl) (e2 77 (e2 74 (e2 72 (e2 71 ((rfl : fin V main_arg0 = _)) ((fin_q0 V)) rfl) (e2 71 ((rfl : fin V main_arg0 = _)) ((fin_q0 V)) rfl) rfl) (e0 V 73 rfl) rfl) (e1 76 (e0 V 75 rfl) rfl) rfl) rfl) rfl
  unfold refLoss refMean; exact h

theorem fin_x1 : fin V main_v46 = refX (fin V main_arg0) (fin V main_arg1) 1 := by
  have h := e2 84 ((rfl : fin V main_arg0 = _)) (e2 83 ((rfl : fin V main_arg0 = _)) (e2 82 ((fin_q0 V)) ((rfl : fin V main_arg0 = _)) rfl) rfl) rfl
  exact h

theorem fin_acc1 : fin V main_v47 = refAcc (fin V main_arg0) (fin V main_arg1) 1 := by
  have s := refAcc_succ (fin V main_arg0) (fin V main_arg1) 0
  have h := e2 85 ((fin_acc0 V)) (e2 83 ((rfl : fin V main_arg0 = _)) (e2 82 ((fin_q0 V)) ((rfl : fin V main_arg0 = _)) rfl) rfl) rfl
  exact h.trans s.symm

theorem fin_cb1 : fin V main_v49 = refCb (fin V main_arg1) 1 := by
  have h := eR 87 (e1 86 ((rfl : fin V main_arg1 = _)) rfl) rfl
  exact h

theorem fin_dist1 : fin V main_v63 = refD (fin V main_arg0) (fin V main_arg1) 1 := by
  have h := e2 104 (e2 98 (e1 97 (e1 91 (e2 90 (e2 88 ((fin_x1 V)) ((fin_x1 V)) rfl) (e0 V 89 rfl) rfl) rfl) rfl) (e2 96 (e2 94 (e1 93 (e0 V 92 rfl) rfl) ((fin_x1 V)) rfl) (e1 95 ((fin_cb1 V)) rfl) rfl) rfl) (e1 103 (e1 102 (e2 101 (e2 99 ((fin_cb1 V)) ((fin_cb1 V)) rfl) (e0 V 100 rfl) rfl) rfl) rfl) rfl
  exact h

theorem fin_idx1 : fin V main_v64 = refIdx (refD (fin V main_arg0) (fin V main_arg1) 1) := by
  have h := e4 109 ((fin_dist1 V)) (e0 V 105 rfl) (e0 V 106 rfl) (e0 V 107 rfl) rfl
  exact h

theorem fin_soft1 : fin V main_v76 = refSoft (refD (fin V main_arg0) (fin V main_arg1) 1) := by
  have h := e2 124 (e1 119 (e2 118 (e1 110 ((fin_dist1 V)) rfl) (e1 117 (e1 116 (e2 115 (e1 114 (e0 V 113 rfl) rfl) (e2 112 (e1 110 ((fin_dist1 V)) rfl) (e0 V 111 rfl) rfl) rfl) rfl) rfl) rfl) rfl) (e1 123 (e1 122 (e2 121 (e1 119 (e2 118 (e1 110 ((fin_dist1 V)) rfl) (e1 117 (e1 116 (e2 115 (e1 114 (e0 V 113 rfl) rfl) (e2 112 (e1 110 ((fin_dist1 V)) rfl) (e0 V 111 rfl) rfl) rfl) rfl) rfl) rfl) rfl) (e0 V 120 rfl) rfl) rfl) rfl) rfl
  exact h

theorem fin_take1_c : fin V main_call3_c = constantI S_ 32 0#32 :=
  e0 V 125 rfl

theorem fin_take1_v0 : fin V main_call3_v0 = broadcastInDim S16384 ![] bcast_S_S16384 (constantI S_ 32 0#32) :=
  e1 126 ((fin_take1_c V)) rfl

theorem fin_take1_v1 : fin V main_call3_v1 = cmpi .slt (refIdx (refD (fin V main_arg0) (fin V main_arg1) 1)) (broadcastInDim S16384 ![] bcast_S_S16384 (constantI S_ 32 0#32)) :=
  e2 127 ((fin_idx1 V)) ((fin_take1_v0 V)) rfl

theorem fin_take1_c_0 : fin V main_call3_c_0 = constantI S_ 32 1024#32 :=
  e0 V 128 rfl

theorem fin_take1_v2 : fin V main_call3_v2 = broadcastInDim S16384 ![] bcast_S_S16384 (constantI S_ 32 1024#32) :=
  e1 129 ((fin_take1_c_0 V)) rfl

theorem fin_take1_v3 : fin V main_call3_v3 = addi (refIdx (refD (fin V main_arg0) (fin V main_arg1) 1)) (broadcastInDim S16384 ![] bcast_S_S16384 (constantI S_ 32 1024#32)) :=
  e2 130 ((fin_idx1 V)) ((fin_take1_v2 V)) rfl

theorem fin_take1_v4 : fin V main_call3_v4 = select (cmpi .slt (refIdx (refD (fin V main_arg0) (fin V main_arg1) 1)) (broadcastInDim S16384 ![] bcast_S_S16384 (constantI S_ 32 0#32))) (addi (refIdx (refD (fin V main_arg0) (fin V main_arg1) 1)) (broadcastInDim S16384 ![] bcast_S_S16384 (constantI S_ 32 1024#32))) (refIdx (refD (fin V main_arg0) (fin V main_arg1) 1)) :=
  e3 131 ((fin_take1_v1 V)) ((fin_take1_v3 V)) ((fin_idx1 V)) rfl

theorem fin_take1_v5 : fin V main_call3_v5 = broadcastInDim S16384x1 ![0] bcast_S16384_S16384x1_0 (select (cmpi .slt (refIdx (refD (fin V main_arg0) (fin V main_arg1) 1)) (broadcastInDim S16384 ![] bcast_S_S16384 (constantI S_ 32 0#32))) (addi (refIdx (refD (fin V main_arg0) (fin V main_arg1) 1)) (broadcastInDim S16384 ![] bcast_S_S16384 (constantI S_ 32 1024#32))) (refIdx (refD (fin V main_arg0) (fin V main_arg1) 1))) :=
  e1 132 ((fin_take1_v4 V)) rfl

theorem fin_row1 : fin V main_call3_v5 = refRow (refIdx (refD (fin V main_arg0) (fin V main_arg1) 1)) := by unfold refRow; exact fin_take1_v5 V

theorem fin_take1_c_1 : fin V main_call3_c_1 = constantI S1 32 1023#32 :=
  e0 V 133 rfl

theorem fin_take1_c_2 : fin V main_call3_c_2 = constantI S_ 32 0#32 :=
  e0 V 134 rfl

theorem fin_take1_v6 : fin V main_call3_v6 = broadcastInDim S16384x1 ![] bcast_S_S16384x1 (constantI S_ 32 0#32) :=
  e1 135 ((fin_take1_c_2 V)) rfl

theorem fin_take1_v7 : fin V main_call3_v7 = cmpi .sge (refRow (refIdx (refD (fin V main_arg0) (fin V main_arg1) 1))) (broadcastInDim S16384x1 ![] bcast_S_S16384x1 (constantI S_ 32 0#32)) :=
  e2 136 ((fin_row1 V)) ((fin_take1_v6 V)) rfl

theorem fin_take1_v8 : fin V main_call3_v8 = broadcastInDim S1x1 ![1] bcast_S1_S1x1_1 (constantI S1 32 1023#32) :=
  e1 137 ((fin_take1_c_1 V)) rfl

theorem fin_take1_v9 : fin V main_call3_v9 = broadcastInDim S16384x1 ![0, 1] bcast_S1x1_S16384x1_0_1 (broadcastInDim S1x1 ![1] bcast_S1_S1x1_1 (constantI S1 32 1023#32)) :=
  e1 138 ((fin_take1_v8 V)) rfl

theorem fin_take1_v10 : fin V main_call3_v10 = cmpi .sle (refRow (refIdx (refD (fin V main_arg0) (fin V main_arg1) 1))) (broadcastInDim S16384x1 ![0, 1] bcast_S1x1_S16384x1_0_1 (broadcastInDim S1x1 ![1] bcast_S1_S1x1_1 (constantI S1 32 1023#32))) :=
  e2 139 ((fin_row1 V)) ((fin_take1_v9 V)) rfl

theorem fin_take1_v11 : fin V main_call3_v11 = andi (cmpi .sge (refRow (refIdx (refD (fin V main_arg0) (fin V main_arg1) 1))) (broadcastInDim S16384x1 ![] bcast_S_S16384x1 (constantI S_ 32 0#32))) (cmpi .sle (refRow (refIdx (refD (fin V main_arg0) (fin V main_arg1) 1))) (broadcastInDim S16384x1 ![0, 1] bcast_S1x1_S16384x1_0_1 (broadcastInDim S1x1 ![1] bcast_S1_S1x1_1 (constantI S1 32 1023#32)))) :=
  e2 140 ((fin_take1_v7 V)) ((fin_take1_v10 V)) rfl

theorem fin_take1_c_3 : fin V main_call3_c_3 = constantI S_ 1 1#1 :=
  e0 V 141 rfl

theorem fin_take1_v12 : fin V main_call3_v12 = refMask (refIdx (refD (fin V main_arg0) (fin V main_arg1) 1)) :=
  e2 142 ((fin_take1_v11 V)) ((fin_take1_c_3 V)) rfl

theorem fin_take1_v13 : fin V main_call3_v13 = Host.gather gather_S1024x32_S16384x1_S16384x32_1_0_n_n_0_1_132 (refCb (fin V main_arg1) 1) (refRow (refIdx (refD (fin V main_arg0) (fin V main_arg1) 1))) :=
  e2 143 ((fin_cb1 V)) ((fin_row1 V)) rfl

theorem fin_take1_v14 : fin V main_call3_v14 = broadcastInDim S16384x32 ![0] bcast_S16384_S16384x32_0 (refMask (refIdx (refD (fin V main_arg0) (fin V main_arg1) 1))) :=
  e1 144 ((fin_take1_v12 V)) rfl

theorem fin_take1_cst : fin V main_call3_cst = cnan :=
  e0 V 145 rfl

theorem fin_take1_v15 : fin V main_call3_v15 = broadcastInDim S16384x32 ![] bcast_S_S16384x32 cnan :=
  e1 146 ((fin_take1_cst V)) rfl

theorem fin_q1 : fin V main_v77 = refQ (fin V main_arg0) (fin V main_arg1) 1 :=
  e3 147 ((fin_take1_v14 V)) ((fin_take1_v13 V)) ((fin_take1_v15 V)) rfl

theorem fin_loss1 : fin V main_v90 = refLoss (refX (fin V main_arg0) (fin V main_arg1) 1) (refQ (fin V main_arg0) (fin V main_arg1) 1) := by
  have h := e2 165 (e2 154 (e2 151 (e2 149 (e2 148 ((fin_x1 V)) ((fin_q1 V)) rfl) (e2 148 ((fin_x1 V)) ((fin_q1 V)) rfl) rfl) (e0 V 150 rfl) rfl) (e1 153 (e0 V 152 rfl) rfl) rfl) (e2 164 (e1 163 (e0 V 162 rfl) rfl) (e2 161 (e2 158 (e2 156 (e2 155 ((fin_x1 V)) ((fin_q1 V)) rfl) (e2 155 ((fin_x1 V)) ((fin_q1 V)) rfl) rfl) (e0 V 157 rfl) rfl) (e1 160 (e0 V 159 rfl) rfl) rfl) rfl) rfl
  unfold refLoss refMean; exact h

theorem fin_x2 : fin V main_v93 = refX (fin V main_arg0) (fin V main_arg1) 2 := by
  have h := e2 168 ((fin_x1 V)) (e2 167 ((fin_x1 V)) (e2 166 ((fin_q1 V)) ((fin_x1 V)) rfl) rfl) rfl
  exact h

theorem fin_acc2 : fin V main_v94 = refAcc (fin V main_arg0) (fin V main_arg1) 2 := by
  have s := refAcc_succ (fin V main_arg0) (fin V main_arg1) 1
  have h := e2 169 ((fin_acc1 V)) (e2 167 ((fin_x1 V)) (e2 166 ((fin_q1 V)) ((fin_x1 V)) rfl) rfl) rfl
  exact h.trans s.symm

theorem fin_cb2 : fin V main_v96 = refCb (fin V main_arg1) 2 := by
  have h := eR 171 (e1 170 ((rfl : fin V main_arg1 = _)) rfl) rfl
  exact h

theorem fin_dist2 : fin V main_v110 = refD (fin V main_arg0) (fin V main_arg1) 2 := by
  have h := e2 188 (e2 182 (e1 181 (e1 175 (e2 174 (e2 172 ((fin_x2 V)) ((fin_x2 V)) rfl) (e0 V 173 rfl) rfl) rfl) rfl) (e2 180 (e2 178 (e1 177 (e0 V 176 rfl) rfl) ((fin_x2 V)) rfl) (e1 179 ((fin_cb2 V)) rfl) rfl) rfl) (e1 187 (e1 186 (e2 185 (e2 183 ((fin_cb2 V)) ((fin_cb2 V)) rfl) (e0 V 184 rfl) rfl) rfl) rfl) rfl
  exact h

theorem fin_idx2 : fin V main_v111 = refIdx (refD (fin V main_arg0) (fin V main_arg1) 2) := by
  have h := e4 193 ((fin_dist2 V)) (e0 V 189 rfl) (e0 V 190 rfl) (e0 V 191 rfl) rfl
  exact h

theorem fin_soft2 : fin V main_v123 = refSoft (refD (fin V main_arg0) (fin V main_arg1) 2) := by
  have h := e2 208 (e1 203 (e2 202 (e1 194 ((fin_dist2 V)) rfl) (e1 201 (e1 200 (e2 199 (e1 198 (e0 V 197 rfl) rfl) (e2 196 (e1 194 ((fin_dist2 V)) rfl) (e0 V 195 rfl) rfl) rfl) rfl) rfl) rfl) rfl) (e1 207 (e1 206 (e2 205 (e1 203 (e2 202 (e1 194 ((fin_dist2 V)) rfl) (e1 201 (e1 200 (e2 199 (e1 198 (e0 V 197 rfl) rfl) (e2 196 (e1 194 ((fin_dist2 V)) rfl) (e0 V 195 rfl) rfl) rfl) rfl) rfl) rfl) rfl) (e0 V 204 rfl) rfl) rfl) rfl) rfl
  exact h

theorem fin_take2_c : fin V main_call5_c = constantI S_ 32 0#32 :=
  e0 V 209 rfl

theorem fin_take2_v0 : fin V main_call5_v0 = broadcastInDim S16384 ![] bcast_S_S16384 (constantI S_ 32 0#32) :=
  e1 210 ((fin_take2_c V)) rfl

theorem fin_take2_v1 : fin V main_call5_v1 = cmpi .slt (refIdx (refD (fin V main_arg0) (fin V main_arg1) 2)) (broadcastInDim S16384 ![] bcast_S_S16384 (constantI S_ 32 0#32)) :=
  e2 211 ((fin_idx2 V)) ((fin_take2_v0 V)) rfl

theorem fin_take2_c_0 : fin V main_call5_c_0 = constantI S_ 32 1024#32 :=
  e0 V 212 rfl

theorem fin_take2_v2 : fin V main_call5_v2 = broadcastInDim S16384 ![] bcast_S_S16384 (constantI S_ 32 1024#32) :=
  e1 213 ((fin_take2_c_0 V)) rfl

theorem fin_take2_v3 : fin V main_call5_v3 = addi (refIdx (refD (fin V main_arg0) (fin V main_arg1) 2)) (broadcastInDim S16384 ![] bcast_S_S16384 (constantI S_ 32 1024#32)) :=
  e2 214 ((fin_idx2 V)) ((fin_take2_v2 V)) rfl

theorem fin_take2_v4 : fin V main_call5_v4 = select (cmpi .slt (refIdx (refD (fin V main_arg0) (fin V main_arg1) 2)) (broadcastInDim S16384 ![] bcast_S_S16384 (constantI S_ 32 0#32))) (addi (refIdx (refD (fin V main_arg0) (fin V main_arg1) 2)) (broadcastInDim S16384 ![] bcast_S_S16384 (constantI S_ 32 1024#32))) (refIdx (refD (fin V main_arg0) (fin V main_arg1) 2)) :=
  e3 215 ((fin_take2_v1 V)) ((fin_take2_v3 V)) ((fin_idx2 V)) rfl

theorem fin_take2_v5 : fin V main_call5_v5 = broadcastInDim S16384x1 ![0] bcast_S16384_S16384x1_0 (select (cmpi .slt (refIdx (refD (fin V main_arg0) (fin V main_arg1) 2)) (broadcastInDim S16384 ![] bcast_S_S16384 (constantI S_ 32 0#32))) (addi (refIdx (refD (fin V main_arg0) (fin V main_arg1) 2)) (broadcastInDim S16384 ![] bcast_S_S16384 (constantI S_ 32 1024#32))) (refIdx (refD (fin V main_arg0) (fin V main_arg1) 2))) :=
  e1 216 ((fin_take2_v4 V)) rfl

theorem fin_row2 : fin V main_call5_v5 = refRow (refIdx (refD (fin V main_arg0) (fin V main_arg1) 2)) := by unfold refRow; exact fin_take2_v5 V

theorem fin_take2_c_1 : fin V main_call5_c_1 = constantI S1 32 1023#32 :=
  e0 V 217 rfl

theorem fin_take2_c_2 : fin V main_call5_c_2 = constantI S_ 32 0#32 :=
  e0 V 218 rfl

theorem fin_take2_v6 : fin V main_call5_v6 = broadcastInDim S16384x1 ![] bcast_S_S16384x1 (constantI S_ 32 0#32) :=
  e1 219 ((fin_take2_c_2 V)) rfl

theorem fin_take2_v7 : fin V main_call5_v7 = cmpi .sge (refRow (refIdx (refD (fin V main_arg0) (fin V main_arg1) 2))) (broadcastInDim S16384x1 ![] bcast_S_S16384x1 (constantI S_ 32 0#32)) :=
  e2 220 ((fin_row2 V)) ((fin_take2_v6 V)) rfl

theorem fin_take2_v8 : fin V main_call5_v8 = broadcastInDim S1x1 ![1] bcast_S1_S1x1_1 (constantI S1 32 1023#32) :=
  e1 221 ((fin_take2_c_1 V)) rfl

theorem fin_take2_v9 : fin V main_call5_v9 = broadcastInDim S16384x1 ![0, 1] bcast_S1x1_S16384x1_0_1 (broadcastInDim S1x1 ![1] bcast_S1_S1x1_1 (constantI S1 32 1023#32)) :=
  e1 222 ((fin_take2_v8 V)) rfl

theorem fin_take2_v10 : fin V main_call5_v10 = cmpi .sle (refRow (refIdx (refD (fin V main_arg0) (fin V main_arg1) 2))) (broadcastInDim S16384x1 ![0, 1] bcast_S1x1_S16384x1_0_1 (broadcastInDim S1x1 ![1] bcast_S1_S1x1_1 (constantI S1 32 1023#32))) :=
  e2 223 ((fin_row2 V)) ((fin_take2_v9 V)) rfl

theorem fin_take2_v11 : fin V main_call5_v11 = andi (cmpi .sge (refRow (refIdx (refD (fin V main_arg0) (fin V main_arg1) 2))) (broadcastInDim S16384x1 ![] bcast_S_S16384x1 (constantI S_ 32 0#32))) (cmpi .sle (refRow (refIdx (refD (fin V main_arg0) (fin V main_arg1) 2))) (broadcastInDim S16384x1 ![0, 1] bcast_S1x1_S16384x1_0_1 (broadcastInDim S1x1 ![1] bcast_S1_S1x1_1 (constantI S1 32 1023#32)))) :=
  e2 224 ((fin_take2_v7 V)) ((fin_take2_v10 V)) rfl

theorem fin_take2_c_3 : fin V main_call5_c_3 = constantI S_ 1 1#1 :=
  e0 V 225 rfl

theorem fin_take2_v12 : fin V main_call5_v12 = refMask (refIdx (refD (fin V main_arg0) (fin V main_arg1) 2)) :=
  e2 226 ((fin_take2_v11 V)) ((fin_take2_c_3 V)) rfl

theorem fin_take2_v13 : fin V main_call5_v13 = Host.gather gather_S1024x32_S16384x1_S16384x32_1_0_n_n_0_1_132 (refCb (fin V main_arg1) 2) (refRow (refIdx (refD (fin V main_arg0) (fin V main_arg1) 2))) :=
  e2 227 ((fin_cb2 V)) ((fin_row2 V)) rfl

theorem fin_take2_v14 : fin V main_call5_v14 = broadcastInDim S16384x32 ![0] bcast_S16384_S16384x32_0 (refMask (refIdx (refD (fin V main_arg0) (fin V main_arg1) 2))) :=
  e1 228 ((fin_take2_v12 V)) rfl

theorem fin_take2_cst : fin V main_call5_cst = cnan :=
  e0 V 229 rfl

theorem fin_take2_v15 : fin V main_call5_v15 = broadcastInDim S16384x32 ![] bcast_S_S16384x32 cnan :=
  e1 230 ((fin_take2_cst V)) rfl

theorem fin_q2 : fin V main_v124 = refQ (fin V main_arg0) (fin V main_arg1) 2 :=
  e3 231 ((fin_take2_v14 V)) ((fin_take2_v13 V)) ((fin_take2_v15 V)) rfl

theorem fin_loss2 : fin V main_v137 = refLoss (refX (fin V main_arg0) (fin V main_arg1) 2) (refQ (fin V main_arg0) (fin V main_arg1) 2) := by
  have h := e2 249 (e2 238 (e2 235 (e2 233 (e2 232 ((fin_x2 V)) ((fin_q2 V)) rfl) (e2 232 ((fin_x2 V)) ((fin_q2 V)) rfl) rfl) (e0 V 234 rfl) rfl) (e1 237 (e0 V 236 rfl) rfl) rfl) (e2 248 (e1 247 (e0 V 246 rfl) rfl) (e2 245 (e2 242 (e2 240 (e2 239 ((fin_x2 V)) ((fin_q2 V)) rfl) (e2 239 ((fin_x2 V)) ((fin_q2 V)) rfl) rfl) (e0 V 241 rfl) rfl) (e1 244 (e0 V 243 rfl) rfl) rfl) rfl) rfl
  unfold refLoss refMean; exact h

theorem fin_x3 : fin V main_v140 = refX (fin V main_arg0) (fin V main_arg1) 3 := by
  have h := e2 252 ((fin_x2 V)) (e2 251 ((fin_x2 V)) (e2 250 ((fin_q2 V)) ((fin_x2 V)) rfl) rfl) rfl
  exact h

theorem fin_acc3 : fin V main_v141 = refAcc (fin V main_arg0) (fin V main_arg1) 3 := by
  have s := refAcc_succ (fin V main_arg0) (fin V main_arg1) 2
  have h := e2 253 ((fin_acc2 V)) (e2 251 ((fin_x2 V)) (e2 250 ((fin_q2 V)) ((fin_x2 V)) rfl) rfl) rfl
  exact h.trans s.symm

theorem fin_cb3 : fin V main_v143 = refCb (fin V main_arg1) 3 := by
  have h := eR 255 (e1 254 ((rfl : fin V main_arg1 = _)) rfl) rfl
  exact h

theorem fin_dist3 : fin V main_v157 = refD (fin V main_arg0) (fin V main_arg1) 3 := by
  have h := e2 272 (e2 266 (e1 265 (e1 259 (e2 258 (e2 256 ((fin_x3 V)) ((fin_x3 V)) rfl) (e0 V 257 rfl) rfl) rfl) rfl) (e2 264 (e2 262 (e1 261 (e0 V 260 rfl) rfl) ((fin_x3 V)) rfl) (e1 263 ((fin_cb3 V)) rfl) rfl) rfl) (e1 271 (e1 270 (e2 269 (e2 267 ((fin_cb3 V)) ((fin_cb3 V)) rfl) (e0 V 268 rfl) rfl) rfl) rfl) rfl
  exact h

theorem fin_idx3 : fin V main_v158 = refIdx (refD (fin V main_arg0) (fin V main_arg1) 3) := by
  have h := e4 277 ((fin_dist3 V)) (e0 V 273 rfl) (e0 V 274 rfl) (e0 V 275 rfl) rfl
  exact h

theorem fin_soft3 : fin V main_v170 = refSoft (refD (fin V main_arg0) (fin V main_arg1) 3) := by
  have h := e2 292 (e1 287 (e2 286 (e1 278 ((fin_dist3 V)) rfl) (e1 285 (e1 284 (e2 283 (e1 282 (e0 V 281 rfl) rfl) (e2 280 (e1 278 ((fin_dist3 V)) rfl) (e0 V 279 rfl) rfl) rfl) rfl) rfl) rfl) rfl) (e1 291 (e1 290 (e2 289 (e1 287 (e2 286 (e1 278 ((fin_dist3 V)) rfl) (e1 285 (e1 284 (e2 283 (e1 282 (e0 V 281 rfl) rfl) (e2 280 (e1 278 ((fin_dist3 V)) rfl) (e0 V 279 rfl) rfl) rfl) rfl) rfl) rfl) rfl) (e0 V 288 rfl) rfl) rfl) rfl) rfl
  exact h

theorem fin_take3_c : fin V main_call7_c = constantI S_ 32 0#32 :=
  e0 V 293 rfl

theorem fin_take3_v0 : fin V main_call7_v0 = broadcastInDim S16384 ![] bcast_S_S16384 (constantI S_ 32 0#32) :=
  e1 294 ((fin_take3_c V)) rfl

theorem fin_take3_v1 : fin V main_call7_v1 = cmpi .slt (refIdx (refD (fin V main_arg0) (fin V main_arg1) 3)) (broadcastInDim S16384 ![] bcast_S_S16384 (constantI S_ 32 0#32)) :=
  e2 295 ((fin_idx3 V)) ((fin_take3_v0 V)) rfl

theorem fin_take3_c_0 : fin V main_call7_c_0 = constantI S_ 32 1024#32 :=
  e0 V 296 rfl

theorem fin_take3_v2 : fin V main_call7_v2 = broadcastInDim S16384 ![] bcast_S_S16384 (constantI S_ 32 1024#32) :=
  e1 297 ((fin_take3_c_0 V)) rfl

theorem fin_take3_v3 : fin V main_call7_v3 = addi (refIdx (refD (fin V main_arg0) (fin V main_arg1) 3)) (broadcastInDim S16384 ![] bcast_S_S16384 (constantI S_ 32 1024#32)) :=
  e2 298 ((fin_idx3 V)) ((fin_take3_v2 V)) rfl

theorem fin_take3_v4 : fin V main_call7_v4 = select (cmpi .slt (refIdx (refD (fin V main_arg0) (fin V main_arg1) 3)) (broadcastInDim S16384 ![] bcast_S_S16384 (constantI S_ 32 0#32))) (addi (refIdx (refD (fin V main_arg0) (fin V main_arg1) 3)) (broadcastInDim S16384 ![] bcast_S_S16384 (constantI S_ 32 1024#32))) (refIdx (refD (fin V main_arg0) (fin V main_arg1) 3)) :=
  e3 299 ((fin_take3_v1 V)) ((fin_take3_v3 V)) ((fin_idx3 V)) rfl

theorem fin_take3_v5 : fin V main_call7_v5 = broadcastInDim S16384x1 ![0] bcast_S16384_S16384x1_0 (select (cmpi .slt (refIdx (refD (fin V main_arg0) (fin V main_arg1) 3)) (broadcastInDim S16384 ![] bcast_S_S16384 (constantI S_ 32 0#32))) (addi (refIdx (refD (fin V main_arg0) (fin V main_arg1) 3)) (broadcastInDim S16384 ![] bcast_S_S16384 (constantI S_ 32 1024#32))) (refIdx (refD (fin V main_arg0) (fin V main_arg1) 3))) :=
  e1 300 ((fin_take3_v4 V)) rfl

theorem fin_row3 : fin V main_call7_v5 = refRow (refIdx (refD (fin V main_arg0) (fin V main_arg1) 3)) := by unfold refRow; exact fin_take3_v5 V

theorem fin_take3_c_1 : fin V main_call7_c_1 = constantI S1 32 1023#32 :=
  e0 V 301 rfl

theorem fin_take3_c_2 : fin V main_call7_c_2 = constantI S_ 32 0#32 :=
  e0 V 302 rfl

theorem fin_take3_v6 : fin V main_call7_v6 = broadcastInDim S16384x1 ![] bcast_S_S16384x1 (constantI S_ 32 0#32) :=
  e1 303 ((fin_take3_c_2 V)) rfl

theorem fin_take3_v7 : fin V main_call7_v7 = cmpi .sge (refRow (refIdx (refD (fin V main_arg0) (fin V main_arg1) 3))) (broadcastInDim S16384x1 ![] bcast_S_S16384x1 (constantI S_ 32 0#32)) :=
  e2 304 ((fin_row3 V)) ((fin_take3_v6 V)) rfl

theorem fin_take3_v8 : fin V main_call7_v8 = broadcastInDim S1x1 ![1] bcast_S1_S1x1_1 (constantI S1 32 1023#32) :=
  e1 305 ((fin_take3_c_1 V)) rfl

theorem fin_take3_v9 : fin V main_call7_v9 = broadcastInDim S16384x1 ![0, 1] bcast_S1x1_S16384x1_0_1 (broadcastInDim S1x1 ![1] bcast_S1_S1x1_1 (constantI S1 32 1023#32)) :=
  e1 306 ((fin_take3_v8 V)) rfl

theorem fin_take3_v10 : fin V main_call7_v10 = cmpi .sle (refRow (refIdx (refD (fin V main_arg0) (fin V main_arg1) 3))) (broadcastInDim S16384x1 ![0, 1] bcast_S1x1_S16384x1_0_1 (broadcastInDim S1x1 ![1] bcast_S1_S1x1_1 (constantI S1 32 1023#32))) :=
  e2 307 ((fin_row3 V)) ((fin_take3_v9 V)) rfl

theorem fin_take3_v11 : fin V main_call7_v11 = andi (cmpi .sge (refRow (refIdx (refD (fin V main_arg0) (fin V main_arg1) 3))) (broadcastInDim S16384x1 ![] bcast_S_S16384x1 (constantI S_ 32 0#32))) (cmpi .sle (refRow (refIdx (refD (fin V main_arg0) (fin V main_arg1) 3))) (broadcastInDim S16384x1 ![0, 1] bcast_S1x1_S16384x1_0_1 (broadcastInDim S1x1 ![1] bcast_S1_S1x1_1 (constantI S1 32 1023#32)))) :=
  e2 308 ((fin_take3_v7 V)) ((fin_take3_v10 V)) rfl

theorem fin_take3_c_3 : fin V main_call7_c_3 = constantI S_ 1 1#1 :=
  e0 V 309 rfl

theorem fin_take3_v12 : fin V main_call7_v12 = refMask (refIdx (refD (fin V main_arg0) (fin V main_arg1) 3)) :=
  e2 310 ((fin_take3_v11 V)) ((fin_take3_c_3 V)) rfl

theorem fin_take3_v13 : fin V main_call7_v13 = Host.gather gather_S1024x32_S16384x1_S16384x32_1_0_n_n_0_1_132 (refCb (fin V main_arg1) 3) (refRow (refIdx (refD (fin V main_arg0) (fin V main_arg1) 3))) :=
  e2 311 ((fin_cb3 V)) ((fin_row3 V)) rfl

theorem fin_take3_v14 : fin V main_call7_v14 = broadcastInDim S16384x32 ![0] bcast_S16384_S16384x32_0 (refMask (refIdx (refD (fin V main_arg0) (fin V main_arg1) 3))) :=
  e1 312 ((fin_take3_v12 V)) rfl

theorem fin_take3_cst : fin V main_call7_cst = cnan :=
  e0 V 313 rfl

theorem fin_take3_v15 : fin V main_call7_v15 = broadcastInDim S16384x32 ![] bcast_S_S16384x32 cnan :=
  e1 314 ((fin_take3_cst V)) rfl

theorem fin_q3 : fin V main_v171 = refQ (fin V main_arg0) (fin V main_arg1) 3 :=
  e3 315 ((fin_take3_v14 V)) ((fin_take3_v13 V)) ((fin_take3_v15 V)) rfl

theorem fin_loss3 : fin V main_v184 = refLoss (refX (fin V main_arg0) (fin V main_arg1) 3) (refQ (fin V main_arg0) (fin V main_arg1) 3) := by
  have h := e2 333 (e2 322 (e2 319 (e2 317 (e2 316 ((fin_x3 V)) ((fin_q3 V)) rfl) (e2 316 ((fin_x3 V)) ((fin_q3 V)) rfl) rfl) (e0 V 318 rfl) rfl) (e1 321 (e0 V 320 rfl) rfl) rfl) (e2 332 (e1 331 (e0 V 330 rfl) rfl) (e2 329 (e2 326 (e2 324 (e2 323 ((fin_x3 V)) ((fin_q3 V)) rfl) (e2 323 ((fin_x3 V)) ((fin_q3 V)) rfl) rfl) (e0 V 325 rfl) rfl) (e1 328 (e0 V 327 rfl) rfl) rfl) rfl) rfl
  unfold refLoss refMean; exact h

theorem fin_acc4 : fin V main_v188 = refAcc (fin V main_arg0) (fin V main_arg1) 4 := by
  have s := refAcc_succ (fin V main_arg0) (fin V main_arg1) 3
  have h := e2 337 ((fin_acc3 V)) (e2 335 ((fin_x3 V)) (e2 334 ((fin_q3 V)) ((fin_x3 V)) rfl) rfl) rfl
  exact h.trans s.symm

theorem fin_outIdx : fin V main_v193 = refOutIdx (fin V main_arg0) (fin V main_arg1) := by
  have h := eN 342 (e1 338 ((fin_idx0 V)) rfl) (e1 339 ((fin_idx1 V)) rfl) (e1 340 ((fin_idx2 V)) rfl) (e1 341 ((fin_idx3 V)) rfl) rfl
  exact h

theorem fin_outSoft : fin V main_v198 = refOutSoft (fin V main_arg0) (fin V main_arg1) := by
  have h := eN 347 (e1 343 ((fin_soft0 V)) rfl) (e1 344 ((fin_soft1 V)) rfl) (e1 345 ((fin_soft2 V)) rfl) (e1 346 ((fin_soft3 V)) rfl) rfl
  exact h

theorem fin_outLoss : fin V main_v203 = refOutLoss (fin V main_arg0) (fin V main_arg1) := by
  have h := eN 352 (e1 348 ((fin_loss0 V)) rfl) (e1 349 ((fin_loss1 V)) rfl) (e1 350 ((fin_loss2 V)) rfl) (e1 351 ((fin_loss3 V)) rfl) rfl
  exact h

end Cert.RefRun

end
-- ==== Proof.Equal.lean ====
module

public import proofs.«01_k».proof.Defs
public import proofs.«01_k».proof.Proof.KRun
public import proofs.«01_k».proof.Proof.Finite
public import proofs.«01_k».proof.Proof.RefFrame
public import proofs.«01_k».proof.Proof.RefLayer
@[expose] public section

/-! Over the real numbers the kernel and the reference give the same four results. -/

noncomputable section
namespace Cert.Equal
open Idealize.ShloMosaic Idealize.ShloMosaic.TcCoe Idealize.SL.Sem
open Idealize.ShloMosaic.StableHlo
open Cert.ReferenceIdeal Cert.RefRun Cert.KBlk Cert.KArr Cert.KRun Cert.RowMath

section Ref
variable (r : Vec Ideal S16384x32 .f32) (w : Vec Ideal S4x1024x32 .f32) (X : Fin 16384 → Row) (C : Fin 4 → Book)
  (hX : ∀ i j, r (ix2 i j) = (X i j : EReal)) (hC : ∀ l k j, w (ix3 l k j) = (C l k j : EReal))
include hX hC

/-- A row of the arguments, read as real numbers. -/
theorem reads (i : Fin 16384) : RefRow.Reads r w i (X i) (seq C) where
  row := hX i
  book := fun l hl k j => by
    have e : seq C l = C ⟨l, hl⟩ := congrArg C (Fin.ext (min_eq_left (by omega)))
    rw [e]
    exact (RefRow.refCb_at w ⟨l, hl⟩ k j).trans (hC _ k j)

/-- The reference's indices. -/
theorem idx_eq : refOutIdx r w = gIdx X C := by
  have key : ∀ (i : Fin 16384) (l : Fin 4), refOutIdx r w (ix2 i l) = gIdx X C (ix2 i l) := fun i l =>
    RefRow.refOutIdx_row (reads r w X C hX hC i) l
  funext y
  have hy : y = (ix2 (y 0) (y 1) : S16384x4.Idx) := by
    funext a
    fin_cases a <;> rfl
  rw [hy]
  exact key (y 0) (y 1)

/-- The reference's soft assignments. -/
theorem soft_eq : refOutSoft r w = gAll X C := by
  have key : ∀ (i : Fin 16384) (k : Fin 1024) (l : Fin 4), refOutSoft r w (ix3 i k l) = gAll X C (ix3 i k l) := fun i k l =>
    RefRow.refOutSoft_row (reads r w X C hX hC i) k l
  funext y
  have hy : y = (ix3 (y 0) (y 1) (y 2) : S16384x1024x4.Idx) := by
    funext a
    fin_cases a <;> rfl
  rw [hy]
  exact key (y 0) (y 1) (y 2)

/-- The reference's quantised rows. -/
theorem acc_eq : refAcc r w 4 = gAcc X C := by
  have key : ∀ (i : Fin 16384) (j : Fin 32), refAcc r w 4 (ix2 i j) = gAcc X C (ix2 i j) := fun i j =>
    RefRow.refAcc_row (reads r w X C hX hC i) 4 (le_refl 4) j
  funext y
  have hy : y = (ix2 (y 0) (y 1) : S16384x32.Idx) := by
    funext a
    fin_cases a <;> rfl
  rw [hy]
  exact key (y 0) (y 1)

/-- The reference's losses. -/
theorem loss_eq : refOutLoss r w = gLoss X C := by
  have key : ∀ (i : Fin 16384) (l : Fin 4), refOutLoss r w (ix2 i l) = gLoss X C (ix2 i l) := fun i l =>
    RefRow.refOutLoss_row (reads r w X C hX hC i) l
  funext y
  have hy : y = (ix2 (y 0) (y 1) : S16384x4.Idx) := by
    funext a
    fin_cases a <;> rfl
  rw [hy]
  exact key (y 0) (y 1)

end Ref

/-- The reference runs, and ends with its four results at the same values and its arguments unchanged. -/
theorem refRun (m : (ℓ : Loc nD τ sig) → Buf (Elt Ideal) ℓ) (g : Dev nD → PrngReg) (X : Dev nD → Fin 16384 → Row) (C : Dev nD → Fin 4 → Book)
    (hX : ∀ c i j, (m ((c : Thread nD τ).loc main_arg0) : Vec Ideal S16384x32 .f32) (ix2 i j) = (X c i j : EReal))
    (hC : ∀ c l k j, (m ((c : Thread nD τ).loc main_arg1) : Vec Ideal S4x1024x32 .f32) (ix3 l k j) = (C c l k j : EReal)) :
    θ_run (defs (F := Ideal)) (onTc (τ := τ) (main (F := Ideal))) ⟨m, fun _ => 0, g⟩ (fun r => ∀ c : Dev nD,
      r.2.mem ((c.tc : Thread nD τ).loc main_v193) = gIdx (X c) (C c)
      ∧ r.2.mem ((c.tc : Thread nD τ).loc main_v198) = gAll (X c) (C c)
      ∧ r.2.mem ((c.tc : Thread nD τ).loc main_v188) = gAcc (X c) (C c)
      ∧ r.2.mem ((c.tc : Thread nD τ).loc main_v203) = gLoss (X c) (C c)
      ∧ r.2.mem ((c.tc : Thread nD τ).loc main_arg0) = m ((c.tc : Thread nD τ).loc main_arg0)
      ∧ r.2.mem ((c.tc : Thread nD τ).loc main_arg1) = m ((c.tc : Thread nD τ).loc main_arg1)) :=
  (θ_run defs _ _).mono (fun _ h c => by
    have a0 : fin (launchContents m c) main_arg0 = m ((c.tc : Thread nD τ).loc main_arg0) := fin_arg _ (by decide)
    have a1 : fin (launchContents m c) main_arg1 = m ((c.tc : Thread nD τ).loc main_arg1) := fin_arg _ (by decide)
    refine ⟨(h c main_v193).trans ((fin_outIdx _).trans ?_), (h c main_v198).trans ((fin_outSoft _).trans ?_),
      (h c main_v188).trans ((fin_acc4 _).trans ?_), (h c main_v203).trans ((fin_outLoss _).trans ?_),
      (h c main_arg0).trans a0, (h c main_arg1).trans a1⟩
    · rw [a0, a1]; exact idx_eq _ _ _ _ (hX c) (hC c)
    · rw [a0, a1]; exact soft_eq _ _ _ _ (hX c) (hC c)
    · rw [a0, a1]; exact acc_eq _ _ _ _ (hX c) (hC c)
    · rw [a0, a1]; exact loss_eq _ _ _ _ (hX c) (hC c)) (run m g)

/-- From finite arguments the kernel and the reference end with equal results. -/
theorem algebraic : Cert.algebraic_KernelIdeal_ReferenceIdeal_pre_finite := by
  intro m g m' g' hpre hargs
  have hr := fun c => Finite.real_of_fn _ _ (hpre c)
  let X : Dev Cert.KernelIdeal.nD → Fin 16384 → Row := fun c i j =>
    EReal.toReal ((m ((c.tc : Thread Cert.KernelIdeal.nD Cert.KernelIdeal.τ).loc Cert.KernelIdeal.main_arg0) : Vec Ideal S16384x32 .f32) (ix2 i j))
  let C : Dev Cert.KernelIdeal.nD → Fin 4 → Book := fun c l k j =>
    EReal.toReal ((m ((c.tc : Thread Cert.KernelIdeal.nD Cert.KernelIdeal.τ).loc Cert.KernelIdeal.main_arg1) : Vec Ideal S4x1024x32 .f32) (ix3 l k j))
  refine ⟨fun c => gIdx (X c) (C c), fun c => gAll (X c) (C c), fun c => gAcc (X c) (C c), fun c => gLoss (X c) (C c),
    KRun.run m g X C (fun c i j => (hr c).1 (ix2 i j)) (fun c l k j => (hr c).2 (ix3 l k j)),
    refRun m' g' X C (fun c i j => ?_) (fun c l k j => ?_)⟩
  · exact (congrFun (hargs c).1 (ix2 i j)).trans ((hr c).1 (ix2 i j))
  · exact (congrFun (hargs c).2 (ix3 l k j)).trans ((hr c).2 (ix3 l k j))

end Cert.Equal
end
-- ==== Proof.lean ====
/-
The assembly: each program's run to the end with its arguments unchanged and its counters back at zero, and the
equality of the kernel's and the reference's four results over the extended reals.
-/
module

public import proofs.«01_k».proof.Defs
public import proofs.«01_k».proof.Proof.Gen.Kernel.Frame
public import proofs.«01_k».proof.Proof.Gen.KernelIdeal.Frame
public import proofs.«01_k».proof.Proof.RefFrame
public import proofs.«01_k».proof.Proof.Equal

@[expose] public section

noncomputable section

namespace Cert.Proof

open Idealize.ShloMosaic Idealize.SL.Sem

theorem claim : Cert.Claim :=
  ⟨Cert.Kernel.Gen.facts, Cert.KernelIdeal.Gen.facts, Cert.ReferenceIdeal.Gen.facts, Cert.Finite.facts,
    fun m g _ => Cert.Kernel.Gen.frame m g,
    fun m g _ => Cert.KernelIdeal.Gen.frame m g,
    fun m g _ => Cert.KernelIdeal.Gen.frame m g,
    fun m g _ => Cert.RefRun.quiescent m g,
    fun m g _ => Cert.RefRun.quiescent m g,
    trivial,
    Cert.Equal.algebraic⟩

end Cert.Proof

end
